-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_v54) = v3 c
          ∧ r.2.mem ((c.tc : Thread Cert.ReferenceIdeal.nD Cert.ReferenceIdeal.τ).loc Cert.ReferenceIdeal.main_v59) = v4 c
          ∧ r.2.mem ((c.tc : Thread Cert.ReferenceIdeal.nD Cert.ReferenceIdeal.τ).loc Cert.ReferenceIdeal.main_v72) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_v31) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)) (v4 : (c : Dev Cert.Kernel4Ideal.nD) → Buf (Elt Ideal) ((c.tc : Thread Cert.Kernel4Ideal.nD Cert.Kernel4Ideal.τ).loc Cert.Kernel4Ideal.main_v0_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_v0_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_v14) = v1 c
          ∧ r.2.mem ((c.tc : Thread Cert.Reference4Ideal.nD Cert.Reference4Ideal.τ).loc Cert.Reference4Ideal.main_v15) = v2 c
          ∧ r.2.mem ((c.tc : Thread Cert.Reference4Ideal.nD Cert.Reference4Ideal.τ).loc Cert.Reference4Ideal.main_v16) = v3 c
          ∧ r.2.mem ((c.tc : Thread Cert.Reference4Ideal.nD Cert.Reference4Ideal.τ).loc Cert.Reference4Ideal.main_v17) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S4096x1536 : Shape := ⟨2, ![4096, 1536]⟩
abbrev S4096x512 : Shape := ⟨2, ![4096, 512]⟩
abbrev S4x8x8x512 : Shape := ⟨4, ![4, 8, 8, 512]⟩
abbrev S4096x128 : Shape := ⟨2, ![4096, 128]⟩
abbrev S_ : Shape := ⟨0, ![]⟩

class Facts : Prop where
  bcast_S_S4x8x8x512 : S_.BroadcastsInDim S4x8x8x512 (![] : Fin 0 → Fin S4x8x8x512.rank)
  reducesTo_S4x8x8x512_S_d0_1_2_3 : S4x8x8x512.ReducesTo [0, 1, 2, 3] S_
  h_S_ : 0 < S_.numel
  bcast_S_S4096x128 : S_.BroadcastsInDim S4096x128 (![] : Fin 0 → Fin S4096x128.rank)
  reducesTo_S4096x128_S_d0_1 : S4096x128.ReducesTo [0, 1] S_

variable [Facts]

def fn {F : FTy → Type} [FloatOps F] (main_arg0 : FVec F S4096x1536 .bf16) (main_arg1 : FVec F S4096x512 .bf16) (main_arg2 : FVec F S4096x512 .f32) (main_arg3 : FVec F S4x8x8x512 .f32) (main_arg4 : FVec F S4096x128 .f32) : IVec S_ 1 :=
  let main_v0 : FVec F S4x8x8x512 .f32 := Host.absf main_arg3
  let main_cst : FVec F S_ .f32 := constant S_ .f32 0x7F800000#32
  let main_v1 : FVec F S4x8x8x512 .f32 := broadcastInDim S4x8x8x512 ![] bcast_S_S4x8x8x512 main_cst
  let main_v2 : IVec S4x8x8x512 1 := cmpf .olt main_v0 main_v1
  let main_c : IVec S_ 1 := constantI S_ 1 1#1
  let main_v3 : IVec S_ 1 := (fun x v => Host.reduce IntOp.andi x v reducesTo_S4x8x8x512_S_d0_1_2_3 h_S_) main_v2 main_c
  let main_v4 : FVec F S4096x128 .f32 := Host.absf main_arg4
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  main_v8
-- ==== Kernel.lean ====
abbrev S4096x1536 : Shape := ⟨2, ![4096, 1536]⟩
abbrev S4096x512 : Shape := ⟨2, ![4096, 512]⟩
abbrev S4x8x8x512 : Shape := ⟨4, ![4, 8, 8, 512]⟩
abbrev S4096x128 : Shape := ⟨2, ![4096, 128]⟩
abbrev S4x1x384 : Shape := ⟨3, ![4, 1, 384]⟩
abbrev S4x4096x128 : Shape := ⟨3, ![4, 4096, 128]⟩
abbrev S1x8x8x512 : Shape := ⟨4, ![1, 8, 8, 512]⟩
abbrev S512x128 : Shape := ⟨2, ![512, 128]⟩
abbrev S1x1x384 : Shape := ⟨3, ![1, 1, 384]⟩
abbrev S1x512x128 : Shape := ⟨3, ![1, 512, 128]⟩
abbrev S8x8x512 : Shape := ⟨3, ![8, 8, 512]⟩
abbrev S8x128x512 : Shape := ⟨3, ![8, 128, 512]⟩
abbrev S2x4096x128 : Shape := ⟨3, ![2, 4096, 128]⟩
abbrev S1x128 : Shape := ⟨2, ![1, 128]⟩
abbrev S128x1 : Shape := ⟨2, ![128, 1]⟩
abbrev S1x384 : Shape := ⟨2, ![1, 384]⟩
abbrev S512 : Shape := ⟨1, ![512]⟩
abbrev S512x1 : Shape := ⟨2, ![512, 1]⟩
abbrev S128x512 : Shape := ⟨2, ![128, 512]⟩
abbrev S1x512 : Shape := ⟨2, ![1, 512]⟩
abbrev S1x1x512 : Shape := ⟨3, ![1, 1, 512]⟩
abbrev S1x1x8x512 : Shape := ⟨4, ![1, 1, 8, 512]⟩
abbrev S8x512 : Shape := ⟨2, ![8, 512]⟩
abbrev S1x8x512 : Shape := ⟨3, ![1, 8, 512]⟩
abbrev S256x128 : Shape := ⟨2, ![256, 128]⟩
abbrev S256x512 : Shape := ⟨2, ![256, 512]⟩
abbrev S128x256 : Shape := ⟨2, ![128, 256]⟩
abbrev S256 : Shape := ⟨1, ![256]⟩
abbrev S256x1 : Shape := ⟨2, ![256, 1]⟩
abbrev S1x1x1x512 : Shape := ⟨4, ![1, 1, 1, 512]⟩
abbrev S1x128x512 : Shape := ⟨3, ![1, 128, 512]⟩
abbrev S1x256x128 : Shape := ⟨3, ![1, 256, 128]⟩
abbrev S256x256 : Shape := ⟨2, ![256, 256]⟩
abbrev S1x256 : Shape := ⟨2, ![1, 256]⟩
abbrev S1x1x1x256 : Shape := ⟨4, ![1, 1, 1, 256]⟩
abbrev S1x128x256 : Shape := ⟨3, ![1, 128, 256]⟩
abbrev S512x512 : Shape := ⟨2, ![512, 512]⟩
abbrev S1x1x128 : Shape := ⟨3, ![1, 1, 128]⟩
abbrev S128 : Shape := ⟨1, ![128]⟩

abbrev nBuf : Space → Nat
  | .hbm => 11
  | .vmem => 29
  | .smem => 0
  | _ => 0

abbrev bufTy : (tb : Table) → Fin (tcTables nBuf tb) → BufTy
  | .hbm, ⟨0, _⟩ => ⟨S4096x1536, .bf16⟩
  | .hbm, ⟨1, _⟩ => ⟨S4096x512, .bf16⟩
  | .hbm, ⟨2, _⟩ => ⟨S4096x512, .f32⟩
  | .hbm, ⟨3, _⟩ => ⟨S4x8x8x512, .f32⟩
  | .hbm, ⟨4, _⟩ => ⟨S4096x128, .f32⟩
  | .hbm, ⟨5, _⟩ => ⟨S4096x512, .bf16⟩
  | .hbm, ⟨6, _⟩ => ⟨S4096x512, .bf16⟩
  | .hbm, ⟨7, _⟩ => ⟨S4096x512, .bf16⟩
  | .hbm, ⟨8, _⟩ => ⟨S4x1x384, .f32⟩
  | .hbm, ⟨9, _⟩ => ⟨S4x4096x128, .f32⟩
  | .hbm, ⟨10, _⟩ => ⟨S4x8x8x512, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .f32⟩
  | .local _ .vmem, ⟨5, _⟩ => ⟨S4096x128, .f32⟩
  | .local _ .vmem, ⟨6, _⟩ => ⟨S1x8x8x512, .f32⟩
  | .local _ .vmem, ⟨7, _⟩ => ⟨S1x8x8x512, .f32⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S512x128, .f32⟩
  | .local _ .vmem, ⟨13, _⟩ => ⟨S512x128, .f32⟩
  | .local _ .vmem, ⟨14, _⟩ => ⟨S4096x128, .bf16⟩
  | .local _ .vmem, ⟨15, _⟩ => ⟨S4096x128, .bf16⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S1x1x384, .f32⟩
  | .local _ .vmem, ⟨21, _⟩ => ⟨S1x1x384, .f32⟩
  | .local _ .vmem, ⟨22, _⟩ => ⟨S1x512x128, .f32⟩
  | .local _ .vmem, ⟨23, _⟩ => ⟨S1x512x128, .f32⟩
  | .local _ .vmem, ⟨24, _⟩ => ⟨S1x8x8x512, .f32⟩
  | .local _ .vmem, ⟨25, _⟩ => ⟨S1x8x8x512, .f32⟩
  | .local _ .vmem, ⟨26, _⟩ => ⟨S8x8x512, .f32⟩
  | .local _ .vmem, ⟨27, _⟩ => ⟨S8x128x512, .f32⟩
  | .local _ .vmem, ⟨28, _⟩ => ⟨S2x4096x128, .bf16⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v10 : BitVec 1 := Scalar.cmpi .eq arg1 c0_i32
  let v11 : BitVec 32 := Scalar.extui v10
  let c0_i32_4 : BitVec 32 := 0#32
  let v12 : BitVec 1 := Scalar.cmpi .ne v11 c0_i32_4
  v12

@[reducible] def k0_t1_loop : Scf.Loop 32 :=
  let c0_i32_175 : BitVec 32 := 0#32
  let c8_i32_176 : BitVec 32 := 8#32
  let v451 : BitVec 32 := Scalar.addi c0_i32_175 c8_i32_176
  let c1_i32_177 : BitVec 32 := 1#32
  ⟨c0_i32_175, v451, c1_i32_177⟩
def k0_mult1 (k0_t1 : Fin k0_t1_loop.trips) : BitVec 32 :=
  let c0_i32_175 : BitVec 32 := 0#32
  let c1_i32_177 : BitVec 32 := 1#32
  let arg18 : BitVec 32 := Scf.iv c0_i32_175 c1_i32_177 k0_t1
  let c512_i32_179 : BitVec 32 := 512#32
  let v452 : BitVec 32 := Scalar.muli arg18 c512_i32_179
  v452
def k0_off1 (k0_t1 : Fin k0_t1_loop.trips) : Fin 2 → Nat :=
  let c0_i32_175 : BitVec 32 := 0#32
  let c1_i32_177 : BitVec 32 := 1#32
  let arg18 : BitVec 32 := Scf.iv c0_i32_175 c1_i32_177 k0_t1
  let c512_i32_179 : BitVec 32 := 512#32
  let v452 : BitVec 32 := Scalar.muli arg18 c512_i32_179
  let v453 : BitVec 32 := v452
  let v454 : Index := Scalar.indexCast v453
  let c0_180 : Index := 0#32
  ![v454.toNat, 0]
def k0_off2 (k0_t1 : Fin k0_t1_loop.trips) : Fin 3 → Nat :=
  let c0_i32_175 : BitVec 32 := 0#32
  let c1_i32_177 : BitVec 32 := 1#32
  let arg18 : BitVec 32 := Scf.iv c0_i32_175 c1_i32_177 k0_t1
  let v483 : Index := Scalar.indexCast arg18
  let c0_187 : Index := 0#32
  let c0_188 : Index := 0#32
  ![v483.toNat, 0, 0]
def k0_off3 (k0_t1 : Fin k0_t1_loop.trips) : Fin 3 → Nat :=
  let c0_i32_175 : BitVec 32 := 0#32
  let c1_i32_177 : BitVec 32 := 1#32
  let arg18 : BitVec 32 := Scf.iv c0_i32_175 c1_i32_177 k0_t1
  let v488 : Index := Scalar.indexCast arg18
  let c1_189 : Index := 1#32
  let c0_190 : Index := 0#32
  ![v488.toNat, 1, 0]
def k0_off4 (k0_t1 : Fin k0_t1_loop.trips) : Fin 4 → Nat :=
  let c0_191 : Index := 0#32
  let c0_i32_175 : BitVec 32 := 0#32
  let c1_i32_177 : BitVec 32 := 1#32
  let arg18 : BitVec 32 := Scf.iv c0_i32_175 c1_i32_177 k0_t1
  let v492 : Index := Scalar.indexCast arg18
  let c0_192 : Index := 0#32
  let c0_193 : Index := 0#32
  ![0, v492.toNat, 0, 0]
def k0_off5 (k0_t1 : Fin k0_t1_loop.trips) : Fin 3 → Nat :=
  let c0_198 : Index := 0#32
  let c0_i32_175 : BitVec 32 := 0#32
  let c1_i32_177 : BitVec 32 := 1#32
  let arg18 : BitVec 32 := Scf.iv c0_i32_175 c1_i32_177 k0_t1
  let c512_i32_179 : BitVec 32 := 512#32
  let v452 : BitVec 32 := Scalar.muli arg18 c512_i32_179
  let v453 : BitVec 32 := v452
  let v549 : Index := Scalar.indexCast v453
  let c0_199 : Index := 0#32
  ![0, v549.toNat, 0]
def k0_off6 (k0_t1 : Fin k0_t1_loop.trips) : Fin 3 → Nat :=
  let c1_204 : Index := 1#32
  let c0_i32_175 : BitVec 32 := 0#32
  let c1_i32_177 : BitVec 32 := 1#32
  let arg18 : BitVec 32 := Scf.iv c0_i32_175 c1_i32_177 k0_t1
  let c512_i32_179 : BitVec 32 := 512#32
  let v452 : BitVec 32 := Scalar.muli arg18 c512_i32_179
  let v453 : BitVec 32 := v452
  let v597 : Index := Scalar.indexCast v453
  let c0_205 : Index := 0#32
  ![1, v597.toNat, 0]
def k0_mult2 (i : grid0.Coords) : BitVec 32 :=
  let arg1 : BitVec 32 := BitVec.ofNat 32 (i 1).val
  let c512_i32 : BitVec 32 := 512#32
  let v142 : BitVec 32 := Scalar.muli arg1 c512_i32
  let c0_i32_30 : BitVec 32 := 0#32
  let v143 : BitVec 32 := Scalar.addi v142 c0_i32_30
  v143
def k0_off7 (i : grid0.Coords) : Fin 2 → Nat :=
  let arg1 : BitVec 32 := BitVec.ofNat 32 (i 1).val
  let c512_i32 : BitVec 32 := 512#32
  let v142 : BitVec 32 := Scalar.muli arg1 c512_i32
  let c0_i32_30 : BitVec 32 := 0#32
  let v143 : BitVec 32 := Scalar.addi v142 c0_i32_30
  let v144 : BitVec 32 := v143
  let v145 : Index := Scalar.indexCast v144
  let c0_31 : Index := 0#32
  ![v145.toNat, 0]
def k0_off8 (i : grid0.Coords) : Fin 3 → Nat :=
  let arg1 : BitVec 32 := BitVec.ofNat 32 (i 1).val
  let v149 : Index := Scalar.indexCast arg1
  let c0_33 : Index := 0#32
  let c0_34 : Index := 0#32
  ![v149.toNat, 0, 0]
def k0_off9 (i : grid0.Coords) : Fin 3 → Nat :=
  let c0_38 : Index := 0#32
  let arg1 : BitVec 32 := BitVec.ofNat 32 (i 1).val
  let c512_i32 : BitVec 32 := 512#32
  let v142 : BitVec 32 := Scalar.muli arg1 c512_i32
  let c0_i32_30 : BitVec 32 := 0#32
  let v143 : BitVec 32 := Scalar.addi v142 c0_i32_30
  let v144 : BitVec 32 := v143
  let v156 : Index := Scalar.indexCast v144
  let c0_39 : Index := 0#32
  ![0, v156.toNat, 0]
def k0_off10 (i : grid0.Coords) : Fin 4 → Nat :=
  let c0_51 : Index := 0#32
  let arg1 : BitVec 32 := BitVec.ofNat 32 (i 1).val
  let v195 : Index := Scalar.indexCast arg1
  let c0_52 : Index := 0#32
  let c0_53 : Index := 0#32
  ![0, v195.toNat, 0, 0]
def k0_off11 (i : grid0.Coords) : Fin 3 → Nat :=
  let c1 : Index := 1#32
  let arg1 : BitVec 32 := BitVec.ofNat 32 (i 1).val
  let c512_i32 : BitVec 32 := 512#32
  let v142 : BitVec 32 := Scalar.muli arg1 c512_i32
  let c0_i32_30 : BitVec 32 := 0#32
  let v143 : BitVec 32 := Scalar.addi v142 c0_i32_30
  let v144 : BitVec 32 := v143
  let v206 : Index := Scalar.indexCast v144
  let c0_58 : Index := 0#32
  ![1, v206.toNat, 0]
def k0_off12 (i : grid0.Coords) : Fin 4 → Nat :=
  let c0_70 : Index := 0#32
  let arg1 : BitVec 32 := BitVec.ofNat 32 (i 1).val
  let v245 : Index := Scalar.indexCast arg1
  let c1_71 : Index := 1#32
  let c0_72 : Index := 0#32
  ![0, v245.toNat, 1, 0]
def k0_off13 (i : grid0.Coords) : Fin 3 → Nat :=
  let arg1 : BitVec 32 := BitVec.ofNat 32 (i 1).val
  let v255 : Index := Scalar.indexCast arg1
  let c0_77 : Index := 0#32
  let c0_78 : Index := 0#32
  ![v255.toNat, 0, 0]
def k0_mult3 (i : grid0.Coords) : BitVec 32 :=
  let arg1 : BitVec 32 := BitVec.ofNat 32 (i 1).val
  let c512_i32_81 : BitVec 32 := 512#32
  let v263 : BitVec 32 := Scalar.muli arg1 c512_i32_81
  let c256_i32 : BitVec 32 := 256#32
  let v264 : BitVec 32 := Scalar.addi v263 c256_i32
  v264
def k0_off14 (i : grid0.Coords) : Fin 2 → Nat :=
  let arg1 : BitVec 32 := BitVec.ofNat 32 (i 1).val
  let c512_i32_81 : BitVec 32 := 512#32
  let v263 : BitVec 32 := Scalar.muli arg1 c512_i32_81
  let c256_i32 : BitVec 32 := 256#32
  let v264 : BitVec 32 := Scalar.addi v263 c256_i32
  let v265 : BitVec 32 := v264
  let v266 : Index := Scalar.indexCast v265
  let c0_82 : Index := 0#32
  ![v266.toNat, 0]
def k0_off15 (i : grid0.Coords) : Fin 3 → Nat :=
  let c0_89 : Index := 0#32
  let arg1 : BitVec 32 := BitVec.ofNat 32 (i 1).val
  let c512_i32_81 : BitVec 32 := 512#32
  let v263 : BitVec 32 := Scalar.muli arg1 c512_i32_81
  let c256_i32 : BitVec 32 := 256#32
  let v264 : BitVec 32 := Scalar.addi v263 c256_i32
  let v265 : BitVec 32 := v264
  let v277 : Index := Scalar.indexCast v265
  let c0_90 : Index := 0#32
  ![0, v277.toNat, 0]
def k0_off16 (i : grid0.Coords) : Fin 4 → Nat :=
  let c0_102 : Index := 0#32
  let arg1 : BitVec 32 := BitVec.ofNat 32 (i 1).val
  let v316 : Index := Scalar.indexCast arg1
  let c0_103 : Index := 0#32
  let c256 : Index := 256#32
  ![0, v316.toNat, 0, 256]
def k0_off17 (i : grid0.Coords) : Fin 3 → Nat :=
  let c1_108 : Index := 1#32
  let arg1 : BitVec 32 := BitVec.ofNat 32 (i 1).val
  let c512_i32_81 : BitVec 32 := 512#32
  let v263 : BitVec 32 := Scalar.muli arg1 c512_i32_81
  let c256_i32 : BitVec 32 := 256#32
  let v264 : BitVec 32 := Scalar.addi v263 c256_i32
  let v265 : BitVec 32 := v264
  let v327 : Index := Scalar.indexCast v265
  let c0_109 : Index := 0#32
  ![1, v327.toNat, 0]
def k0_off18 (i : grid0.Coords) : Fin 4 → Nat :=
  let c0_121 : Index := 0#32
  let arg1 : BitVec 32 := BitVec.ofNat 32 (i 1).val
  let v366 : Index := Scalar.indexCast arg1
  let c1_122 : Index := 1#32
  let c256_123 : Index := 256#32
  ![0, v366.toNat, 1, 256]
def k0_off19 (i : grid0.Coords) : Fin 3 → Nat :=
  let arg1 : BitVec 32 := BitVec.ofNat 32 (i 1).val
  let v376 : Index := Scalar.indexCast arg1
  let c0_128 : Index := 0#32
  let c256_129 : Index := 256#32
  ![v376.toNat, 0, 256]
@[reducible] def k0_t2_loop (i : grid0.Coords) : Scf.Loop 32 :=
  let arg1 : BitVec 32 := BitVec.ofNat 32 (i 1).val
  let c1_i32_132 : BitVec 32 := 1#32
  let v388 : BitVec 32 := Scalar.addi arg1 c1_i32_132
  let c8_i32 : BitVec 32 := 8#32
  let v389 : BitVec 32 := Scalar.subi c8_i32 v388
  let c1_i32_134 : BitVec 32 := 1#32
  let v391 : BitVec 32 := Scalar.divsi v389 c1_i32_134
  let v392 : BitVec 32 := Scalar.muli v391 c1_i32_134
  let v393 : BitVec 32 := Scalar.addi v388 v392
  let c1_i32_135 : BitVec 32 := 1#32
  ⟨v388, v393, c1_i32_135⟩
def k0_mult4 (i : grid0.Coords) (k0_t2 : Fin (k0_t2_loop i).trips) : BitVec 32 :=
  let arg1 : BitVec 32 := BitVec.ofNat 32 (i 1).val
  let c1_i32_132 : BitVec 32 := 1#32
  let v388 : BitVec 32 := Scalar.addi arg1 c1_i32_132
  let c1_i32_135 : BitVec 32 := 1#32
  let arg18 : BitVec 32 := Scf.iv v388 c1_i32_135 k0_t2
  let c512_i32_162 : BitVec 32 := 512#32
  let v439 : BitVec 32 := Scalar.muli arg18 c512_i32_162
  let c0_i32_163 : BitVec 32 := 0#32
  let v440 : BitVec 32 := Scalar.addi v439 c0_i32_163
  v440
def k0_off20 (i : grid0.Coords) (k0_t2 : Fin (k0_t2_loop i).trips) : Fin 2 → Nat :=
  let arg1 : BitVec 32 := BitVec.ofNat 32 (i 1).val
  let c1_i32_132 : BitVec 32 := 1#32
  let v388 : BitVec 32 := Scalar.addi arg1 c1_i32_132
  let c1_i32_135 : BitVec 32 := 1#32
  let arg18 : BitVec 32 := Scf.iv v388 c1_i32_135 k0_t2
  let c512_i32_162 : BitVec 32 := 512#32
  let v439 : BitVec 32 := Scalar.muli arg18 c512_i32_162
  let c0_i32_163 : BitVec 32 := 0#32
  let v440 : BitVec 32 := Scalar.addi v439 c0_i32_163
  let v441 : BitVec 32 := v440
  let v442 : Index := Scalar.indexCast v441
  let c0_164 : Index := 0#32
  ![v442.toNat, 0]
def k0_off21 (i : grid0.Coords) (k0_t2 : Fin (k0_t2_loop i).trips) : Fin 3 → Nat :=
  let arg1 : BitVec 32 := BitVec.ofNat 32 (i 1).val
  let c1_i32_132 : BitVec 32 := 1#32
  let v388 : BitVec 32 := Scalar.addi arg1 c1_i32_132
  let c1_i32_135 : BitVec 32 := 1#32
  let arg18 : BitVec 32 := Scf.iv v388 c1_i32_135 k0_t2
  let v446 : Index := Scalar.indexCast arg18
  let c0_166 : Index := 0#32
  let c0_167 : Index := 0#32
  ![v446.toNat, 0, 0]
def k0_off22 (i : grid0.Coords) (k0_t2 : Fin (k0_t2_loop i).trips) : Fin 3 → Nat :=
  let c0_171 : Index := 0#32
  let arg1 : BitVec 32 := BitVec.ofNat 32 (i 1).val
  let c1_i32_132 : BitVec 32 := 1#32
  let v388 : BitVec 32 := Scalar.addi arg1 c1_i32_132
  let c1_i32_135 : BitVec 32 := 1#32
  let arg18 : BitVec 32 := Scf.iv v388 c1_i32_135 k0_t2
  let c512_i32_162 : BitVec 32 := 512#32
  let v439 : BitVec 32 := Scalar.muli arg18 c512_i32_162
  let c0_i32_163 : BitVec 32 := 0#32
  let v440 : BitVec 32 := Scalar.addi v439 c0_i32_163
  let v441 : BitVec 32 := v440
  let v452 : Index := Scalar.indexCast v441
  let c0_172 : Index := 0#32
  ![0, v452.toNat, 0]
def k0_off23 (i : grid0.Coords) (k0_t2 : Fin (k0_t2_loop i).trips) : Fin 4 → Nat :=
  let c0_179 : Index := 0#32
  let arg1 : BitVec 32 := BitVec.ofNat 32 (i 1).val
  let c1_i32_132 : BitVec 32 := 1#32
  let v388 : BitVec 32 := Scalar.addi arg1 c1_i32_132
  let c1_i32_135 : BitVec 32 := 1#32
  let arg18 : BitVec 32 := Scf.iv v388 c1_i32_135 k0_t2
  let v480 : Index := Scalar.indexCast arg18
  let c0_180 : Index := 0#32
  let c0_181 : Index := 0#32
  ![0, v480.toNat, 0, 0]
def k0_off24 (i : grid0.Coords) (k0_t2 : Fin (k0_t2_loop i).trips) : Fin 3 → Nat :=
  let c1_186 : Index := 1#32
  let arg1 : BitVec 32 := BitVec.ofNat 32 (i 1).val
  let c1_i32_132 : BitVec 32 := 1#32
  let v388 : BitVec 32 := Scalar.addi arg1 c1_i32_132
  let c1_i32_135 : BitVec 32 := 1#32
  let arg18 : BitVec 32 := Scf.iv v388 c1_i32_135 k0_t2
  let c512_i32_162 : BitVec 32 := 512#32
  let v439 : BitVec 32 := Scalar.muli arg18 c512_i32_162
  let c0_i32_163 : BitVec 32 := 0#32
  let v440 : BitVec 32 := Scalar.addi v439 c0_i32_163
  let v441 : BitVec 32 := v440
  let v490 : Index := Scalar.indexCast v441
  let c0_187 : Index := 0#32
  ![1, v490.toNat, 0]
def k0_off25 (i : grid0.Coords) (k0_t2 : Fin (k0_t2_loop i).trips) : Fin 4 → Nat :=
  let c0_194 : Index := 0#32
  let arg1 : BitVec 32 := BitVec.ofNat 32 (i 1).val
  let c1_i32_132 : BitVec 32 := 1#32
  let v388 : BitVec 32 := Scalar.addi arg1 c1_i32_132
  let c1_i32_135 : BitVec 32 := 1#32
  let arg18 : BitVec 32 := Scf.iv v388 c1_i32_135 k0_t2
  let v518 : Index := Scalar.indexCast arg18
  let c1_195 : Index := 1#32
  let c0_196 : Index := 0#32
  ![0, v518.toNat, 1, 0]
def k0_off26 (i : grid0.Coords) (k0_t2 : Fin (k0_t2_loop i).trips) : Fin 3 → Nat :=
  let arg1 : BitVec 32 := BitVec.ofNat 32 (i 1).val
  let c1_i32_132 : BitVec 32 := 1#32
  let v388 : BitVec 32 := Scalar.addi arg1 c1_i32_132
  let c1_i32_135 : BitVec 32 := 1#32
  let arg18 : BitVec 32 := Scf.iv v388 c1_i32_135 k0_t2
  let v528 : Index := Scalar.indexCast arg18
  let c0_201 : Index := 0#32
  let c0_202 : Index := 0#32
  ![v528.toNat, 0, 0]
@[reducible] def k0_t3_loop (i : grid0.Coords) : Scf.Loop 32 :=
  let arg1 : BitVec 32 := BitVec.ofNat 32 (i 1).val
  let c1_i32_132 : BitVec 32 := 1#32
  let v388 : BitVec 32 := Scalar.addi arg1 c1_i32_132
  let c8_i32 : BitVec 32 := 8#32
  let v389 : BitVec 32 := Scalar.subi c8_i32 v388
  let c1_i32_134 : BitVec 32 := 1#32
  let v391 : BitVec 32 := Scalar.divsi v389 c1_i32_134
  let v392 : BitVec 32 := Scalar.muli v391 c1_i32_134
  let v393 : BitVec 32 := Scalar.addi v388 v392
  let v390 : BitVec 32 := Scalar.addi v388 v389
  let c1_i32_136 : BitVec 32 := 1#32
  ⟨v393, v390, c1_i32_136⟩
def k0_mult5 (i : grid0.Coords) (k0_t3 : Fin (k0_t3_loop i).trips) : BitVec 32 :=
  let arg1 : BitVec 32 := BitVec.ofNat 32 (i 1).val
  let c1_i32_132 : BitVec 32 := 1#32
  let v388 : BitVec 32 := Scalar.addi arg1 c1_i32_132
  let c8_i32 : BitVec 32 := 8#32
  let v389 : BitVec 32 := Scalar.subi c8_i32 v388
  let c1_i32_134 : BitVec 32 := 1#32
  let v391 : BitVec 32 := Scalar.divsi v389 c1_i32_134
  let v392 : BitVec 32 := Scalar.muli v391 c1_i32_134
  let v393 : BitVec 32 := Scalar.addi v388 v392
  let c1_i32_136 : BitVec 32 := 1#32
  let arg18 : BitVec 32 := Scf.iv v393 c1_i32_136 k0_t3
  let c512_i32_162 : BitVec 32 := 512#32
  let v439 : BitVec 32 := Scalar.muli arg18 c512_i32_162
  let c0_i32_163 : BitVec 32 := 0#32
  let v440 : BitVec 32 := Scalar.addi v439 c0_i32_163
  v440
def k0_off27 (i : grid0.Coords) (k0_t3 : Fin (k0_t3_loop i).trips) : Fin 2 → Nat :=
  let arg1 : BitVec 32 := BitVec.ofNat 32 (i 1).val
  let c1_i32_132 : BitVec 32 := 1#32
  let v388 : BitVec 32 := Scalar.addi arg1 c1_i32_132
  let c8_i32 : BitVec 32 := 8#32
  let v389 : BitVec 32 := Scalar.subi c8_i32 v388
  let c1_i32_134 : BitVec 32 := 1#32
  let v391 : BitVec 32 := Scalar.divsi v389 c1_i32_134
  let v392 : BitVec 32 := Scalar.muli v391 c1_i32_134
  let v393 : BitVec 32 := Scalar.addi v388 v392
  let c1_i32_136 : BitVec 32 := 1#32
  let arg18 : BitVec 32 := Scf.iv v393 c1_i32_136 k0_t3
  let c512_i32_162 : BitVec 32 := 512#32
  let v439 : BitVec 32 := Scalar.muli arg18 c512_i32_162
  let c0_i32_163 : BitVec 32 := 0#32
  let v440 : BitVec 32 := Scalar.addi v439 c0_i32_163
  let v441 : BitVec 32 := v440
  let v442 : Index := Scalar.indexCast v441
  let c0_164 : Index := 0#32
  ![v442.toNat, 0]
def k0_off28 (i : grid0.Coords) (k0_t3 : Fin (k0_t3_loop i).trips) : Fin 3 → Nat :=
  let arg1 : BitVec 32 := BitVec.ofNat 32 (i 1).val
  let c1_i32_132 : BitVec 32 := 1#32
  let v388 : BitVec 32 := Scalar.addi arg1 c1_i32_132
  let c8_i32 : BitVec 32 := 8#32
  let v389 : BitVec 32 := Scalar.subi c8_i32 v388
  let c1_i32_134 : BitVec 32 := 1#32
  let v391 : BitVec 32 := Scalar.divsi v389 c1_i32_134
  let v392 : BitVec 32 := Scalar.muli v391 c1_i32_134
  let v393 : BitVec 32 := Scalar.addi v388 v392
  let c1_i32_136 : BitVec 32 := 1#32
  let arg18 : BitVec 32 := Scf.iv v393 c1_i32_136 k0_t3
  let v446 : Index := Scalar.indexCast arg18
  let c0_166 : Index := 0#32
  let c0_167 : Index := 0#32
  ![v446.toNat, 0, 0]
def k0_off29 (i : grid0.Coords) (k0_t3 : Fin (k0_t3_loop i).trips) : Fin 3 → Nat :=
  let c0_171 : Index := 0#32
  let arg1 : BitVec 32 := BitVec.ofNat 32 (i 1).val
  let c1_i32_132 : BitVec 32 := 1#32
  let v388 : BitVec 32 := Scalar.addi arg1 c1_i32_132
  let c8_i32 : BitVec 32 := 8#32
  let v389 : BitVec 32 := Scalar.subi c8_i32 v388
  let c1_i32_134 : BitVec 32 := 1#32
  let v391 : BitVec 32 := Scalar.divsi v389 c1_i32_134
  let v392 : BitVec 32 := Scalar.muli v391 c1_i32_134
  let v393 : BitVec 32 := Scalar.addi v388 v392
  let c1_i32_136 : BitVec 32 := 1#32
  let arg18 : BitVec 32 := Scf.iv v393 c1_i32_136 k0_t3
  let c512_i32_162 : BitVec 32 := 512#32
  let v439 : BitVec 32 := Scalar.muli arg18 c512_i32_162
  let c0_i32_163 : BitVec 32 := 0#32
  let v440 : BitVec 32 := Scalar.addi v439 c0_i32_163
  let v441 : BitVec 32 := v440
  let v452 : Index := Scalar.indexCast v441
  let c0_172 : Index := 0#32
  ![0, v452.toNat, 0]
def k0_off30 (i : grid0.Coords) (k0_t3 : Fin (k0_t3_loop i).trips) : Fin 4 → Nat :=
  let c0_179 : Index := 0#32
  let arg1 : BitVec 32 := BitVec.ofNat 32 (i 1).val
  let c1_i32_132 : BitVec 32 := 1#32
  let v388 : BitVec 32 := Scalar.addi arg1 c1_i32_132
  let c8_i32 : BitVec 32 := 8#32
  let v389 : BitVec 32 := Scalar.subi c8_i32 v388
  let c1_i32_134 : BitVec 32 := 1#32
  let v391 : BitVec 32 := Scalar.divsi v389 c1_i32_134
  let v392 : BitVec 32 := Scalar.muli v391 c1_i32_134
  let v393 : BitVec 32 := Scalar.addi v388 v392
  let c1_i32_136 : BitVec 32 := 1#32
  let arg18 : BitVec 32 := Scf.iv v393 c1_i32_136 k0_t3
  let v480 : Index := Scalar.indexCast arg18
  let c0_180 : Index := 0#32
  let c0_181 : Index := 0#32
  ![0, v480.toNat, 0, 0]
def k0_off31 (i : grid0.Coords) (k0_t3 : Fin (k0_t3_loop i).trips) : Fin 3 → Nat :=
  let c1_186 : Index := 1#32
  let arg1 : BitVec 32 := BitVec.ofNat 32 (i 1).val
  let c1_i32_132 : BitVec 32 := 1#32
  let v388 : BitVec 32 := Scalar.addi arg1 c1_i32_132
  let c8_i32 : BitVec 32 := 8#32
  let v389 : BitVec 32 := Scalar.subi c8_i32 v388
  let c1_i32_134 : BitVec 32 := 1#32
  let v391 : BitVec 32 := Scalar.divsi v389 c1_i32_134
  let v392 : BitVec 32 := Scalar.muli v391 c1_i32_134
  let v393 : BitVec 32 := Scalar.addi v388 v392
  let c1_i32_136 : BitVec 32 := 1#32
  let arg18 : BitVec 32 := Scf.iv v393 c1_i32_136 k0_t3
  let c512_i32_162 : BitVec 32 := 512#32
  let v439 : BitVec 32 := Scalar.muli arg18 c512_i32_162
  let c0_i32_163 : BitVec 32 := 0#32
  let v440 : BitVec 32 := Scalar.addi v439 c0_i32_163
  let v441 : BitVec 32 := v440
  let v490 : Index := Scalar.indexCast v441
  let c0_187 : Index := 0#32
  ![1, v490.toNat, 0]
def k0_off32 (i : grid0.Coords) (k0_t3 : Fin (k0_t3_loop i).trips) : Fin 4 → Nat :=
  let c0_194 : Index := 0#32
  let arg1 : BitVec 32 := BitVec.ofNat 32 (i 1).val
  let c1_i32_132 : BitVec 32 := 1#32
  let v388 : BitVec 32 := Scalar.addi arg1 c1_i32_132
  let c8_i32 : BitVec 32 := 8#32
  let v389 : BitVec 32 := Scalar.subi c8_i32 v388
  let c1_i32_134 : BitVec 32 := 1#32
  let v391 : BitVec 32 := Scalar.divsi v389 c1_i32_134
  let v392 : BitVec 32 := Scalar.muli v391 c1_i32_134
  let v393 : BitVec 32 := Scalar.addi v388 v392
  let c1_i32_136 : BitVec 32 := 1#32
  let arg18 : BitVec 32 := Scf.iv v393 c1_i32_136 k0_t3
  let v518 : Index := Scalar.indexCast arg18
  let c1_195 : Index := 1#32
  let c0_196 : Index := 0#32
  ![0, v518.toNat, 1, 0]
def k0_off33 (i : grid0.Coords) (k0_t3 : Fin (k0_t3_loop i).trips) : Fin 3 → Nat :=
  let arg1 : BitVec 32 := BitVec.ofNat 32 (i 1).val
  let c1_i32_132 : BitVec 32 := 1#32
  let v388 : BitVec 32 := Scalar.addi arg1 c1_i32_132
  let c8_i32 : BitVec 32 := 8#32
  let v389 : BitVec 32 := Scalar.subi c8_i32 v388
  let c1_i32_134 : BitVec 32 := 1#32
  let v391 : BitVec 32 := Scalar.divsi v389 c1_i32_134
  let v392 : BitVec 32 := Scalar.muli v391 c1_i32_134
  let v393 : BitVec 32 := Scalar.addi v388 v392
  let c1_i32_136 : BitVec 32 := 1#32
  let arg18 : BitVec 32 := Scf.iv v393 c1_i32_136 k0_t3
  let v528 : Index := Scalar.indexCast arg18
  let c0_201 : Index := 0#32
  let c0_202 : Index := 0#32
  ![v528.toNat, 0, 0]
def k0_cond2 (i : grid0.Coords) : BitVec 1 :=
  let arg1 : BitVec 32 := BitVec.ofNat 32 (i 1).val
  let c7_i32 : BitVec 32 := 7#32
  let v436 : BitVec 1 := Scalar.cmpi .eq arg1 c7_i32
  let v437 : BitVec 32 := Scalar.extui v436
  let c0_i32_161 : BitVec 32 := 0#32
  let v438 : BitVec 1 := Scalar.cmpi .ne v437 c0_i32_161
  v438

@[reducible] def k0_t4_loop : Scf.Loop 32 :=
  let c0_i32_163 : BitVec 32 := 0#32
  let c8_i32_164 : BitVec 32 := 8#32
  let v440 : BitVec 32 := Scalar.addi c0_i32_163 c8_i32_164
  let c1_i32_165 : BitVec 32 := 1#32
  ⟨c0_i32_163, v440, c1_i32_165⟩
def k0_off34 (k0_t4 : Fin k0_t4_loop.trips) : Fin 3 → Nat :=
  let c0_i32_163 : BitVec 32 := 0#32
  let c1_i32_165 : BitVec 32 := 1#32
  let arg18 : BitVec 32 := Scf.iv c0_i32_163 c1_i32_165 k0_t4
  let v445 : Index := Scalar.indexCast arg18
  let c0_170 : Index := 0#32
  let c0_171 : Index := 0#32
  ![v445.toNat, 0, 0]
def k0_mult6 (k0_t4 : Fin k0_t4_loop.trips) : BitVec 32 :=
  let c0_i32_163 : BitVec 32 := 0#32
  let c1_i32_165 : BitVec 32 := 1#32
  let arg18 : BitVec 32 := Scf.iv c0_i32_163 c1_i32_165 k0_t4
  let c512_i32_172 : BitVec 32 := 512#32
  let v450 : BitVec 32 := Scalar.muli arg18 c512_i32_172
  v450
def k0_off35 (k0_t4 : Fin k0_t4_loop.trips) : Fin 2 → Nat :=
  let c0_i32_163 : BitVec 32 := 0#32
  let c1_i32_165 : BitVec 32 := 1#32
  let arg18 : BitVec 32 := Scf.iv c0_i32_163 c1_i32_165 k0_t4
  let c512_i32_172 : BitVec 32 := 512#32
  let v450 : BitVec 32 := Scalar.muli arg18 c512_i32_172
  let v451 : BitVec 32 := v450
  let v452 : Index := Scalar.indexCast v451
  let c0_173 : Index := 0#32
  ![v452.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S4096x1536 : Shape := ⟨2, ![4096, 1536]⟩
abbrev S4096x512 : Shape := ⟨2, ![4096, 512]⟩
abbrev S4x8x8x512 : Shape := ⟨4, ![4, 8, 8, 512]⟩
abbrev S4096x128 : Shape := ⟨2, ![4096, 128]⟩
abbrev S4096x8x64 : Shape := ⟨3, ![4096, 8, 64]⟩
abbrev S8x4096x64 : Shape := ⟨3, ![8, 4096, 64]⟩
abbrev S4096x8 : Shape := ⟨2, ![4096, 8]⟩
abbrev S8x4096 : Shape := ⟨2, ![8, 4096]⟩
abbrev S4x8x2x512 : Shape := ⟨4, ![4, 8, 2, 512]⟩
abbrev S4x2x8x512 : Shape := ⟨4, ![4, 2, 8, 512]⟩
abbrev S4096 : Shape := ⟨1, ![4096]⟩
abbrev S8x4096x4096 : Shape := ⟨3, ![8, 4096, 4096]⟩
abbrev S8x1x4096 : Shape := ⟨3, ![8, 1, 4096]⟩
abbrev S8x4096x1 : Shape := ⟨3, ![8, 4096, 1]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S_ : Shape := ⟨0, ![]⟩
abbrev S8x64 : Shape := ⟨2, ![8, 64]⟩
abbrev S4x1x128 : Shape := ⟨3, ![4, 1, 128]⟩
abbrev S4x1x384 : Shape := ⟨3, ![4, 1, 384]⟩
abbrev S4x2x4096 : Shape := ⟨3, ![4, 2, 4096]⟩
abbrev S4x4096x2 : Shape := ⟨3, ![4, 4096, 2]⟩
abbrev S4x4096x128 : Shape := ⟨3, ![4, 4096, 128]⟩

abbrev nBuf : Space → Nat
  | .hbm => 92
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4096x512, .bf16⟩
  | .hbm, ⟨2, _⟩ => ⟨S4096x512, .f32⟩
  | .hbm, ⟨3, _⟩ => ⟨S4x8x8x512, .f32⟩
  | .hbm, ⟨4, _⟩ => ⟨S4096x128, .f32⟩
  | .hbm, ⟨5, _⟩ => ⟨S4096x512, .bf16⟩
  | .hbm, ⟨6, _⟩ => ⟨S4096x512, .f32⟩
  | .hbm, ⟨7, _⟩ => ⟨S4096x8x64, .f32⟩
  | .hbm, ⟨8, _⟩ => ⟨S8x4096x64, .f32⟩
  | .hbm, ⟨9, _⟩ => ⟨S4096x512, .bf16⟩
  | .hbm, ⟨10, _⟩ => ⟨S4096x512, .f32⟩
  | .hbm, ⟨11, _⟩ => ⟨S4096x8x64, .f32⟩
  | .hbm, ⟨12, _⟩ => ⟨S8x4096x64, .f32⟩
  | .hbm, ⟨13, _⟩ => ⟨S4096x512, .bf16⟩
  | .hbm, ⟨14, _⟩ => ⟨S4096x512, .f32⟩
  | .hbm, ⟨15, _⟩ => ⟨S4096x8x64, .f32⟩
  | .hbm, ⟨16, _⟩ => ⟨S8x4096x64, .f32⟩
  | .hbm, ⟨17, _⟩ => ⟨S4096x512, .f32⟩
  | .hbm, ⟨18, _⟩ => ⟨S4096x8x64, .f32⟩
  | .hbm, ⟨19, _⟩ => ⟨S8x4096x64, .f32⟩
  | .hbm, ⟨20, _⟩ => ⟨S4096x8x64, .f32⟩
  | .hbm, ⟨21, _⟩ => ⟨S8x4096x64, .f32⟩
  | .hbm, ⟨22, _⟩ => ⟨S4096x8, .f32⟩
  | .hbm, ⟨23, _⟩ => ⟨S8x4096, .f32⟩
  | .hbm, ⟨24, _⟩ => ⟨S4x8x2x512, .f32⟩
  | .hbm, ⟨25, _⟩ => ⟨S4x2x8x512, .f32⟩
  | .hbm, ⟨26, _⟩ => ⟨S8x4096, .f32⟩
  | .hbm, ⟨27, _⟩ => ⟨S4096, .i32⟩
  | .hbm, ⟨28, _⟩ => ⟨S8x4096x4096, .f32⟩
  | .hbm, ⟨29, _⟩ => ⟨S8x1x4096, .f32⟩
  | .hbm, ⟨30, _⟩ => ⟨S8x4096x4096, .f32⟩
  | .hbm, ⟨31, _⟩ => ⟨S8x4096x4096, .f32⟩
  | .hbm, ⟨32, _⟩ => ⟨S8x4096x1, .f32⟩
  | .hbm, ⟨33, _⟩ => ⟨S8x4096x4096, .f32⟩
  | .hbm, ⟨34, _⟩ => ⟨S8x4096x4096, .f32⟩
  | .hbm, ⟨35, _⟩ => ⟨S1x4096, .i32⟩
  | .hbm, ⟨36, _⟩ => ⟨S4096x1, .i32⟩
  | .hbm, ⟨37, _⟩ => ⟨S4096x4096, .i32⟩
  | .hbm, ⟨38, _⟩ => ⟨S4096x4096, .i32⟩
  | .hbm, ⟨39, _⟩ => ⟨S4096x4096, .i1⟩
  | .hbm, ⟨40, _⟩ => ⟨S1x4096x4096, .i1⟩
  | .hbm, ⟨41, _⟩ => ⟨S_, .f32⟩
  | .hbm, ⟨42, _⟩ => ⟨S_, .f32⟩
  | .hbm, ⟨43, _⟩ => ⟨S8x4096x4096, .i1⟩
  | .hbm, ⟨44, _⟩ => ⟨S8x4096x4096, .f32⟩
  | .hbm, ⟨45, _⟩ => ⟨S8x4096x4096, .f32⟩
  | .hbm, ⟨46, _⟩ => ⟨S8x4096x4096, .f32⟩
  | .hbm, ⟨47, _⟩ => ⟨S8x4096x4096, .f32⟩
  | .hbm, ⟨48, _⟩ => ⟨S8x4096x64, .f32⟩
  | .hbm, ⟨49, _⟩ => ⟨S_, .f32⟩
  | .hbm, ⟨50, _⟩ => ⟨S8x4096, .f32⟩
  | .hbm, ⟨51, _⟩ => ⟨S8x4096x1, .f32⟩
  | .hbm, ⟨52, _⟩ => ⟨S8x4096x4096, .f32⟩
  | .hbm, ⟨53, _⟩ => ⟨S8x4096x4096, .f32⟩
  | .hbm, ⟨54, _⟩ => ⟨S8x4096x4096, .f32⟩
  | .hbm, ⟨55, _⟩ => ⟨S8x4096x64, .f32⟩
  | .hbm, ⟨56, _⟩ => ⟨S8x4096x64, .f32⟩
  | .hbm, ⟨57, _⟩ => ⟨S8x4096x64, .f32⟩
  | .hbm, ⟨58, _⟩ => ⟨S_, .f32⟩
  | .hbm, ⟨59, _⟩ => ⟨S8x64, .f32⟩
  | .hbm, ⟨60, _⟩ => ⟨S4x1x128, .f32⟩
  | .hbm, ⟨61, _⟩ => ⟨S_, .f32⟩
  | .hbm, ⟨62, _⟩ => ⟨S8x64, .f32⟩
  | .hbm, ⟨63, _⟩ => ⟨S4x1x128, .f32⟩
  | .hbm, ⟨64, _⟩ => ⟨S_, .f32⟩
  | .hbm, ⟨65, _⟩ => ⟨S8x64, .f32⟩
  | .hbm, ⟨66, _⟩ => ⟨S4x1x128, .f32⟩
  | .hbm, ⟨67, _⟩ => ⟨S4x1x384, .f32⟩
  | .hbm, ⟨68, _⟩ => ⟨S_, .f32⟩
  | .hbm, ⟨69, _⟩ => ⟨S8x4096, .f32⟩
  | .hbm, ⟨70, _⟩ => ⟨S4x2x4096, .f32⟩
  | .hbm, ⟨71, _⟩ => ⟨S4x4096x2, .f32⟩
  | .hbm, ⟨72, _⟩ => ⟨S4x4096x2, .f32⟩
  | .hbm, ⟨73, _⟩ => ⟨S_, .i32⟩
  | .hbm, ⟨74, _⟩ => ⟨S_, .f32⟩
  | .hbm, ⟨75, _⟩ => ⟨S4x4096x128, .f32⟩
  | .hbm, ⟨76, _⟩ => ⟨S_, .f32⟩
  | .hbm, ⟨77, _⟩ => ⟨S8x4096, .f32⟩
  | .hbm, ⟨78, _⟩ => ⟨S4x2x8x512, .f32⟩
  | .hbm, ⟨79, _⟩ => ⟨S4x8x2x512, .f32⟩
  | .hbm, ⟨80, _⟩ => ⟨S4096x8x64, .f32⟩
  | .hbm, ⟨81, _⟩ => ⟨S4096x512, .f32⟩
  | .hbm, ⟨82, _⟩ => ⟨S4096x512, .bf16⟩
  | .hbm, ⟨83, _⟩ => ⟨S4096x8x64, .f32⟩
  | .hbm, ⟨84, _⟩ => ⟨S4096x512, .f32⟩
  | .hbm, ⟨85, _⟩ => ⟨S4096x512, .bf16⟩
  | .hbm, ⟨86, _⟩ => ⟨S4096x8x64, .f32⟩
  | .hbm, ⟨87, _⟩ => ⟨S4096x512, .f32⟩
  | .hbm, ⟨88, _⟩ => ⟨S4096x512, .bf16⟩
  | .hbm, ⟨89, _⟩ => ⟨S_, .i32⟩
  | .hbm, ⟨90, _⟩ => ⟨S_, .f32⟩
  | .hbm, ⟨91, _⟩ => ⟨S4x8x8x512, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_0 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_1 : Ref sig .tc := ⟨.hbm, 58, rfl⟩
abbrev main_v48 : Ref sig .tc := ⟨.hbm, 59, rfl⟩
abbrev main_v49 : Ref sig .tc := ⟨.hbm, 60, rfl⟩
abbrev main_cst_2 : Ref sig .tc := ⟨.hbm, 61, rfl⟩
abbrev main_v50 : Ref sig .tc := ⟨.hbm, 62, rfl⟩
abbrev main_v51 : Ref sig .tc := ⟨.hbm, 63, rfl⟩
abbrev main_cst_3 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_4 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_c : Ref sig .tc := ⟨.hbm, 73, rfl⟩
abbrev main_call1_v0 : Ref sig .tc := ⟨.hbm, 74, rfl⟩
abbrev main_v59 : Ref sig .tc := ⟨.hbm, 75, rfl⟩
abbrev main_cst_5 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_c_6 : Ref sig .tc := ⟨.hbm, 89, rfl⟩
abbrev main_call2_v0 : Ref sig .tc := ⟨.hbm, 90, rfl⟩
abbrev main_v72 : Ref sig .tc := ⟨.hbm, 91, rfl⟩

abbrev nD : Nat := 1
abbrev τ : Topo := Topo.v7x

variable {F : FTy → Type} [FloatOps F]
-- ==== Kernel2.lean ====
abbrev S4096x512 : Shape := ⟨2, ![4096, 512]⟩
abbrev S4096x128 : Shape := ⟨2, ![4096, 128]⟩
abbrev S4096x1024 : Shape := ⟨2, ![4096, 1024]⟩
abbrev S3200x1024 : Shape := ⟨2, ![3200, 1024]⟩
abbrev S1x1024 : Shape := ⟨2, ![1, 1024]⟩
abbrev S8x1024 : Shape := ⟨2, ![8, 1024]⟩
abbrev S512x512 : Shape := ⟨2, ![512, 512]⟩
abbrev S512x128 : Shape := ⟨2, ![512, 128]⟩
abbrev S512x1024 : Shape := ⟨2, ![512, 1024]⟩
abbrev S128x1024 : Shape := ⟨2, ![128, 1024]⟩
abbrev S1024x1024 : Shape := ⟨2, ![1024, 1024]⟩
abbrev S1024 : Shape := ⟨1, ![1024]⟩

abbrev nBuf : Space → Nat
  | .hbm => 12
  | .vmem => 21
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x128, .bf16⟩
  | .hbm, ⟨4, _⟩ => ⟨S4096x512, .bf16⟩
  | .hbm, ⟨5, _⟩ => ⟨S4096x1024, .bf16⟩
  | .hbm, ⟨6, _⟩ => ⟨S3200x1024, .bf16⟩
  | .hbm, ⟨7, _⟩ => ⟨S4096x1024, .f32⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S8x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x128, .bf16⟩
  | .local _ .vmem, ⟨7, _⟩ => ⟨S512x128, .bf16⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S3200x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S8x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3200x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference2Ideal.lean ====
abbrev S4096x512 : Shape := ⟨2, ![4096, 512]⟩
abbrev S4096x128 : Shape := ⟨2, ![4096, 128]⟩
abbrev S4096x1024 : Shape := ⟨2, ![4096, 1024]⟩
abbrev S3200x1024 : Shape := ⟨2, ![3200, 1024]⟩
abbrev S1x1024 : Shape := ⟨2, ![1, 1024]⟩
abbrev S4096x3200 : Shape := ⟨2, ![4096, 3200]⟩
abbrev S_ : Shape := ⟨0, ![]⟩
abbrev S1024x3200 : Shape := ⟨2, ![1024, 3200]⟩
abbrev S1024 : Shape := ⟨1, ![1024]⟩
abbrev S6x1024 : Shape := ⟨2, ![6, 1024]⟩
abbrev S8x1024 : Shape := ⟨2, ![8, 1024]⟩

abbrev nBuf : Space → Nat
  | .hbm => 49
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x128, .bf16⟩
  | .hbm, ⟨4, _⟩ => ⟨S4096x512, .bf16⟩
  | .hbm, ⟨5, _⟩ => ⟨S4096x1024, .bf16⟩
  | .hbm, ⟨6, _⟩ => ⟨S3200x1024, .bf16⟩
  | .hbm, ⟨7, _⟩ => ⟨S4096x1024, .f32⟩
  | .hbm, ⟨8, _⟩ => ⟨S4096x1024, .f32⟩
  | .hbm, ⟨9, _⟩ => ⟨S1x1024, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x128, .f32⟩
  | .hbm, ⟨14, _⟩ => ⟨S4096x512, .f32⟩
  | .hbm, ⟨15, _⟩ => ⟨S4096x1024, .f32⟩
  | .hbm, ⟨16, _⟩ => ⟨S4096x3200, .f32⟩
  | .hbm, ⟨17, _⟩ => ⟨S_, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S3200x1024, .f32⟩
  | .hbm, ⟨27, _⟩ => ⟨S1024x3200, .f32⟩
  | .hbm, ⟨28, _⟩ => ⟨S4096x3200, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S6x1024, .f32⟩
  | .hbm, ⟨48, _⟩ => ⟨S8x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel3.lean ====
abbrev S4096x1024 : Shape := ⟨2, ![4096, 1024]⟩
abbrev S4096x512 : Shape := ⟨2, ![4096, 512]⟩
abbrev S4096x128 : Shape := ⟨2, ![4096, 128]⟩
abbrev S1024x3200 : Shape := ⟨2, ![1024, 3200]⟩
abbrev S512x1024 : Shape := ⟨2, ![512, 1024]⟩
abbrev S512x512 : Shape := ⟨2, ![512, 512]⟩
abbrev S512x128 : Shape := ⟨2, ![512, 128]⟩
abbrev S_ : Shape := ⟨0, ![]⟩
abbrev S1024x512 : Shape := ⟨2, ![1024, 512]⟩
abbrev S1024x128 : Shape := ⟨2, ![1024, 128]⟩
abbrev S1024x1024 : Shape := ⟨2, ![1024, 1024]⟩

abbrev nBuf : Space → Nat
  | .hbm => 8
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x128, .bf16⟩
  | .hbm, ⟨5, _⟩ => ⟨S4096x512, .bf16⟩
  | .hbm, ⟨6, _⟩ => ⟨S4096x1024, .bf16⟩
  | .hbm, ⟨7, _⟩ => ⟨S1024x3200, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x128, .bf16⟩
  | .local _ .vmem, ⟨9, _⟩ => ⟨S512x128, .bf16⟩
  | .local _ .vmem, ⟨10, _⟩ => ⟨S512x512, .bf16⟩
  | .local _ .vmem, ⟨11, _⟩ => ⟨S512x512, .bf16⟩
  | .local _ .vmem, ⟨12, _⟩ => ⟨S512x1024, .bf16⟩
  | .local _ .vmem, ⟨13, _⟩ => ⟨S512x1024, .bf16⟩
  | .local _ .vmem, ⟨14, _⟩ => ⟨S1024x3200, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S4096x1024 : Shape := ⟨2, ![4096, 1024]⟩
abbrev S4096x512 : Shape := ⟨2, ![4096, 512]⟩
abbrev S4096x128 : Shape := ⟨2, ![4096, 128]⟩
abbrev S4096x3200 : Shape := ⟨2, ![4096, 3200]⟩
abbrev S_ : Shape := ⟨0, ![]⟩
abbrev S1024x3200 : Shape := ⟨2, ![1024, 3200]⟩
abbrev S3200x1024 : Shape := ⟨2, ![3200, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x128, .bf16⟩
  | .hbm, ⟨5, _⟩ => ⟨S4096x512, .bf16⟩
  | .hbm, ⟨6, _⟩ => ⟨S4096x1024, .bf16⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x128, .f32⟩
  | .hbm, ⟨11, _⟩ => ⟨S4096x512, .f32⟩
  | .hbm, ⟨12, _⟩ => ⟨S4096x1024, .f32⟩
  | .hbm, ⟨13, _⟩ => ⟨S4096x3200, .f32⟩
  | .hbm, ⟨14, _⟩ => ⟨S_, .f32⟩
  | .hbm, ⟨15, _⟩ => ⟨S1024x3200, .f32⟩
  | .hbm, ⟨16, _⟩ => ⟨S4096x1024, .f32⟩
  | .hbm, ⟨17, _⟩ => ⟨S4096x3200, .f32⟩
  | .hbm, ⟨18, _⟩ => ⟨S3200x1024, .f32⟩
  | .hbm, ⟨19, _⟩ => ⟨S1024x3200, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S3200x1024 : Shape := ⟨2, ![3200, 1024]⟩
abbrev S1x3200 : Shape := ⟨2, ![1, 3200]⟩
abbrev S4096x1536 : Shape := ⟨2, ![4096, 1536]⟩
abbrev S4096x128 : Shape := ⟨2, ![4096, 128]⟩
abbrev S4096x512 : Shape := ⟨2, ![4096, 512]⟩
abbrev S512x1024 : Shape := ⟨2, ![512, 1024]⟩
abbrev S512x1536 : Shape := ⟨2, ![512, 1536]⟩
abbrev S512x128 : Shape := ⟨2, ![512, 128]⟩
abbrev S512x512 : Shape := ⟨2, ![512, 512]⟩
abbrev S1536x1024 : Shape := ⟨2, ![1536, 1024]⟩
abbrev S1x1536 : Shape := ⟨2, ![1, 1536]⟩
abbrev S128x1024 : Shape := ⟨2, ![128, 1024]⟩
abbrev S1x128 : Shape := ⟨2, ![1, 128]⟩
abbrev S1x512 : Shape := ⟨2, ![1, 512]⟩
abbrev S1024x1024 : Shape := ⟨2, ![1024, 1024]⟩

abbrev nBuf : Space → Nat
  | .hbm => 10
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S3200x1024, .bf16⟩
  | .hbm, ⟨4, _⟩ => ⟨S1x3200, .f32⟩
  | .hbm, ⟨5, _⟩ => ⟨S4096x1024, .bf16⟩
  | .hbm, ⟨6, _⟩ => ⟨S4096x1536, .bf16⟩
  | .hbm, ⟨7, _⟩ => ⟨S4096x128, .f32⟩
  | .hbm, ⟨8, _⟩ => ⟨S4096x512, .f32⟩
  | .hbm, ⟨9, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S3200x1024, .bf16⟩
  | .local _ .vmem, ⟨5, _⟩ => ⟨S1x3200, .f32⟩
  | .local _ .vmem, ⟨6, _⟩ => ⟨S512x1024, .bf16⟩
  | .local _ .vmem, ⟨7, _⟩ => ⟨S512x1024, .bf16⟩
  | .local _ .vmem, ⟨8, _⟩ => ⟨S512x1536, .bf16⟩
  | .local _ .vmem, ⟨9, _⟩ => ⟨S512x1536, .bf16⟩
  | .local _ .vmem, ⟨10, _⟩ => ⟨S512x128, .f32⟩
  | .local _ .vmem, ⟨11, _⟩ => ⟨S512x128, .f32⟩
  | .local _ .vmem, ⟨12, _⟩ => ⟨S512x512, .f32⟩
  | .local _ .vmem, ⟨13, _⟩ => ⟨S512x512, .f32⟩
  | .local _ .vmem, ⟨14, _⟩ => ⟨S512x1024, .f32⟩
  | .local _ .vmem, ⟨15, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3200x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3200 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S4096x1024 : Shape := ⟨2, ![4096, 1024]⟩
abbrev S1x1024 : Shape := ⟨2, ![1, 1024]⟩
abbrev S3200x1024 : Shape := ⟨2, ![3200, 1024]⟩
abbrev S1x3200 : Shape := ⟨2, ![1, 3200]⟩
abbrev S_ : Shape := ⟨0, ![]⟩
abbrev S1024x3200 : Shape := ⟨2, ![1024, 3200]⟩
abbrev S4096x3200 : Shape := ⟨2, ![4096, 3200]⟩
abbrev S4096x1536 : Shape := ⟨2, ![4096, 1536]⟩
abbrev S4096x128 : Shape := ⟨2, ![4096, 128]⟩
abbrev S4096x512 : Shape := ⟨2, ![4096, 512]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S3200x1024, .bf16⟩
  | .hbm, ⟨4, _⟩ => ⟨S1x3200, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .bf16⟩
  | .hbm, ⟨13, _⟩ => ⟨S4096x1024, .f32⟩
  | .hbm, ⟨14, _⟩ => ⟨S3200x1024, .f32⟩
  | .hbm, ⟨15, _⟩ => ⟨S1024x3200, .f32⟩
  | .hbm, ⟨16, _⟩ => ⟨S4096x3200, .f32⟩
  | .hbm, ⟨17, _⟩ => ⟨S4096x3200, .f32⟩
  | .hbm, ⟨18, _⟩ => ⟨S4096x3200, .f32⟩
  | .hbm, ⟨19, _⟩ => ⟨S4096x1536, .f32⟩
  | .hbm, ⟨20, _⟩ => ⟨S4096x1536, .bf16⟩
  | .hbm, ⟨21, _⟩ => ⟨S4096x128, .f32⟩
  | .hbm, ⟨22, _⟩ => ⟨S4096x512, .f32⟩
  | .hbm, ⟨23, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.K.Cut.lean ====
module

public import proofs.«01_k».proof.Proof.Gen.Kernel.Skeleton
public import Idealize.ShloMosaic.Lib.Tactic.Stretches
public import Idealize.ShloMosaic.Lib.Exec
public import Idealize.ShloMosaic.Lib.Tactic
public import Idealize.ShloMosaic.Lib.Pipeline.Kit

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! The body in three stretches: the first part, which prepares a head pair at its first key tile and loads the tile;
the key tile's products; what the last key tile writes back. -/

set_option maxHeartbeats 4000000 in
cut_chain stage := cc0_attention_bwd_skel at 2, 17

end Cert.Kernel.Hand

end
-- ==== Proof.KI.Cut.lean ====
module

public import proofs.«01_k».proof.Proof.Gen.KernelIdeal.Skeleton
public import Idealize.ShloMosaic.Lib.Tactic.Stretches
public import Idealize.ShloMosaic.Lib.Exec
public import Idealize.ShloMosaic.Lib.Tactic
public import Idealize.ShloMosaic.Lib.Pipeline.Kit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! The body in three stretches: the first part, which prepares a head pair at its first key tile and loads the tile;
the key tile's products; what the last key tile writes back. -/

set_option maxHeartbeats 4000000 in
cut_chain stage := cc0_attention_bwd_skel at 2, 17

end Cert.KernelIdeal.Hand

end
-- ==== Proof.KI.Stage1.lean ====
module

public import proofs.«01_k».proof.Proof.Gen.KernelIdeal.Loops
public import proofs.«01_k».proof.Proof.Gen.KernelIdeal.Frame
public import proofs.«01_k».proof.Proof.KI.Cut

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The first stretch at the first key tile of a head pair: the accumulators are cleared, the head pair's statistics and
    augmented queries are stored, and the key tile is loaded. -/
theorem st1A (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole) (hc1 : k0_cond1 i = 1#1)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (E : Set ℕ) (κ : stage1.K (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (R := PUnit)) (K : PUnit → sProp 𝕄) :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)
        ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} arg12.view.writes (Elt F) arg12.view.junk [⟨Rect.unit ![0, 0, 0] S1x1x384.size inb_S1x1x384_S1x1x384_0_0_0, k0_pay55 (F := F)⟩]) ∗ (arg13.view.loc (c : Thread nD τ) ↦[arg13.view.set]{fullShare} f13) ∗ (arg14.view.loc (c : Thread nD τ) ↦[arg14.view.set]{fullShare} arg14.view.writes (Elt F) arg14.view.junk [⟨Rect.unit ![0, 0, 0, 0] S1x8x8x512.size inb_S1x8x8x512_S1x8x8x512_0_0_0_0, k0_pay56 (F := F)⟩]) ∗ (arg15.view.loc (c : Thread nD τ) ↦[arg15.view.set]{fullShare} arg15.view.writes (Elt F) f15 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (iota .tc S1x128 32 [1] iota_S1x128_d1_w32) (Scalar.ofBits .bf16 0x3F80#16) (Scalar.ofBits .bf16 0x0000#16) hc1 f2 f3 f4 f5 (Scf.trips (0#32) (Scalar.addi 0#32 8#32) 1#32)).1) ∗ (arg16.view.loc (c : Thread nD τ) ↦[arg16.view.set]{fullShare} arg16.view.writes (Elt F) arg16.view.junk [⟨Rect.unit ![0, 0, 0] S8x128x512.size inb_S8x128x512_S8x128x512_0_0_0, k0_pay54 (F := F)⟩]) ∗ (arg17.view.loc (c : Thread nD τ) ↦[arg17.view.set]{fullShare} arg17.view.writes (Elt F) f17 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (iota .tc S1x128 32 [1] iota_S1x128_d1_w32) (Scalar.ofBits .bf16 0x3F80#16) (Scalar.ofBits .bf16 0x0000#16) hc1 f2 f3 f4 f5 (Scf.trips (0#32) (Scalar.addi 0#32 8#32) 1#32)).2)) -∗ wp frame (wpE (defs₀ (F := F)) Variants.none c none) E (κ (BitVec.ofNat 32 (i 0).val) (BitVec.ofNat 32 (i 1).val) (iota .tc S1x128 32 [1] iota_S1x128_d1_w32) k0_pay50 k0_pay51 k0_pay52 k0_pay53 (View.readAt (Elt F) arg6.view (Rect.unit ![0, 0] S512x128.size inb_S512x128_S512x128_0_0).toLoadRect f6) (View.readAt (Elt F) arg7.view (Rect.unit ![0, 0] S512x128.size inb_S512x128_S512x128_0_0).toLoadRect f7) (View.readAt (Elt F) arg8.view (Rect.unit ![0, 0] S512x128.size inb_S512x128_S512x128_0_0).toLoadRect f8) (k0_pay58 (View.readAt (Elt F) arg6.view (Rect.unit ![0, 0] S512x128.size inb_S512x128_S512x128_0_0).toLoadRect f6)) (k0_pay59 i (View.readAt (Elt F) arg8.view (Rect.unit ![0, 0] S512x128.size inb_S512x128_S512x128_0_0).toLoadRect f8)) k0_pay60 (k0_pay61 (F := F)) (k0_pay62 (F := F))) K))
      ⊢ wp frame (wpE (defs₀ (F := F)) Variants.none c none) E (stage1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 κ) K := by
    unfold stage1; simp only [k0_part8_eq_skeleton]; unfold k0_part8_skel
    iintro ⟨H2, H3, H4, H5, H6, H7, H8, H9, H10, H11, H12, H13, H14, H15, H16, H17, Hk⟩
    sl_exec (disch := sl_exact hc1)
    simp only [Prog.bind_assoc]
    sl_exec
    dsimp only
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

set_option maxHeartbeats 4000000 in
/-- The first stretch at any other key tile: it loads the tile only. -/
def st1N (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole) (hc1 : ¬k0_cond1 i = 1#1)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty)  :
    { u : Unit //
      ∀ (E : Set ℕ) (κ : stage1.K (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (R := PUnit)) (K : PUnit → sProp 𝕄),
        iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)
            ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)) -∗ wp frame (wpE (defs₀ (F := F)) Variants.none c none) E (κ (BitVec.ofNat 32 (i 0).val) (BitVec.ofNat 32 (i 1).val) (iota .tc S1x128 32 [1] iota_S1x128_d1_w32) k0_pay50 k0_pay51 k0_pay52 k0_pay53 (View.readAt (Elt F) arg6.view (Rect.unit ![0, 0] S512x128.size inb_S512x128_S512x128_0_0).toLoadRect f6) (View.readAt (Elt F) arg7.view (Rect.unit ![0, 0] S512x128.size inb_S512x128_S512x128_0_0).toLoadRect f7) (View.readAt (Elt F) arg8.view (Rect.unit ![0, 0] S512x128.size inb_S512x128_S512x128_0_0).toLoadRect f8) (k0_pay58 (View.readAt (Elt F) arg6.view (Rect.unit ![0, 0] S512x128.size inb_S512x128_S512x128_0_0).toLoadRect f6)) (k0_pay59 i (View.readAt (Elt F) arg8.view (Rect.unit ![0, 0] S512x128.size inb_S512x128_S512x128_0_0).toLoadRect f8)) k0_pay60 (k0_pay61 (F := F)) (k0_pay62 (F := F))) K))
          ⊢ wp frame (wpE (defs₀ (F := F)) Variants.none c none) E (stage1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 κ) K } := by
  refine ⟨(), fun E κ K => ?run⟩
  case run =>
    unfold stage1; simp only [k0_part8_eq_skeleton]; unfold k0_part8_skel
    iintro ⟨H2, H3, H4, H5, H6, H7, H8, H9, H10, H11, H12, H13, H14, H15, H16, H17, Hk⟩
    sl_exec (disch := sl_exact hc1)
    dsimp only
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

end Cert.KernelIdeal.Hand

end
-- ==== Proof.KI.Stage2.lean ====
module

public import proofs.«01_k».proof.Proof.Gen.KernelIdeal.Loops
public import proofs.«01_k».proof.Proof.Gen.KernelIdeal.Frame
public import proofs.«01_k».proof.Proof.KI.Cut

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The second stretch: the products of one key tile with its own query tile and the later ones. -/
def st2 (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (arg0 arg1 : BitVec 32) (v0 : IVec S1x128 32) (v3 v5 : IVec S1x128 1) (v7 v9 : IVec S128x1 1) (v13 v14 : Vec F S512x128 .bf16) (v15 : Vec F S512x128 .f32) (v17 : FVec F S128x512 .f32) (v27 : FVec F S512x1 .f32) (v32 : IVec S1x128 1) (v33 v34 : FVec F S1x128 .bf16) :
    Σ' (L10 : List (View.Piece (Elt F) S512x128 .bf16)), Σ' (L11 : List (View.Piece (Elt F) S512x128 .bf16)), Σ' (L12 : List (View.Piece (Elt F) S1x1x384 .f32)), Σ' (L13 : List (View.Piece (Elt F) S1x512x128 .f32)), Σ' (L14 : List (View.Piece (Elt F) S1x8x8x512 .f32)), { L16 : List (View.Piece (Elt F) S8x128x512 .f32) //
      ∀ (E : Set ℕ) (κ : Prog (TpuEff nD τ sig (Elt F) Λ₀ .tc) PUnit) (K : PUnit → sProp 𝕄),
        iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)
            ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} arg10.view.writes (Elt F) f10 L10) ∗ (arg11.view.loc (c : Thread nD τ) ↦[arg11.view.set]{fullShare} arg11.view.writes (Elt F) f11 L11) ∗ (arg12.view.loc (c : Thread nD τ) ↦[arg12.view.set]{fullShare} arg12.view.writes (Elt F) f12 L12) ∗ (arg13.view.loc (c : Thread nD τ) ↦[arg13.view.set]{fullShare} arg13.view.writes (Elt F) f13 L13) ∗ (arg14.view.loc (c : Thread nD τ) ↦[arg14.view.set]{fullShare} arg14.view.writes (Elt F) f14 L14) ∗ (arg15.view.loc (c : Thread nD τ) ↦[arg15.view.set]{fullShare} f15) ∗ (arg16.view.loc (c : Thread nD τ) ↦[arg16.view.set]{fullShare} arg16.view.writes (Elt F) f16 L16) ∗ (arg17.view.loc (c : Thread nD τ) ↦[arg17.view.set]{fullShare} f17)) -∗ wp frame (wpE (defs₀ (F := F)) Variants.none c none) E (κ) K))
          ⊢ wp frame (wpE (defs₀ (F := F)) Variants.none c none) E (stage2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 arg1 v0 v3 v5 v7 v9 v13 v14 v15 v17 v27 v32 v33 v34 κ) K } := by
  refine ⟨?_, ?_, ?_, ?_, ?_, ?_, fun E κ K => ?run⟩
  case run =>
    unfold stage2; simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    iintro ⟨H2, H3, H4, H5, H6, H7, H8, H9, H10, H11, H12, H13, H14, H15, H16, H17, Hk⟩
    sl_exec
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

end Cert.KernelIdeal.Hand

end
-- ==== Proof.KI.Stage3.lean ====
module

public import proofs.«01_k».proof.Proof.Gen.KernelIdeal.Loops
public import proofs.«01_k».proof.Proof.Gen.KernelIdeal.Frame
public import proofs.«01_k».proof.Proof.KI.Cut

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The last stretch at the last key tile: the gradient of the queries is written back. -/
def st3C (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole) (hc2 : k0_cond2 i = 1#1)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty)  :
    Σ' (L9 : List (View.Piece (Elt F) S4096x128 .bf16)), { L12 : List (View.Piece (Elt F) S1x1x384 .f32) //
      ∀ (E : Set ℕ) (κ : Prog (TpuEff nD τ sig (Elt F) Λ₀ .tc) PUnit) (K : PUnit → sProp 𝕄),
        iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)
            ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} arg9.view.writes (Elt F) f9 L9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} arg12.view.writes (Elt F) f12 L12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)) -∗ wp frame (wpE (defs₀ (F := F)) Variants.none c none) E (κ) K))
          ⊢ wp frame (wpE (defs₀ (F := F)) Variants.none c none) E (stage3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 κ) K } := by
  refine ⟨?_, ?_, fun E κ K => ?run⟩
  case run =>
    unfold stage3
    iintro ⟨H2, H3, H4, H5, H6, H7, H8, H9, H10, H11, H12, H13, H14, H15, H16, H17, Hk⟩
    sl_exec (disch := sl_exact hc2)
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

set_option maxHeartbeats 4000000 in
/-- The last stretch at any other key tile: nothing is done. -/
def st3N (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole) (hc2 : ¬k0_cond2 i = 1#1)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty)  :
    { u : Unit //
      ∀ (E : Set ℕ) (κ : Prog (TpuEff nD τ sig (Elt F) Λ₀ .tc) PUnit) (K : PUnit → sProp 𝕄),
        iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)
            ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)) -∗ wp frame (wpE (defs₀ (F := F)) Variants.none c none) E (κ) K))
          ⊢ wp frame (wpE (defs₀ (F := F)) Variants.none c none) E (stage3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 κ) K } := by
  refine ⟨(), fun E κ K => ?run⟩
  case run =>
    unfold stage3
    iintro ⟨H2, H3, H4, H5, H6, H7, H8, H9, H10, H11, H12, H13, H14, H15, H16, H17, Hk⟩
    sl_exec (disch := sl_exact hc2)
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

end Cert.KernelIdeal.Hand

end
-- ==== Proof.KI.Body.lean ====
module

public import proofs.«01_k».proof.Proof.KI.Stage1
public import proofs.«01_k».proof.Proof.KI.Stage2
public import proofs.«01_k».proof.Proof.KI.Stage3

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! The whole body at any point, what it stores forgotten. -/

/-- The body after its first stretch: it runs, and hands every buffer back, the read ones as they were. -/
theorem rest_runs (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (arg0 arg1 : BitVec 32) (v0 : IVec S1x128 32) (v3 v5 : IVec S1x128 1) (v7 v9 : IVec S128x1 1) (v13 v14 : Vec F S512x128 .bf16) (v15 : Vec F S512x128 .f32) (v17 : FVec F S128x512 .f32) (v27 : FVec F S512x1 .f32) (v32 : IVec S1x128 1) (v33 v34 : FVec F S1x128 .bf16) (E : Set ℕ) (K : PUnit → sProp 𝕄) :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)
        ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (∃ g9, (arg9.view.loc (c : Thread nD τ) ↦[arg9.view.set]{fullShare} g9)) ∗ (∃ g10, (arg10.view.loc (c : Thread nD τ) ↦[arg10.view.set]{fullShare} g10)) ∗ (∃ g11, (arg11.view.loc (c : Thread nD τ) ↦[arg11.view.set]{fullShare} g11)) ∗ (∃ g12, (arg12.view.loc (c : Thread nD τ) ↦[arg12.view.set]{fullShare} g12)) ∗ (∃ g13, (arg13.view.loc (c : Thread nD τ) ↦[arg13.view.set]{fullShare} g13)) ∗ (∃ g14, (arg14.view.loc (c : Thread nD τ) ↦[arg14.view.set]{fullShare} g14)) ∗ (∃ g15, (arg15.view.loc (c : Thread nD τ) ↦[arg15.view.set]{fullShare} g15)) ∗ (∃ g16, (arg16.view.loc (c : Thread nD τ) ↦[arg16.view.set]{fullShare} g16)) ∗ (∃ g17, (arg17.view.loc (c : Thread nD τ) ↦[arg17.view.set]{fullShare} g17))) -∗ K ⟨⟩))
      ⊢ wp frame (wpE (defs₀ (F := F)) Variants.none c none) E (stage1.tail i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 arg1 v0 v3 v5 v7 v9 v13 v14 v15 v17 v27 v32 v33 v34) K := by
  rw [stage2.eq, stage3.eq]
  iintro ⟨H2, H3, H4, H5, H6, H7, H8, H9, H10, H11, H12, H13, H14, H15, H16, H17, Hk⟩
  iapply ((st2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34).2.2.2.2.2.2 E (stage3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 stage3.tail) K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H2, H3, H4, H5, H6, H7, H8, H9, H10, H11, H12, H13, H14, H15, H16, H17⟩
  by_cases hc2 : k0_cond2 i = 1#1
  · iapply ((st3C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc2 _ _ _ _ _ _ _ _ _ _ _ _ _ _ _ _).2.2 E stage3.tail K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iintro ⟨H2, H3, H4, H5, H6, H7, H8, H9, H10, H11, H12, H13, H14, H15, H16, H17⟩
    unfold stage3.tail; sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact H17
  · iapply ((st3N c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc2 _ _ _ _ _ _ _ _ _ _ _ _ _ _ _ _).2 E stage3.tail K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iintro ⟨H2, H3, H4, H5, H6, H7, H8, H9, H10, H11, H12, H13, H14, H15, H16, H17⟩
    unfold stage3.tail; sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact H17

/-- The body runs, and hands every buffer back, the read ones as they were. -/
theorem body_runs (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (E : Set ℕ) (K : PUnit → sProp 𝕄) :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)
        ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (∃ g9, (arg9.view.loc (c : Thread nD τ) ↦[arg9.view.set]{fullShare} g9)) ∗ (∃ g10, (arg10.view.loc (c : Thread nD τ) ↦[arg10.view.set]{fullShare} g10)) ∗ (∃ g11, (arg11.view.loc (c : Thread nD τ) ↦[arg11.view.set]{fullShare} g11)) ∗ (∃ g12, (arg12.view.loc (c : Thread nD τ) ↦[arg12.view.set]{fullShare} g12)) ∗ (∃ g13, (arg13.view.loc (c : Thread nD τ) ↦[arg13.view.set]{fullShare} g13)) ∗ (∃ g14, (arg14.view.loc (c : Thread nD τ) ↦[arg14.view.set]{fullShare} g14)) ∗ (∃ g15, (arg15.view.loc (c : Thread nD τ) ↦[arg15.view.set]{fullShare} g15)) ∗ (∃ g16, (arg16.view.loc (c : Thread nD τ) ↦[arg16.view.set]{fullShare} g16)) ∗ (∃ g17, (arg17.view.loc (c : Thread nD τ) ↦[arg17.view.set]{fullShare} g17))) -∗ K ⟨⟩))
      ⊢ wp frame (wpE (defs₀ (F := F)) Variants.none c none) E (cc0_attention_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_attention_bwd_eq_skeleton]
  rw [stage1.eq]
  iintro ⟨H2, H3, H4, H5, H6, H7, H8, H9, H10, H11, H12, H13, H14, H15, H16, H17, Hk⟩
  by_cases hc1 : k0_cond1 i = 1#1
  · iapply (st1A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 f2 f3 f4 f5 f6 f7 f8 f9 f10 f11 f12 f13 f14 f15 f16 f17 E (fun arg0 arg1 v0 v3 v5 v7 v9 v13 v14 v15 v17 v27 v32 v33 v34 => stage1.tail i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 arg1 v0 v3 v5 v7 v9 v13 v14 v15 v17 v27 v32 v33 v34) K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iintro ⟨H2, H3, H4, H5, H6, H7, H8, H9, H10, H11, H12, H13, H14, H15, H16, H17⟩
    iapply (rest_runs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ _ _ _ _ _ _ _ _ _ _ _ _ _ _ _ _ _ _ _ _ _ _ E K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact Hk
  · iapply ((st1N c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 f2 f3 f4 f5 f6 f7 f8 f9 f10 f11 f12 f13 f14 f15 f16 f17).2 E (fun arg0 arg1 v0 v3 v5 v7 v9 v13 v14 v15 v17 v27 v32 v33 v34 => stage1.tail i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 arg1 v0 v3 v5 v7 v9 v13 v14 v15 v17 v27 v32 v33 v34) K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iintro ⟨H2, H3, H4, H5, H6, H7, H8, H9, H10, H11, H12, H13, H14, H15, H16, H17⟩
    iapply (rest_runs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ _ _ _ _ _ _ _ _ _ _ _ _ _ _ _ _ _ _ _ _ _ _ E K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact Hk

end Cert.KernelIdeal.Hand

end
-- ==== Proof.KI.FrameRun.lean ====
module

public import proofs.«01_k».proof.Proof.KI.Body
public import Idealize.ShloMosaic.Lib.Claim
public import Idealize.ShloMosaic.Lib.Pipeline.FrameBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat RDat Cfg Window BodyObligationLoose)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! The frame: the body keeps its inputs' blocks, and what it leaves in the results is not stated. -/

abbrev ms_0 (t : Fin cfg0.N) : Memref sig .tc .vmem S4096x128 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S4096x128 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S4096x128 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x8x8x512 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S512x128 .bf16 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S512x128 .bf16 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S512x128 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S4096x128 .bf16 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S512x128 .bf16 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S512x128 .bf16 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S1x1x384 .f32 := win0_10.stage (cfg0.slots t 10)
abbrev hs_10 (t : Fin cfg0.N) : (ms_10 t).IsWhole := hstage0_10 ((cfg0.slots t 10).cast nbuf0_10)
abbrev ms_11 (t : Fin cfg0.N) : Memref sig .tc .vmem S1x512x128 .f32 := win0_11.stage (cfg0.slots t 11)
abbrev hs_11 (t : Fin cfg0.N) : (ms_11 t).IsWhole := hstage0_11 ((cfg0.slots t 11).cast nbuf0_11)
abbrev ms_12 (t : Fin cfg0.N) : Memref sig .tc .vmem S1x8x8x512 .f32 := win0_12.stage (cfg0.slots t 12)
abbrev hs_12 (t : Fin cfg0.N) : (ms_12 t).IsWhole := hstage0_12 ((cfg0.slots t 12).cast nbuf0_12)
abbrev sc_0 : Memref sig .tc .vmem S8x8x512 .f32 := Memref.whole cc0_scratch0
abbrev sc_1 : Memref sig .tc .vmem S8x128x512 .f32 := Memref.whole cc0_scratch1
abbrev sc_2 : Memref sig .tc .vmem S2x4096x128 .bf16 := Memref.whole cc0_scratch2

/-- The invariant's scratch buffers as memrefs owned at some contents. -/
theorem scratch_eq (c : Dev nD) :
    (Pipeline.ΦA spec0 c : sProp 𝕄) = iprop(iprop((∃ d, owns (c : Thread nD τ) sc_0 fullShare d) ∗ (∃ d, owns (c : Thread nD τ) sc_1 fullShare d) ∗ (∃ d, owns (c : Thread nD τ) sc_2 fullShare d)) ∗ (∃ r, prngReg c r)) := by
  unfold Pipeline.ΦA; rw [scopedRest0_eq]; simp only [sc_0, sc_1, sc_2, owns_whole]; try rfl

/-- The results' windows: what is left in them is not stated. -/
abbrev isRes : Fin cfg0.W → Bool := fun w => decide (7 ≤ w.val)

/-- The data of the region: the inputs' blocks as the region finds the arrays, the scratch at anything. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => fun _ => Classical.arbitrary _
    | ⟨8, _⟩ => fun _ => Classical.arbitrary _
    | ⟨9, _⟩ => fun _ => Classical.arbitrary _
    | ⟨10, _⟩ => fun _ => Classical.arbitrary _
    | ⟨11, _⟩ => fun _ => Classical.arbitrary _
    | ⟨12, _⟩ => fun _ => Classical.arbitrary _
  Φ _ := Pipeline.ΦA spec0 c
  q w := Pipeline.shareOf spec0 w
  owed _ := 0

theorem fA_eq (c : Dev nD) (w : Fin cfg0.W) : (fdats m 0 c).A w = V m c (Pipeline.arrRef spec0 w) := by
  dsimp only [fdats]
theorem fafter_0 (c : Dev nD) (t : Fin cfg0.N) : (fdats m 0 c).after 0 t = iblk m c 0 t := by dsimp only [fdats]
theorem fafter_1 (c : Dev nD) (t : Fin cfg0.N) : (fdats m 0 c).after 1 t = iblk m c 1 t := by dsimp only [fdats]
theorem fafter_2 (c : Dev nD) (t : Fin cfg0.N) : (fdats m 0 c).after 2 t = iblk m c 2 t := by dsimp only [fdats]
theorem fafter_3 (c : Dev nD) (t : Fin cfg0.N) : (fdats m 0 c).after 3 t = iblk m c 3 t := by dsimp only [fdats]
theorem fafter_4 (c : Dev nD) (t : Fin cfg0.N) : (fdats m 0 c).after 4 t = iblk m c 4 t := by dsimp only [fdats]
theorem fafter_5 (c : Dev nD) (t : Fin cfg0.N) : (fdats m 0 c).after 5 t = iblk m c 5 t := by dsimp only [fdats]
theorem fafter_6 (c : Dev nD) (t : Fin cfg0.N) : (fdats m 0 c).after 6 t = iblk m c 6 t := by dsimp only [fdats]
theorem fbefore_0 (c : Dev nD) (t : Fin cfg0.N) (d) : (fdats m 0 c).before 0 t d = iblk m c 0 t :=
  before0_0_of m (fdats m 0 c) (fA_eq m c 0) (fafter_0 m c) t d
theorem fbefore_1 (c : Dev nD) (t : Fin cfg0.N) (d) : (fdats m 0 c).before 1 t d = iblk m c 1 t :=
  before0_1_of m (fdats m 0 c) (fA_eq m c 1) (fafter_1 m c) t d
theorem fbefore_2 (c : Dev nD) (t : Fin cfg0.N) (d) : (fdats m 0 c).before 2 t d = iblk m c 2 t :=
  before0_2_of m (fdats m 0 c) (fA_eq m c 2) (fafter_2 m c) t d
theorem fbefore_3 (c : Dev nD) (t : Fin cfg0.N) (d) : (fdats m 0 c).before 3 t d = iblk m c 3 t :=
  before0_3_of m (fdats m 0 c) (fA_eq m c 3) (fafter_3 m c) t d
theorem fbefore_4 (c : Dev nD) (t : Fin cfg0.N) (d) : (fdats m 0 c).before 4 t d = iblk m c 4 t :=
  before0_4_of m (fdats m 0 c) (fA_eq m c 4) (fafter_4 m c) t d
theorem fbefore_5 (c : Dev nD) (t : Fin cfg0.N) (d) : (fdats m 0 c).before 5 t d = iblk m c 5 t :=
  before0_5_of m (fdats m 0 c) (fA_eq m c 5) (fafter_5 m c) t d
theorem fbefore_6 (c : Dev nD) (t : Fin cfg0.N) (d) : (fdats m 0 c).before 6 t d = iblk m c 6 t :=
  before0_6_of m (fdats m 0 c) (fA_eq m c 6) (fafter_6 m c) t d

/-- The body at any point, window by window. -/
theorem fsound (c : Dev nD) (t : Fin cfg0.N) :
    iprop((fdats m 0 c).Φ t.castSucc ∗ (fdats m 0 c).owesAt () t.castSucc ∗ (∃ d : Vec F S4096x128 .bf16, owns (c : Thread nD τ) (ms_0 t) fullShare ((fdats m 0 c).before 0 t d)) ∗ (∃ d : Vec F S4096x128 .bf16, owns (c : Thread nD τ) (ms_1 t) fullShare ((fdats m 0 c).before 1 t d)) ∗ (∃ d : Vec F S4096x128 .f32, owns (c : Thread nD τ) (ms_2 t) fullShare ((fdats m 0 c).before 2 t d)) ∗ (∃ d : Vec F S1x8x8x512 .f32, owns (c : Thread nD τ) (ms_3 t) fullShare ((fdats m 0 c).before 3 t d)) ∗ (∃ d : Vec F S512x128 .bf16, owns (c : Thread nD τ) (ms_4 t) fullShare ((fdats m 0 c).before 4 t d)) ∗ (∃ d : Vec F S512x128 .bf16, owns (c : Thread nD τ) (ms_5 t) fullShare ((fdats m 0 c).before 5 t d)) ∗ (∃ d : Vec F S512x128 .f32, owns (c : Thread nD τ) (ms_6 t) fullShare ((fdats m 0 c).before 6 t d)) ∗ (∃ X, owns (c : Thread nD τ) (ms_7 t) fullShare X) ∗ (∃ X, owns (c : Thread nD τ) (ms_8 t) fullShare X) ∗ (∃ X, owns (c : Thread nD τ) (ms_9 t) fullShare X) ∗ (∃ X, owns (c : Thread nD τ) (ms_10 t) fullShare X) ∗ (∃ X, owns (c : Thread nD τ) (ms_11 t) fullShare X) ∗ (∃ X, owns (c : Thread nD τ) (ms_12 t) fullShare X))
      ⊢ wp frame (wpE (defs₀ (F := F)) Variants.none c none) Set.univ (bodyAt0 t) fun _ =>
        iprop((fdats m 0 c).Φ t.succ ∗ (fdats m 0 c).owesAt () t.succ ∗ owns (c : Thread nD τ) (ms_0 t) fullShare ((fdats m 0 c).after 0 t) ∗ owns (c : Thread nD τ) (ms_1 t) fullShare ((fdats m 0 c).after 1 t) ∗ owns (c : Thread nD τ) (ms_2 t) fullShare ((fdats m 0 c).after 2 t) ∗ owns (c : Thread nD τ) (ms_3 t) fullShare ((fdats m 0 c).after 3 t) ∗ owns (c : Thread nD τ) (ms_4 t) fullShare ((fdats m 0 c).after 4 t) ∗ owns (c : Thread nD τ) (ms_5 t) fullShare ((fdats m 0 c).after 5 t) ∗ owns (c : Thread nD τ) (ms_6 t) fullShare ((fdats m 0 c).after 6 t) ∗ (∃ X, owns (c : Thread nD τ) (ms_7 t) fullShare X) ∗ (∃ X, owns (c : Thread nD τ) (ms_8 t) fullShare X) ∗ (∃ X, owns (c : Thread nD τ) (ms_9 t) fullShare X) ∗ (∃ X, owns (c : Thread nD τ) (ms_10 t) fullShare X) ∗ (∃ X, owns (c : Thread nD τ) (ms_11 t) fullShare X) ∗ (∃ X, owns (c : Thread nD τ) (ms_12 t) fullShare X)) := by
  simp only [fbefore_0, fbefore_1, fbefore_2, fbefore_3, fbefore_4, fbefore_5, fbefore_6, fafter_0, fafter_1, fafter_2, fafter_3, fafter_4, fafter_5, fafter_6]
  rw [show (fdats m 0 c).owesAt () t.succ = (fdats m 0 c).owesAt () t.castSucc from rfl,
    show (fdats m 0 c).Φ t.castSucc = Pipeline.ΦA spec0 c from rfl,
    show (fdats m 0 c).Φ t.succ = Pipeline.ΦA spec0 c from rfl, scratch_eq]
  unfold owns
  iintro ⟨⟨⟨⟨%d15, %f15, -, H15⟩, ⟨%d16, %f16, -, H16⟩, ⟨%d17, %f17, -, H17⟩⟩, Hg⟩, Ho, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩⟩
  iapply (body_runs c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) sc_0 (Memref.isWhole_whole _) sc_1 (Memref.isWhole_whole _) sc_2 (Memref.isWhole_whole _) _ _ _ _ _ _ _ _ _ _ _ _ _ _ _ _ Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H2, H3, H4, H5, H6, H7, H8, ⟨%g9, H9⟩, ⟨%g10, H10⟩, ⟨%g11, H11⟩, ⟨%g12, H12⟩, ⟨%g13, H13⟩, ⟨%g14, H14⟩, ⟨%g15, H15⟩, ⟨%g16, H16⟩, ⟨%g17, H17⟩⟩
  isplitl [H15 H16 H17 Hg]
  · isplitl [H15 H16 H17]
    · isplitl [H15]
      · iexists _; iexists _; isplitr
        swap; · iexact H15
        ipureintro; rfl
      isplitl [H16]
      · iexists _; iexists _; isplitr
        swap; · iexact H16
        ipureintro; rfl
      iexists _; iexists _; isplitr
      swap; · iexact H17
      ipureintro; rfl
    iexact Hg
  isplitl [Ho]; · iexact Ho
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact hf6
  isplitl [H7]
  · iexists _; isplitr
    swap; · iexact H7
    ipureintro; exact hf7
  isplitl [H8]
  · iexists _; isplitr
    swap; · iexact H8
    ipureintro; exact hf8
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  iexists _; iexists _; isplitr
  swap; · iexact H14
  ipureintro; rfl

theorem frow (t : Fin cfg0.N) :
    defs₀ (F := F) .tc cfg0.body (cfg0.bodyArgs t (cfg0.slots t)) = bodyAt0 t := by
  unfold defs₀; rw [Defs.onTc_tc]

/-- The obligation of the region, the results forgotten. -/
theorem fobligation (c : Dev nD) : BodyObligationLoose (fdats (F := F) m 0 c) (defs₀ (F := F)) Variants.none () Set.univ isRes := fun t => by
  rw [bigSep_W0, bigSep_W0, frow]
  exact triple_restated (fsound m c t) rfl .rfl fun _ => .rfl

set_option backward.isDefEq.respectTransparency.types false in
/-- The run: every array of an input ends as it was, and every counter at zero. -/
theorem frun : θ_run defs (onTc (τ := τ) (main (F := F))) (s₀ m ρ) (fun r =>
    RDat.FramePost cfg0 (fun c => (fdats m 0 c).toRForget isRes) (V m) r ∧ r.2.sem = fun _ => 0) :=
  Pipeline.θ_run_frame_forget_shared (Q' := _) cfgs (fdats m) (0 : Fin 1) launch₀0 defs₀ Variants.none isRes m ρ main
    (hbody := fobligation m) (hq := fun _ _ _ => rfl)
    (howed := fun _ _ => rfl) (V := V m) (hmain := hmain m Variants.none) (hA := fA_eq m) (hΦ := fun _ _ => rfl)

/-- The program runs, leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨(Pipeline.RDat.FramePost.arr_in h.1 c 5 rfl).trans ((fA_eq m c 5).trans (V_main_arg0 m c)),
      (Pipeline.RDat.FramePost.arr_in h.1 c 1 rfl).trans ((fA_eq m c 1).trans (V_main_arg1 m c)),
      (Pipeline.RDat.FramePost.arr_in h.1 c 2 rfl).trans ((fA_eq m c 2).trans (V_main_arg2 m c)),
      (Pipeline.RDat.FramePost.arr_in h.1 c 3 rfl).trans ((fA_eq m c 3).trans (V_main_arg3 m c)),
      (Pipeline.RDat.FramePost.arr_in h.1 c 6 rfl).trans ((fA_eq m c 6).trans (V_main_arg4 m c))⟩, h.2⟩) (frun m ρ)

end Cert.KernelIdeal.Hand

end
-- ==== Proof.V.Spec.lean ====
module

public import proofs.«01_k».proof.Proof.Gen.KernelIdeal.Skeleton
public import Idealize.ShloMosaic.Lib.Pointwise

@[expose] public section

noncomputable section

namespace Cert.KernelIdeal.Val

open Cert.KernelIdeal Cert.KernelIdeal.Gen
open Idealize.ShloMosaic

/-- What one grid point's products are made of: the queries, the output's cotangents, the rows' deltas, the queries and keys widened
    by the bias lanes, the values and the transposed keys, by head of the pair, row and lane. -/
structure Blk where
  Q : ℕ → ℕ → EReal
  DO : ℕ → ℕ → EReal
  ST : ℕ → ℕ → EReal
  QA : ℕ → ℕ → ℕ → EReal
  KA : ℕ → ℕ → ℕ → EReal
  VH : ℕ → ℕ → ℕ → EReal
  KT : ℕ → ℕ → ℕ → EReal

/-- A lane's value where the lane belongs to head `h` of the pair, else zero. -/
def lane (h l : ℕ) (x : EReal) : EReal := if (h = 0 ↔ l < 64) then x else 0

/-- The exponent of key `k` and query `q`. -/
def Blk.A (B : Blk) (h k q : ℕ) : EReal := ∑ l : Fin 128, B.KA h k l * B.QA h q l

/-- The probability of key `k` under query `q`, no mask. -/
def Blk.P (B : Blk) (h k q : ℕ) : EReal := Ideal.exp (B.A h k q)

/-- The score's gradient less the row's delta. -/
def Blk.G (B : Blk) (h k q : ℕ) : EReal := (∑ l : Fin 128, B.VH h k l * B.DO q l) - B.ST h q

/-- The gradient of the score of key `k` and query `q`, no mask. -/
def Blk.D (B : Blk) (h k q : ℕ) : EReal := B.P h k q * B.G h k q

/-- The arrays that all key tiles of a head pair share are those of `B`. -/
structure FitsQ (B : Blk) (X2 X3 : Vec Ideal S4096x128 .bf16) (X15 : Vec Ideal S8x8x512 .f32) (X17 : Vec Ideal S2x4096x128 .bf16) : Prop where
  q : ∀ (q : Fin 4096) (l : Fin 128), X2 (ix2 q l) = B.Q q l
  d : ∀ (q : Fin 4096) (l : Fin 128), X3 (ix2 q l) = B.DO q l
  s0 : ∀ (n : Fin 8) (x : Fin 512), X15 (ix3 n 0 x) = B.ST 0 (512 * n + x)
  s1 : ∀ (n : Fin 8) (x : Fin 512), X15 (ix3 n 1 x) = B.ST 1 (512 * n + x)
  a0 : ∀ (q : Fin 4096) (l : Fin 128), X17 (ix3 0 q l) = B.QA 0 q l
  a1 : ∀ (q : Fin 4096) (l : Fin 128), X17 (ix3 1 q l) = B.QA 1 q l

/-- The arrays of one key tile are those of `B`. -/
structure FitsK (B : Blk) (ka0 ka1 vh0 vh1 : Vec Ideal S512x128 .bf16) (kt0 kt1 : FVec Ideal S128x512 .bf16) : Prop where
  a0 : ∀ (k : Fin 512) (l : Fin 128), ka0 (ix2 k l) = B.KA 0 k l
  a1 : ∀ (k : Fin 512) (l : Fin 128), ka1 (ix2 k l) = B.KA 1 k l
  v0 : ∀ (k : Fin 512) (l : Fin 128), vh0 (ix2 k l) = B.VH 0 k l
  v1 : ∀ (k : Fin 512) (l : Fin 128), vh1 (ix2 k l) = B.VH 1 k l
  t0 : ∀ (l : Fin 128) (k : Fin 512), kt0 (ix2 l k) = B.KT 0 l k
  t1 : ∀ (l : Fin 128) (k : Fin 512), kt1 (ix2 l k) = B.KT 1 l k

theorem slt64 : ∀ l : Fin 128, IntOp.cmpi .slt (BitVec.ofNat 32 l.val) 64#32 = if l.val < 64 then 1#1 else 0#1 := by decide

theorem sge64 : ∀ l : Fin 128, IntOp.cmpi .sge (BitVec.ofNat 32 l.val) 64#32 = if l.val < 64 then 0#1 else 1#1 := by decide

theorem pay50_eq (l : Fin 128) : k0_pay50 (ix2 0 l) = if l.val < 64 then 1#1 else 0#1 := by
  pointwise [k0_pay50]
  exact slt64 l

theorem pay51_eq (l : Fin 128) : k0_pay51 (ix2 0 l) = if l.val < 64 then 0#1 else 1#1 := by
  pointwise [k0_pay51]
  exact sge64 l

theorem pay52_eq (l : Fin 128) : k0_pay52 (ix2 l 0) = if l.val < 64 then 1#1 else 0#1 := by
  pointwise [k0_pay52]
  exact slt64 l

theorem pay53_eq (l : Fin 128) : k0_pay53 (ix2 l 0) = if l.val < 64 then 0#1 else 1#1 := by
  pointwise [k0_pay53]
  exact sge64 l

theorem sel_lo (l : ℕ) (x : EReal) : Scalar.select (if l < 64 then 1#1 else 0#1) x (0 : EReal) = lane 0 l x := by
  unfold lane
  by_cases h : l < 64 <;> simp [h, Scalar.select]

theorem sel_hi (l : ℕ) (x : EReal) : Scalar.select (if l < 64 then 0#1 else 1#1) x (0 : EReal) = lane 1 l x := by
  unfold lane
  by_cases h : l < 64 <;> simp [h, Scalar.select]

end Cert.KernelIdeal.Val

end
-- ==== Proof.V.Trip.lean ====
module

public import Idealize.ShloMosaic.Lib.Pointwise
public import proofs.«01_k».proof.Proof.V.Spec
public import proofs.«01_k».proof.Proof.Gen.KernelIdeal.Loops
public import proofs.«01_k».proof.Proof.Gen.KernelIdeal.Frame
public import proofs.«01_k».proof.Proof.KI.Stage2

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem st_eq (j k x : ℕ) : 512 * (j + k + 1) + x = 512 * j + 512 * k + 512 + x := by omega

theorem trip_dk (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole) (arg1 : BitVec 32) (v0 : IVec S1x128 32) (v3 : IVec S1x128 1) (v5 : IVec S1x128 1) (v70 : Vec Ideal S512x128 .bf16) (v74 : Vec Ideal S512x128 .bf16) (v79 : FVec Ideal S128x512 .bf16) (v132 : Vec Ideal S512x128 .bf16) (v136 : Vec Ideal S512x128 .bf16) (v141 : FVec Ideal S128x512 .bf16) (v194 : FVec Ideal S256x1 .f32) (v233 : FVec Ideal S256x128 .f32) (v239 : FVec Ideal S256x128 .f32) (v244 : FVec Ideal S256x1 .f32) (v315 : FVec Ideal S256x1 .f32) (v354 : FVec Ideal S256x128 .f32) (v360 : FVec Ideal S256x128 .f32) (v365 : FVec Ideal S256x1 .f32) (v383 : FVec Ideal S1x128x256 .f32) (v388 : BitVec 32) (cst_133 : Ideal .bf16) (hc : cst_133 = (0 : EReal)) (X_arg2 : BufTy.Contents (Elt Ideal) arg2.view.ty) (X_arg3 : BufTy.Contents (Elt Ideal) arg3.view.ty) (X_arg15 : BufTy.Contents (Elt Ideal) arg15.view.ty) (X_arg17 : BufTy.Contents (Elt Ideal) arg17.view.ty) (k : Fin (k0_t2_loop i).trips) (acc) (f14) (f16) (B : Blk)
   (hQ : FitsQ B (arg2.view.read _ X_arg2) (arg3.view.read _ X_arg3) (arg15.view.read _ X_arg15) (arg17.view.read _ X_arg17)) (hK : FitsK B v70 v132 v74 v136 v79 v141) (hv3 : v3 = k0_pay50) (hv5 : v5 = k0_pay51) (p : Fin 512) (l : Fin 128) : ((trip_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v0 v3 v5 v70 v74 v79 v132 v136 v141 v194 v233 v239 v244 v315 v354 v360 v365 v383 v388 cst_133 X_arg2 X_arg3 X_arg15 X_arg17 k).1 acc f14 f16).1 (ix2 p l) = acc.1 (ix2 p l) + (∑ x : Fin 512, lane 0 l (B.D 0 p (512 * (i 1).val + 512 * k.val + 512 + x) * B.Q (512 * (i 1).val + 512 * k.val + 512 + x) l) + ∑ x : Fin 512, lane 1 l (B.D 1 p (512 * (i 1).val + 512 * k.val + 512 + x) * B.Q (512 * (i 1).val + 512 * k.val + 512 + x) l)) := by
  have e20 : BitVec.toNat (Scalar.indexCast (Scalar.addi (Scalar.muli (Scf.iv (Scalar.addi (BitVec.ofNat 32 (i 1).val) 1#32) 1#32 k.val) 512#32) 0#32)) = 512 * (i 1).val + 512 * k.val + 512 := congrFun (k0_off20_eq i k) 0
  have e21 : BitVec.toNat (Scalar.indexCast (Scf.iv (Scalar.addi (BitVec.ofNat 32 (i 1).val) 1#32) 1#32 k.val)) = (i 1).val + k.val + 1 := congrFun (k0_off21_eq i k) 0
  subst hv3 hv5 hc
  delta trip_k0_t2
  dsimp only
  sl_unfold_words
  simp only [View.readAt_eq_ld]
  pointwise [k0_pay17, k0_pay18, k0_pay19, k0_pay20, k0_pay21, k0_pay22, k0_pay23, k0_pay24, k0_pay25, k0_pay26, k0_pay27, k0_pay28, k0_pay29, k0_pay30, k0_pay16, k0_pay125, k0_pay126, k0_pay127, k0_pay128]
  simp only [e20, e21, hQ.q, hQ.d, hQ.s0, hQ.s1, hQ.a0, hQ.a1, hK.a0, hK.a1, hK.v0, hK.v1, hK.t0, hK.t1, pay50_eq, pay51_eq, sel_lo, sel_hi, Blk.D, Blk.P, Blk.A, Blk.G, st_eq]

theorem trip_dv (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole) (arg1 : BitVec 32) (v0 : IVec S1x128 32) (v3 : IVec S1x128 1) (v5 : IVec S1x128 1) (v70 : Vec Ideal S512x128 .bf16) (v74 : Vec Ideal S512x128 .bf16) (v79 : FVec Ideal S128x512 .bf16) (v132 : Vec Ideal S512x128 .bf16) (v136 : Vec Ideal S512x128 .bf16) (v141 : FVec Ideal S128x512 .bf16) (v194 : FVec Ideal S256x1 .f32) (v233 : FVec Ideal S256x128 .f32) (v239 : FVec Ideal S256x128 .f32) (v244 : FVec Ideal S256x1 .f32) (v315 : FVec Ideal S256x1 .f32) (v354 : FVec Ideal S256x128 .f32) (v360 : FVec Ideal S256x128 .f32) (v365 : FVec Ideal S256x1 .f32) (v383 : FVec Ideal S1x128x256 .f32) (v388 : BitVec 32) (cst_133 : Ideal .bf16) (hc : cst_133 = (0 : EReal)) (X_arg2 : BufTy.Contents (Elt Ideal) arg2.view.ty) (X_arg3 : BufTy.Contents (Elt Ideal) arg3.view.ty) (X_arg15 : BufTy.Contents (Elt Ideal) arg15.view.ty) (X_arg17 : BufTy.Contents (Elt Ideal) arg17.view.ty) (k : Fin (k0_t2_loop i).trips) (acc) (f14) (f16) (B : Blk)
   (hQ : FitsQ B (arg2.view.read _ X_arg2) (arg3.view.read _ X_arg3) (arg15.view.read _ X_arg15) (arg17.view.read _ X_arg17)) (hK : FitsK B v70 v132 v74 v136 v79 v141) (hv3 : v3 = k0_pay50) (hv5 : v5 = k0_pay51) (p : Fin 512) (l : Fin 128) : ((trip_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v0 v3 v5 v70 v74 v79 v132 v136 v141 v194 v233 v239 v244 v315 v354 v360 v365 v383 v388 cst_133 X_arg2 X_arg3 X_arg15 X_arg17 k).1 acc f14 f16).2.1 (ix2 p l) = acc.2.1 (ix2 p l) + (∑ x : Fin 512, lane 0 l (B.P 0 p (512 * (i 1).val + 512 * k.val + 512 + x) * B.DO (512 * (i 1).val + 512 * k.val + 512 + x) l) + ∑ x : Fin 512, lane 1 l (B.P 1 p (512 * (i 1).val + 512 * k.val + 512 + x) * B.DO (512 * (i 1).val + 512 * k.val + 512 + x) l)) := by
  have e20 : BitVec.toNat (Scalar.indexCast (Scalar.addi (Scalar.muli (Scf.iv (Scalar.addi (BitVec.ofNat 32 (i 1).val) 1#32) 1#32 k.val) 512#32) 0#32)) = 512 * (i 1).val + 512 * k.val + 512 := congrFun (k0_off20_eq i k) 0
  have e21 : BitVec.toNat (Scalar.indexCast (Scf.iv (Scalar.addi (BitVec.ofNat 32 (i 1).val) 1#32) 1#32 k.val)) = (i 1).val + k.val + 1 := congrFun (k0_off21_eq i k) 0
  subst hv3 hv5 hc
  delta trip_k0_t2
  dsimp only
  sl_unfold_words
  simp only [View.readAt_eq_ld]
  pointwise [k0_pay17, k0_pay18, k0_pay19, k0_pay20, k0_pay21, k0_pay22, k0_pay23, k0_pay24, k0_pay25, k0_pay26, k0_pay27, k0_pay28, k0_pay29, k0_pay30, k0_pay16, k0_pay125, k0_pay126, k0_pay127, k0_pay128]
  simp only [e20, e21, hQ.q, hQ.d, hQ.s0, hQ.s1, hQ.a0, hQ.a1, hK.a0, hK.a1, hK.v0, hK.v1, hK.t0, hK.t1, pay50_eq, pay51_eq, sel_lo, sel_hi, Blk.D, Blk.P, Blk.A, Blk.G, st_eq]

theorem trip_fa (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole) (arg1 : BitVec 32) (v0 : IVec S1x128 32) (v3 : IVec S1x128 1) (v5 : IVec S1x128 1) (v70 : Vec Ideal S512x128 .bf16) (v74 : Vec Ideal S512x128 .bf16) (v79 : FVec Ideal S128x512 .bf16) (v132 : Vec Ideal S512x128 .bf16) (v136 : Vec Ideal S512x128 .bf16) (v141 : FVec Ideal S128x512 .bf16) (v194 : FVec Ideal S256x1 .f32) (v233 : FVec Ideal S256x128 .f32) (v239 : FVec Ideal S256x128 .f32) (v244 : FVec Ideal S256x1 .f32) (v315 : FVec Ideal S256x1 .f32) (v354 : FVec Ideal S256x128 .f32) (v360 : FVec Ideal S256x128 .f32) (v365 : FVec Ideal S256x1 .f32) (v383 : FVec Ideal S1x128x256 .f32) (v388 : BitVec 32) (cst_133 : Ideal .bf16) (hc : cst_133 = (0 : EReal)) (X_arg2 : BufTy.Contents (Elt Ideal) arg2.view.ty) (X_arg3 : BufTy.Contents (Elt Ideal) arg3.view.ty) (X_arg15 : BufTy.Contents (Elt Ideal) arg15.view.ty) (X_arg17 : BufTy.Contents (Elt Ideal) arg17.view.ty) (k : Fin (k0_t2_loop i).trips) (acc) (f14) (f16) (B : Blk)
   (hQ : FitsQ B (arg2.view.read _ X_arg2) (arg3.view.read _ X_arg3) (arg15.view.read _ X_arg15) (arg17.view.read _ X_arg17)) (hK : FitsK B v70 v132 v74 v136 v79 v141) (hv3 : v3 = k0_pay50) (hv5 : v5 = k0_pay51) (p : Fin 512) : ((trip_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v0 v3 v5 v70 v74 v79 v132 v136 v141 v194 v233 v239 v244 v315 v354 v360 v365 v383 v388 cst_133 X_arg2 X_arg3 X_arg15 X_arg17 k).1 acc f14 f16).2.2.1 (ix2 p 0) = acc.2.2.1 (ix2 p 0) + ∑ x : Fin 512, B.D 0 p (512 * (i 1).val + 512 * k.val + 512 + x) := by
  have e20 : BitVec.toNat (Scalar.indexCast (Scalar.addi (Scalar.muli (Scf.iv (Scalar.addi (BitVec.ofNat 32 (i 1).val) 1#32) 1#32 k.val) 512#32) 0#32)) = 512 * (i 1).val + 512 * k.val + 512 := congrFun (k0_off20_eq i k) 0
  have e21 : BitVec.toNat (Scalar.indexCast (Scf.iv (Scalar.addi (BitVec.ofNat 32 (i 1).val) 1#32) 1#32 k.val)) = (i 1).val + k.val + 1 := congrFun (k0_off21_eq i k) 0
  subst hv3 hv5 hc
  delta trip_k0_t2
  dsimp only
  sl_unfold_words
  simp only [View.readAt_eq_ld]
  pointwise [k0_pay17, k0_pay18, k0_pay19, k0_pay20, k0_pay21, k0_pay22, k0_pay23, k0_pay24, k0_pay25, k0_pay26, k0_pay27, k0_pay28, k0_pay29, k0_pay30, k0_pay16, k0_pay125, k0_pay126, k0_pay127, k0_pay128]
  simp only [e20, e21, hQ.q, hQ.d, hQ.s0, hQ.s1, hQ.a0, hQ.a1, hK.a0, hK.a1, hK.v0, hK.v1, hK.t0, hK.t1, pay50_eq, pay51_eq, sel_lo, sel_hi, Blk.D, Blk.P, Blk.A, Blk.G, st_eq]

theorem trip_fb (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole) (arg1 : BitVec 32) (v0 : IVec S1x128 32) (v3 : IVec S1x128 1) (v5 : IVec S1x128 1) (v70 : Vec Ideal S512x128 .bf16) (v74 : Vec Ideal S512x128 .bf16) (v79 : FVec Ideal S128x512 .bf16) (v132 : Vec Ideal S512x128 .bf16) (v136 : Vec Ideal S512x128 .bf16) (v141 : FVec Ideal S128x512 .bf16) (v194 : FVec Ideal S256x1 .f32) (v233 : FVec Ideal S256x128 .f32) (v239 : FVec Ideal S256x128 .f32) (v244 : FVec Ideal S256x1 .f32) (v315 : FVec Ideal S256x1 .f32) (v354 : FVec Ideal S256x128 .f32) (v360 : FVec Ideal S256x128 .f32) (v365 : FVec Ideal S256x1 .f32) (v383 : FVec Ideal S1x128x256 .f32) (v388 : BitVec 32) (cst_133 : Ideal .bf16) (hc : cst_133 = (0 : EReal)) (X_arg2 : BufTy.Contents (Elt Ideal) arg2.view.ty) (X_arg3 : BufTy.Contents (Elt Ideal) arg3.view.ty) (X_arg15 : BufTy.Contents (Elt Ideal) arg15.view.ty) (X_arg17 : BufTy.Contents (Elt Ideal) arg17.view.ty) (k : Fin (k0_t2_loop i).trips) (acc) (f14) (f16) (B : Blk)
   (hQ : FitsQ B (arg2.view.read _ X_arg2) (arg3.view.read _ X_arg3) (arg15.view.read _ X_arg15) (arg17.view.read _ X_arg17)) (hK : FitsK B v70 v132 v74 v136 v79 v141) (hv3 : v3 = k0_pay50) (hv5 : v5 = k0_pay51) (p : Fin 512) : ((trip_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v0 v3 v5 v70 v74 v79 v132 v136 v141 v194 v233 v239 v244 v315 v354 v360 v365 v383 v388 cst_133 X_arg2 X_arg3 X_arg15 X_arg17 k).1 acc f14 f16).2.2.2 (ix2 p 0) = acc.2.2.2 (ix2 p 0) + ∑ x : Fin 512, B.D 1 p (512 * (i 1).val + 512 * k.val + 512 + x) := by
  have e20 : BitVec.toNat (Scalar.indexCast (Scalar.addi (Scalar.muli (Scf.iv (Scalar.addi (BitVec.ofNat 32 (i 1).val) 1#32) 1#32 k.val) 512#32) 0#32)) = 512 * (i 1).val + 512 * k.val + 512 := congrFun (k0_off20_eq i k) 0
  have e21 : BitVec.toNat (Scalar.indexCast (Scf.iv (Scalar.addi (BitVec.ofNat 32 (i 1).val) 1#32) 1#32 k.val)) = (i 1).val + k.val + 1 := congrFun (k0_off21_eq i k) 0
  subst hv3 hv5 hc
  delta trip_k0_t2
  dsimp only
  sl_unfold_words
  simp only [View.readAt_eq_ld]
  pointwise [k0_pay17, k0_pay18, k0_pay19, k0_pay20, k0_pay21, k0_pay22, k0_pay23, k0_pay24, k0_pay25, k0_pay26, k0_pay27, k0_pay28, k0_pay29, k0_pay30, k0_pay16, k0_pay125, k0_pay126, k0_pay127, k0_pay128]
  simp only [e20, e21, hQ.q, hQ.d, hQ.s0, hQ.s1, hQ.a0, hQ.a1, hK.a0, hK.a1, hK.v0, hK.v1, hK.t0, hK.t1, pay50_eq, pay51_eq, sel_lo, sel_hi, Blk.D, Blk.P, Blk.A, Blk.G, st_eq]

end Cert.KernelIdeal.Val
end
-- ==== Proof.V.Loop.lean ====
module

public import Idealize.ShloMosaic.Lib.Pointwise
public import proofs.«01_k».proof.Proof.V.Trip
public import proofs.«01_k».proof.Proof.Gen.KernelIdeal.Loops
public import proofs.«01_k».proof.Proof.Gen.KernelIdeal.Frame
public import proofs.«01_k».proof.Proof.KI.Stage2

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem tile_sum (n a : ℕ) (f : ℕ → EReal) : ∑ x : Fin n, f (a + x) = ∑ q ∈ Finset.Ico a (a + n), f q := by
  rw [Fin.sum_univ_eq_sum_range (fun x => f (a + x)) n, Finset.sum_Ico_eq_sum_range]
  simp

/-- What query `q` adds to the gradient of key `k` at lane `l`, no mask. -/
def Blk.FK (B : Blk) (k l q : ℕ) : EReal := lane 0 l (B.D 0 k q * B.Q q l) + lane 1 l (B.D 1 k q * B.Q q l)

/-- What query `q` adds to the gradient of value `k` at lane `l`, no mask. -/
def Blk.FV (B : Blk) (k l q : ℕ) : EReal := lane 0 l (B.P 0 k q * B.DO q l) + lane 1 l (B.P 1 k q * B.DO q l)

theorem loop_dk (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole) (arg1 : BitVec 32) (v0 : IVec S1x128 32) (v3 : IVec S1x128 1) (v5 : IVec S1x128 1) (v70 : Vec Ideal S512x128 .bf16) (v74 : Vec Ideal S512x128 .bf16) (v79 : FVec Ideal S128x512 .bf16) (v132 : Vec Ideal S512x128 .bf16) (v136 : Vec Ideal S512x128 .bf16) (v141 : FVec Ideal S128x512 .bf16) (v194 : FVec Ideal S256x1 .f32) (v233 : FVec Ideal S256x128 .f32) (v239 : FVec Ideal S256x128 .f32) (v244 : FVec Ideal S256x1 .f32) (v315 : FVec Ideal S256x1 .f32) (v354 : FVec Ideal S256x128 .f32) (v360 : FVec Ideal S256x128 .f32) (v365 : FVec Ideal S256x1 .f32) (v383 : FVec Ideal S1x128x256 .f32) (v388 : BitVec 32) (cst_133 : Ideal .bf16) (X_arg2 : BufTy.Contents (Elt Ideal) arg2.view.ty) (X_arg3 : BufTy.Contents (Elt Ideal) arg3.view.ty) (X_arg15 : BufTy.Contents (Elt Ideal) arg15.view.ty) (X_arg17 : BufTy.Contents (Elt Ideal) arg17.view.ty)  (G14) (G16) (init) (hc : cst_133 = (0 : EReal)) (B : Blk)
   (hQ : FitsQ B (arg2.view.read _ X_arg2) (arg3.view.read _ X_arg3) (arg15.view.read _ X_arg15) (arg17.view.read _ X_arg17)) (hK : FitsK B v70 v132 v74 v136 v79 v141) (hv3 : v3 = k0_pay50) (hv5 : v5 = k0_pay51) (p : Fin 512) (l : Fin 128) (k : ℕ) (hk : k ≤ (k0_t2_loop i).trips) :
    (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v0 v3 v5 v70 v74 v79 v132 v136 v141 v194 v233 v239 v244 v315 v354 v360 v365 v383 v388 cst_133 X_arg2 X_arg3 X_arg15 X_arg17 G14 G16 init k).1.1 (ix2 p l) = init.1 (ix2 p l) + ∑ q ∈ Finset.Ico (512 * (i 1).val + 512) (512 * (i 1).val + 512 * k + 512), B.FK p l q := by
  induction k with
  | zero => simp [st_k0_t2_zero]
  | succ k ih =>
    have e := congrArg (fun z => z.1.1 (ix2 p l)) (st_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v0 v3 v5 v70 v74 v79 v132 v136 v141 v194 v233 v239 v244 v315 v354 v360 v365 v383 v388 cst_133 X_arg2 X_arg3 X_arg15 X_arg17 G14 G16 init ⟨k, hk⟩)
    dsimp only at e
    unfold tripR_k0_t2 at e
    refine e.trans ?_
    rw [trip_dk 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v0 v3 v5 v70 v74 v79 v132 v136 v141 v194 v233 v239 v244 v315 v354 v360 v365 v383 v388 cst_133 hc X_arg2 X_arg3 X_arg15 X_arg17 ⟨k, hk⟩ _ _ _ B hQ hK hv3 hv5 p l]
    rw [ih (Nat.le_of_succ_le hk)]
    rw [show 512 * (i 1).val + 512 * (k + 1) + 512 = 512 * (i 1).val + 512 * k + 512 + 512 by omega]
    refine Eq.trans ?_ (congrArg (fun z => init.1 (ix2 p l) + z) (Finset.sum_Ico_consecutive (fun q => B.FK p l q) (m := 512 * (i 1).val + 512) (n := 512 * (i 1).val + 512 * k + 512) (k := 512 * (i 1).val + 512 * k + 512 + 512) (by omega) (by omega)))
    rw [← tile_sum 512 (512 * (i 1).val + 512 * k + 512)]
    refine Eq.trans ?_ (add_assoc _ _ _)
    refine congrArg _ ?_
    simp only [Blk.FK, Blk.FV, Finset.sum_add_distrib]

theorem loop_dv (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole) (arg1 : BitVec 32) (v0 : IVec S1x128 32) (v3 : IVec S1x128 1) (v5 : IVec S1x128 1) (v70 : Vec Ideal S512x128 .bf16) (v74 : Vec Ideal S512x128 .bf16) (v79 : FVec Ideal S128x512 .bf16) (v132 : Vec Ideal S512x128 .bf16) (v136 : Vec Ideal S512x128 .bf16) (v141 : FVec Ideal S128x512 .bf16) (v194 : FVec Ideal S256x1 .f32) (v233 : FVec Ideal S256x128 .f32) (v239 : FVec Ideal S256x128 .f32) (v244 : FVec Ideal S256x1 .f32) (v315 : FVec Ideal S256x1 .f32) (v354 : FVec Ideal S256x128 .f32) (v360 : FVec Ideal S256x128 .f32) (v365 : FVec Ideal S256x1 .f32) (v383 : FVec Ideal S1x128x256 .f32) (v388 : BitVec 32) (cst_133 : Ideal .bf16) (X_arg2 : BufTy.Contents (Elt Ideal) arg2.view.ty) (X_arg3 : BufTy.Contents (Elt Ideal) arg3.view.ty) (X_arg15 : BufTy.Contents (Elt Ideal) arg15.view.ty) (X_arg17 : BufTy.Contents (Elt Ideal) arg17.view.ty)  (G14) (G16) (init) (hc : cst_133 = (0 : EReal)) (B : Blk)
   (hQ : FitsQ B (arg2.view.read _ X_arg2) (arg3.view.read _ X_arg3) (arg15.view.read _ X_arg15) (arg17.view.read _ X_arg17)) (hK : FitsK B v70 v132 v74 v136 v79 v141) (hv3 : v3 = k0_pay50) (hv5 : v5 = k0_pay51) (p : Fin 512) (l : Fin 128) (k : ℕ) (hk : k ≤ (k0_t2_loop i).trips) :
    (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v0 v3 v5 v70 v74 v79 v132 v136 v141 v194 v233 v239 v244 v315 v354 v360 v365 v383 v388 cst_133 X_arg2 X_arg3 X_arg15 X_arg17 G14 G16 init k).1.2.1 (ix2 p l) = init.2.1 (ix2 p l) + ∑ q ∈ Finset.Ico (512 * (i 1).val + 512) (512 * (i 1).val + 512 * k + 512), B.FV p l q := by
  induction k with
  | zero => simp [st_k0_t2_zero]
  | succ k ih =>
    have e := congrArg (fun z => z.1.2.1 (ix2 p l)) (st_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v0 v3 v5 v70 v74 v79 v132 v136 v141 v194 v233 v239 v244 v315 v354 v360 v365 v383 v388 cst_133 X_arg2 X_arg3 X_arg15 X_arg17 G14 G16 init ⟨k, hk⟩)
    dsimp only at e
    unfold tripR_k0_t2 at e
    refine e.trans ?_
    rw [trip_dv 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v0 v3 v5 v70 v74 v79 v132 v136 v141 v194 v233 v239 v244 v315 v354 v360 v365 v383 v388 cst_133 hc X_arg2 X_arg3 X_arg15 X_arg17 ⟨k, hk⟩ _ _ _ B hQ hK hv3 hv5 p l]
    rw [ih (Nat.le_of_succ_le hk)]
    rw [show 512 * (i 1).val + 512 * (k + 1) + 512 = 512 * (i 1).val + 512 * k + 512 + 512 by omega]
    refine Eq.trans ?_ (congrArg (fun z => init.2.1 (ix2 p l) + z) (Finset.sum_Ico_consecutive (fun q => B.FV p l q) (m := 512 * (i 1).val + 512) (n := 512 * (i 1).val + 512 * k + 512) (k := 512 * (i 1).val + 512 * k + 512 + 512) (by omega) (by omega)))
    rw [← tile_sum 512 (512 * (i 1).val + 512 * k + 512)]
    refine Eq.trans ?_ (add_assoc _ _ _)
    refine congrArg _ ?_
    simp only [Blk.FK, Blk.FV, Finset.sum_add_distrib]

theorem loop_fa (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole) (arg1 : BitVec 32) (v0 : IVec S1x128 32) (v3 : IVec S1x128 1) (v5 : IVec S1x128 1) (v70 : Vec Ideal S512x128 .bf16) (v74 : Vec Ideal S512x128 .bf16) (v79 : FVec Ideal S128x512 .bf16) (v132 : Vec Ideal S512x128 .bf16) (v136 : Vec Ideal S512x128 .bf16) (v141 : FVec Ideal S128x512 .bf16) (v194 : FVec Ideal S256x1 .f32) (v233 : FVec Ideal S256x128 .f32) (v239 : FVec Ideal S256x128 .f32) (v244 : FVec Ideal S256x1 .f32) (v315 : FVec Ideal S256x1 .f32) (v354 : FVec Ideal S256x128 .f32) (v360 : FVec Ideal S256x128 .f32) (v365 : FVec Ideal S256x1 .f32) (v383 : FVec Ideal S1x128x256 .f32) (v388 : BitVec 32) (cst_133 : Ideal .bf16) (X_arg2 : BufTy.Contents (Elt Ideal) arg2.view.ty) (X_arg3 : BufTy.Contents (Elt Ideal) arg3.view.ty) (X_arg15 : BufTy.Contents (Elt Ideal) arg15.view.ty) (X_arg17 : BufTy.Contents (Elt Ideal) arg17.view.ty)  (G14) (G16) (init) (hc : cst_133 = (0 : EReal)) (B : Blk)
   (hQ : FitsQ B (arg2.view.read _ X_arg2) (arg3.view.read _ X_arg3) (arg15.view.read _ X_arg15) (arg17.view.read _ X_arg17)) (hK : FitsK B v70 v132 v74 v136 v79 v141) (hv3 : v3 = k0_pay50) (hv5 : v5 = k0_pay51) (p : Fin 512) (k : ℕ) (hk : k ≤ (k0_t2_loop i).trips) :
    (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v0 v3 v5 v70 v74 v79 v132 v136 v141 v194 v233 v239 v244 v315 v354 v360 v365 v383 v388 cst_133 X_arg2 X_arg3 X_arg15 X_arg17 G14 G16 init k).1.2.2.1 (ix2 p 0) = init.2.2.1 (ix2 p 0) + ∑ q ∈ Finset.Ico (512 * (i 1).val + 512) (512 * (i 1).val + 512 * k + 512), B.D 0 p q := by
  induction k with
  | zero => simp [st_k0_t2_zero]
  | succ k ih =>
    have e := congrArg (fun z => z.1.2.2.1 (ix2 p 0)) (st_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v0 v3 v5 v70 v74 v79 v132 v136 v141 v194 v233 v239 v244 v315 v354 v360 v365 v383 v388 cst_133 X_arg2 X_arg3 X_arg15 X_arg17 G14 G16 init ⟨k, hk⟩)
    dsimp only at e
    unfold tripR_k0_t2 at e
    refine e.trans ?_
    rw [trip_fa 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v0 v3 v5 v70 v74 v79 v132 v136 v141 v194 v233 v239 v244 v315 v354 v360 v365 v383 v388 cst_133 hc X_arg2 X_arg3 X_arg15 X_arg17 ⟨k, hk⟩ _ _ _ B hQ hK hv3 hv5 p]
    rw [ih (Nat.le_of_succ_le hk)]
    rw [show 512 * (i 1).val + 512 * (k + 1) + 512 = 512 * (i 1).val + 512 * k + 512 + 512 by omega]
    refine Eq.trans ?_ (congrArg (fun z => init.2.2.1 (ix2 p 0) + z) (Finset.sum_Ico_consecutive (fun q => B.D 0 p q) (m := 512 * (i 1).val + 512) (n := 512 * (i 1).val + 512 * k + 512) (k := 512 * (i 1).val + 512 * k + 512 + 512) (by omega) (by omega)))
    rw [← tile_sum 512 (512 * (i 1).val + 512 * k + 512)]
    refine Eq.trans ?_ (add_assoc _ _ _)
    refine congrArg _ ?_
    simp only [Blk.FK, Blk.FV, Finset.sum_add_distrib]

theorem loop_fb (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole) (arg1 : BitVec 32) (v0 : IVec S1x128 32) (v3 : IVec S1x128 1) (v5 : IVec S1x128 1) (v70 : Vec Ideal S512x128 .bf16) (v74 : Vec Ideal S512x128 .bf16) (v79 : FVec Ideal S128x512 .bf16) (v132 : Vec Ideal S512x128 .bf16) (v136 : Vec Ideal S512x128 .bf16) (v141 : FVec Ideal S128x512 .bf16) (v194 : FVec Ideal S256x1 .f32) (v233 : FVec Ideal S256x128 .f32) (v239 : FVec Ideal S256x128 .f32) (v244 : FVec Ideal S256x1 .f32) (v315 : FVec Ideal S256x1 .f32) (v354 : FVec Ideal S256x128 .f32) (v360 : FVec Ideal S256x128 .f32) (v365 : FVec Ideal S256x1 .f32) (v383 : FVec Ideal S1x128x256 .f32) (v388 : BitVec 32) (cst_133 : Ideal .bf16) (X_arg2 : BufTy.Contents (Elt Ideal) arg2.view.ty) (X_arg3 : BufTy.Contents (Elt Ideal) arg3.view.ty) (X_arg15 : BufTy.Contents (Elt Ideal) arg15.view.ty) (X_arg17 : BufTy.Contents (Elt Ideal) arg17.view.ty)  (G14) (G16) (init) (hc : cst_133 = (0 : EReal)) (B : Blk)
   (hQ : FitsQ B (arg2.view.read _ X_arg2) (arg3.view.read _ X_arg3) (arg15.view.read _ X_arg15) (arg17.view.read _ X_arg17)) (hK : FitsK B v70 v132 v74 v136 v79 v141) (hv3 : v3 = k0_pay50) (hv5 : v5 = k0_pay51) (p : Fin 512) (k : ℕ) (hk : k ≤ (k0_t2_loop i).trips) :
    (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v0 v3 v5 v70 v74 v79 v132 v136 v141 v194 v233 v239 v244 v315 v354 v360 v365 v383 v388 cst_133 X_arg2 X_arg3 X_arg15 X_arg17 G14 G16 init k).1.2.2.2 (ix2 p 0) = init.2.2.2 (ix2 p 0) + ∑ q ∈ Finset.Ico (512 * (i 1).val + 512) (512 * (i 1).val + 512 * k + 512), B.D 1 p q := by
  induction k with
  | zero => simp [st_k0_t2_zero]
  | succ k ih =>
    have e := congrArg (fun z => z.1.2.2.2 (ix2 p 0)) (st_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v0 v3 v5 v70 v74 v79 v132 v136 v141 v194 v233 v239 v244 v315 v354 v360 v365 v383 v388 cst_133 X_arg2 X_arg3 X_arg15 X_arg17 G14 G16 init ⟨k, hk⟩)
    dsimp only at e
    unfold tripR_k0_t2 at e
    refine e.trans ?_
    rw [trip_fb 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v0 v3 v5 v70 v74 v79 v132 v136 v141 v194 v233 v239 v244 v315 v354 v360 v365 v383 v388 cst_133 hc X_arg2 X_arg3 X_arg15 X_arg17 ⟨k, hk⟩ _ _ _ B hQ hK hv3 hv5 p]
    rw [ih (Nat.le_of_succ_le hk)]
    rw [show 512 * (i 1).val + 512 * (k + 1) + 512 = 512 * (i 1).val + 512 * k + 512 + 512 by omega]
    refine Eq.trans ?_ (congrArg (fun z => init.2.2.2 (ix2 p 0) + z) (Finset.sum_Ico_consecutive (fun q => B.D 1 p q) (m := 512 * (i 1).val + 512) (n := 512 * (i 1).val + 512 * k + 512) (k := 512 * (i 1).val + 512 * k + 512 + 512) (by omega) (by omega)))
    rw [← tile_sum 512 (512 * (i 1).val + 512 * k + 512)]
    refine Eq.trans ?_ (add_assoc _ _ _)
    refine congrArg _ ?_
    simp only [Blk.FK, Blk.FV, Finset.sum_add_distrib]

end Cert.KernelIdeal.Val
end
-- ==== Proof.V.Diag.lean ====
module

public import Idealize.ShloMosaic.Lib.Pointwise
public import Idealize.ShloMosaic.Lib.WordCmp
public import proofs.«01_k».proof.Proof.V.Loop
public import proofs.«01_k».proof.Proof.Gen.KernelIdeal.Loops
public import proofs.«01_k».proof.Proof.Gen.KernelIdeal.Frame
public import proofs.«01_k».proof.Proof.KI.Stage2

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem mask_sel (a : ℕ) (p x : ℕ) (hp : p + a < 2 ^ 31) (hx : x + a < 2 ^ 31) (A : EReal) :
    Ideal.exp (Scalar.select (IntOp.cmpi .sle (IntOp.addi (BitVec.ofNat 32 p) (BitVec.ofNat 32 a)) (IntOp.addi (BitVec.ofNat 32 x) (BitVec.ofNat 32 a))) A
      (Named.named (F := Ideal) κ "mask" (φ := .f32) 4048155338#32)) = if p ≤ x then Ideal.exp A else 0 := by
  have e : ∀ y : ℕ, IntOp.addi (BitVec.ofNat 32 y) (BitVec.ofNat 32 a) = BitVec.ofNat 32 (y + a) := fun y => (BitVec.ofNat_add y a).symm
  rw [e, e, WordCmp.cmpi_sle_ofNat (by simpa using hp) (by simpa using hx)]
  have hn : Named.named (F := Ideal) κ "mask" (φ := .f32) 4048155338#32 = (⊥ : EReal) := rfl
  rw [hn]
  by_cases h : p ≤ x <;> simp [h, Scalar.select, Ideal.exp_bot]

theorem mask_sel0 (p : Fin 256) (x : Fin 512) (A : EReal) :
    Ideal.exp (Scalar.select (IntOp.cmpi .sle (IntOp.addi (BitVec.ofNat 32 p.val) 0#32) (IntOp.addi (BitVec.ofNat 32 x.val) 0#32)) A
      (Named.named (F := Ideal) κ "mask" (φ := .f32) 4048155338#32)) = if p.val ≤ x.val then Ideal.exp A else 0 :=
  mask_sel 0 p x (by omega) (by omega) A

theorem mask_sel256 (p : Fin 256) (x : Fin 256) (A : EReal) :
    Ideal.exp (Scalar.select (IntOp.cmpi .sle (IntOp.addi (BitVec.ofNat 32 p.val) 256#32) (IntOp.addi (BitVec.ofNat 32 x.val) 256#32)) A
      (Named.named (F := Ideal) κ "mask" (φ := .f32) 4048155338#32)) = if p.val ≤ x.val then Ideal.exp A else 0 :=
  mask_sel 256 p x (by omega) (by omega) A

theorem off_simp (i : grid0.Coords) : k0_off7 i 0 = 512 * (i 1).val ∧ k0_off7 i 1 = 0 ∧ k0_off8 i 0 = (i 1).val ∧ k0_off8 i 1 = 0 ∧ k0_off8 i 2 = 0 ∧
    k0_off9 i 0 = 0 ∧ k0_off9 i 1 = 512 * (i 1).val ∧ k0_off9 i 2 = 0 ∧ k0_off11 i 0 = 1 ∧ k0_off11 i 1 = 512 * (i 1).val ∧ k0_off11 i 2 = 0 ∧
    k0_off14 i 0 = 512 * (i 1).val + 256 ∧ k0_off14 i 1 = 0 ∧ k0_off15 i 0 = 0 ∧ k0_off15 i 1 = 512 * (i 1).val + 256 ∧ k0_off15 i 2 = 0 ∧
    k0_off17 i 0 = 1 ∧ k0_off17 i 1 = 512 * (i 1).val + 256 ∧ k0_off17 i 2 = 0 := by
  rw [k0_off7_eq, k0_off8_eq, k0_off9_eq, k0_off11_eq, k0_off14_eq, k0_off15_eq, k0_off17_eq]
  exact ⟨rfl, rfl, rfl, rfl, rfl, rfl, rfl, rfl, rfl, rfl, rfl, rfl, rfl, rfl, rfl, rfl, rfl, rfl, rfl⟩

variable (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole)
  (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (arg0 arg1 : BitVec 32) (v0 : IVec S1x128 32) (v3 v5 : IVec S1x128 1) (v7 v9 : IVec S128x1 1) (v13 v14 : Vec Ideal S512x128 .bf16) (v15 : Vec Ideal S512x128 .f32) (v17 : FVec Ideal S128x512 .f32) (v27 : FVec Ideal S512x1 .f32) (v32 : IVec S1x128 1) (v33 v34 : FVec Ideal S1x128 .bf16) (B : Blk)
include c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B

theorem diag_dk_early
   (hQ : FitsQ B (arg2.view.read _ f2) (arg3.view.read _ f3) (arg15.view.read _ f15) (arg17.view.read _ f17))
   (hK : FitsK B (k0_pay63 v0 v3 v13 v27 v32 v33 v34) (st2.sl.r arg0 v0 v5 v13 v15) (k0_pay64 v3 v14) (k0_pay70 v14 (k0_pay68 v5) k0_pay69) (k0_pay65 v7 v17) (k0_pay71 v9 v17)) (hv3 : v3 = k0_pay50) (hv5 : v5 = k0_pay51) (p : Fin 256) (l : Fin 128) : st2.sl.r_14 (F := Ideal) i arg2 arg3 arg15 arg17 f2 f3 f15 f17 arg0 v0 v3 v5 v13 v14 v15 v27 v32 v33 v34 (ix2 p l) = ∑ x : Fin 512, if p.val ≤ x.val then B.FK p l (512 * (i 1).val + x) else 0 := by
  subst hv3 hv5
  simp only [st2.sl.r_1, st2.sl.r_2, st2.sl.r_3, st2.sl.r_4, st2.sl.r_5, st2.sl.r_6, st2.sl.r_7, st2.sl.r_8, st2.sl.r_9, st2.sl.r_10, st2.sl.r_11, st2.sl.r_12, st2.sl.r_13, st2.sl.r_14, st2.sl.r_15, st2.sl.r_16, st2.sl.r_17, st2.sl.r_18, st2.sl.r_19, st2.sl.r_20, st2.sl.r_21, st2.sl.r_22, st2.sl.r_23, st2.sl.r_24, st2.sl.r_25, st2.sl.r_26, st2.sl.r_27, st2.sl.r_28, st2.sl.r_29, st2.sl.r_30, st2.sl.r_31, st2.sl.cst_45, st2.sl.cst_114]
  simp only [View.readAt_eq_ld, k0_off7_eq, k0_off8_eq, k0_off9_eq, k0_off11_eq, k0_off14_eq, k0_off15_eq, k0_off17_eq]
  pointwise [k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118]
  simp only [hQ.q, hQ.d, hQ.s0, hQ.s1, hQ.a0, hQ.a1, hK.a0, hK.a1, hK.v0, hK.v1, hK.t0, hK.t1, pay50_eq, pay51_eq, sel_lo, sel_hi]
  obtain ⟨e1, e2, e3, e4, e5, e6, e7, e8, e9, e10, e11, e12, e13, e14, e15, e16, e17, e18, e19⟩ := off_simp i
  simp only [e1, e2, e3, e4, e5, e6, e7, e8, e9, e10, e11, e12, e13, e14, e15, e16, e17, e18, e19, zero_add, Fin.mk_zero, Fin.mk_one, Fin.zero_eta, Fin.eta, hQ.q, hQ.d, hQ.s0, hQ.s1, hQ.a0, hQ.a1]
  simp only [mask_sel0]
  rw [← Finset.sum_add_distrib]
  refine Finset.sum_congr rfl fun x _ => ?_
  by_cases hx : p.val ≤ x.val
  · simp only [hx, if_true, Blk.FK, Blk.FV, Blk.D, Blk.P, Blk.A, Blk.G, ← Nat.add_assoc]
  · simp only [hx, if_false, zero_mul, lane, ite_self, add_zero]

theorem diag_dk_late
   (hQ : FitsQ B (arg2.view.read _ f2) (arg3.view.read _ f3) (arg15.view.read _ f15) (arg17.view.read _ f17))
   (hK : FitsK B (k0_pay63 v0 v3 v13 v27 v32 v33 v34) (st2.sl.r arg0 v0 v5 v13 v15) (k0_pay64 v3 v14) (k0_pay70 v14 (k0_pay68 v5) k0_pay69) (k0_pay65 v7 v17) (k0_pay71 v9 v17)) (hv3 : v3 = k0_pay50) (hv5 : v5 = k0_pay51) (p : Fin 256) (l : Fin 128) : st2.sl.r_30 (F := Ideal) i arg2 arg3 arg15 arg17 f2 f3 f15 f17 arg0 v0 v3 v5 v13 v14 v15 v27 v32 v33 v34 (ix2 p l) = ∑ x : Fin 256, if p.val ≤ x.val then B.FK (256 + p) l (512 * (i 1).val + 256 + x) else 0 := by
  subst hv3 hv5
  simp only [st2.sl.r_1, st2.sl.r_2, st2.sl.r_3, st2.sl.r_4, st2.sl.r_5, st2.sl.r_6, st2.sl.r_7, st2.sl.r_8, st2.sl.r_9, st2.sl.r_10, st2.sl.r_11, st2.sl.r_12, st2.sl.r_13, st2.sl.r_14, st2.sl.r_15, st2.sl.r_16, st2.sl.r_17, st2.sl.r_18, st2.sl.r_19, st2.sl.r_20, st2.sl.r_21, st2.sl.r_22, st2.sl.r_23, st2.sl.r_24, st2.sl.r_25, st2.sl.r_26, st2.sl.r_27, st2.sl.r_28, st2.sl.r_29, st2.sl.r_30, st2.sl.r_31, st2.sl.cst_45, st2.sl.cst_114]
  simp only [View.readAt_eq_ld, k0_off7_eq, k0_off8_eq, k0_off9_eq, k0_off11_eq, k0_off14_eq, k0_off15_eq, k0_off17_eq]
  pointwise [k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118]
  simp only [hQ.q, hQ.d, hQ.s0, hQ.s1, hQ.a0, hQ.a1, hK.a0, hK.a1, hK.v0, hK.v1, hK.t0, hK.t1, pay50_eq, pay51_eq, sel_lo, sel_hi]
  obtain ⟨e1, e2, e3, e4, e5, e6, e7, e8, e9, e10, e11, e12, e13, e14, e15, e16, e17, e18, e19⟩ := off_simp i
  simp only [e1, e2, e3, e4, e5, e6, e7, e8, e9, e10, e11, e12, e13, e14, e15, e16, e17, e18, e19, zero_add, Fin.mk_zero, Fin.mk_one, Fin.zero_eta, Fin.eta, hQ.q, hQ.d, hQ.s0, hQ.s1, hQ.a0, hQ.a1]
  simp only [mask_sel256]
  rw [← Finset.sum_add_distrib]
  refine Finset.sum_congr rfl fun x _ => ?_
  by_cases hx : p.val ≤ x.val
  · simp only [hx, if_true, Blk.FK, Blk.FV, Blk.D, Blk.P, Blk.A, Blk.G, ← Nat.add_assoc]
  · simp only [hx, if_false, zero_mul, lane, ite_self, add_zero]

theorem diag_dv_early
   (hQ : FitsQ B (arg2.view.read _ f2) (arg3.view.read _ f3) (arg15.view.read _ f15) (arg17.view.read _ f17))
   (hK : FitsK B (k0_pay63 v0 v3 v13 v27 v32 v33 v34) (st2.sl.r arg0 v0 v5 v13 v15) (k0_pay64 v3 v14) (k0_pay70 v14 (k0_pay68 v5) k0_pay69) (k0_pay65 v7 v17) (k0_pay71 v9 v17)) (hv3 : v3 = k0_pay50) (hv5 : v5 = k0_pay51) (p : Fin 256) (l : Fin 128) : st2.sl.r_13 (F := Ideal) i arg3 arg17 f3 f17 arg0 v0 v3 v5 v13 v15 v27 v32 v33 v34 (ix2 p l) = ∑ x : Fin 512, if p.val ≤ x.val then B.FV p l (512 * (i 1).val + x) else 0 := by
  subst hv3 hv5
  simp only [st2.sl.r_1, st2.sl.r_2, st2.sl.r_3, st2.sl.r_4, st2.sl.r_5, st2.sl.r_6, st2.sl.r_7, st2.sl.r_8, st2.sl.r_9, st2.sl.r_10, st2.sl.r_11, st2.sl.r_12, st2.sl.r_13, st2.sl.r_14, st2.sl.r_15, st2.sl.r_16, st2.sl.r_17, st2.sl.r_18, st2.sl.r_19, st2.sl.r_20, st2.sl.r_21, st2.sl.r_22, st2.sl.r_23, st2.sl.r_24, st2.sl.r_25, st2.sl.r_26, st2.sl.r_27, st2.sl.r_28, st2.sl.r_29, st2.sl.r_30, st2.sl.r_31, st2.sl.cst_45, st2.sl.cst_114]
  simp only [View.readAt_eq_ld, k0_off7_eq, k0_off8_eq, k0_off9_eq, k0_off11_eq, k0_off14_eq, k0_off15_eq, k0_off17_eq]
  pointwise [k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118]
  simp only [hQ.q, hQ.d, hQ.s0, hQ.s1, hQ.a0, hQ.a1, hK.a0, hK.a1, hK.v0, hK.v1, hK.t0, hK.t1, pay50_eq, pay51_eq, sel_lo, sel_hi]
  obtain ⟨e1, e2, e3, e4, e5, e6, e7, e8, e9, e10, e11, e12, e13, e14, e15, e16, e17, e18, e19⟩ := off_simp i
  simp only [e1, e2, e3, e4, e5, e6, e7, e8, e9, e10, e11, e12, e13, e14, e15, e16, e17, e18, e19, zero_add, Fin.mk_zero, Fin.mk_one, Fin.zero_eta, Fin.eta, hQ.q, hQ.d, hQ.s0, hQ.s1, hQ.a0, hQ.a1]
  simp only [mask_sel0]
  rw [← Finset.sum_add_distrib]
  refine Finset.sum_congr rfl fun x _ => ?_
  by_cases hx : p.val ≤ x.val
  · simp only [hx, if_true, Blk.FK, Blk.FV, Blk.D, Blk.P, Blk.A, Blk.G, ← Nat.add_assoc]
  · simp only [hx, if_false, zero_mul, lane, ite_self, add_zero]

theorem diag_dv_late
   (hQ : FitsQ B (arg2.view.read _ f2) (arg3.view.read _ f3) (arg15.view.read _ f15) (arg17.view.read _ f17))
   (hK : FitsK B (k0_pay63 v0 v3 v13 v27 v32 v33 v34) (st2.sl.r arg0 v0 v5 v13 v15) (k0_pay64 v3 v14) (k0_pay70 v14 (k0_pay68 v5) k0_pay69) (k0_pay65 v7 v17) (k0_pay71 v9 v17)) (hv3 : v3 = k0_pay50) (hv5 : v5 = k0_pay51) (p : Fin 256) (l : Fin 128) : st2.sl.r_29 (F := Ideal) i arg3 arg17 f3 f17 arg0 v0 v3 v5 v13 v15 v27 v32 v33 v34 (ix2 p l) = ∑ x : Fin 256, if p.val ≤ x.val then B.FV (256 + p) l (512 * (i 1).val + 256 + x) else 0 := by
  subst hv3 hv5
  simp only [st2.sl.r_1, st2.sl.r_2, st2.sl.r_3, st2.sl.r_4, st2.sl.r_5, st2.sl.r_6, st2.sl.r_7, st2.sl.r_8, st2.sl.r_9, st2.sl.r_10, st2.sl.r_11, st2.sl.r_12, st2.sl.r_13, st2.sl.r_14, st2.sl.r_15, st2.sl.r_16, st2.sl.r_17, st2.sl.r_18, st2.sl.r_19, st2.sl.r_20, st2.sl.r_21, st2.sl.r_22, st2.sl.r_23, st2.sl.r_24, st2.sl.r_25, st2.sl.r_26, st2.sl.r_27, st2.sl.r_28, st2.sl.r_29, st2.sl.r_30, st2.sl.r_31, st2.sl.cst_45, st2.sl.cst_114]
  simp only [View.readAt_eq_ld, k0_off7_eq, k0_off8_eq, k0_off9_eq, k0_off11_eq, k0_off14_eq, k0_off15_eq, k0_off17_eq]
  pointwise [k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118]
  simp only [hQ.q, hQ.d, hQ.s0, hQ.s1, hQ.a0, hQ.a1, hK.a0, hK.a1, hK.v0, hK.v1, hK.t0, hK.t1, pay50_eq, pay51_eq, sel_lo, sel_hi]
  obtain ⟨e1, e2, e3, e4, e5, e6, e7, e8, e9, e10, e11, e12, e13, e14, e15, e16, e17, e18, e19⟩ := off_simp i
  simp only [e1, e2, e3, e4, e5, e6, e7, e8, e9, e10, e11, e12, e13, e14, e15, e16, e17, e18, e19, zero_add, Fin.mk_zero, Fin.mk_one, Fin.zero_eta, Fin.eta, hQ.q, hQ.d, hQ.s0, hQ.s1, hQ.a0, hQ.a1]
  simp only [mask_sel256]
  rw [← Finset.sum_add_distrib]
  refine Finset.sum_congr rfl fun x _ => ?_
  by_cases hx : p.val ≤ x.val
  · simp only [hx, if_true, Blk.FK, Blk.FV, Blk.D, Blk.P, Blk.A, Blk.G, ← Nat.add_assoc]
  · simp only [hx, if_false, zero_mul, lane, ite_self, add_zero]

theorem diag_fa_early
   (hQ : FitsQ B (arg2.view.read _ f2) (arg3.view.read _ f3) (arg15.view.read _ f15) (arg17.view.read _ f17))
   (hK : FitsK B (k0_pay63 v0 v3 v13 v27 v32 v33 v34) (st2.sl.r arg0 v0 v5 v13 v15) (k0_pay64 v3 v14) (k0_pay70 v14 (k0_pay68 v5) k0_pay69) (k0_pay65 v7 v17) (k0_pay71 v9 v17)) (hv3 : v3 = k0_pay50) (hv5 : v5 = k0_pay51) (p : Fin 256) : st2.sl.r_11 (F := Ideal) i arg3 arg15 arg17 f3 f15 f17 v0 v3 v13 v14 v27 v32 v33 v34 (ix2 p 0) = ∑ x : Fin 512, if p.val ≤ x.val then B.D 0 p (512 * (i 1).val + x) else 0 := by
  subst hv3 hv5
  simp only [st2.sl.r_1, st2.sl.r_2, st2.sl.r_3, st2.sl.r_4, st2.sl.r_5, st2.sl.r_6, st2.sl.r_7, st2.sl.r_8, st2.sl.r_9, st2.sl.r_10, st2.sl.r_11, st2.sl.r_12, st2.sl.r_13, st2.sl.r_14, st2.sl.r_15, st2.sl.r_16, st2.sl.r_17, st2.sl.r_18, st2.sl.r_19, st2.sl.r_20, st2.sl.r_21, st2.sl.r_22, st2.sl.r_23, st2.sl.r_24, st2.sl.r_25, st2.sl.r_26, st2.sl.r_27, st2.sl.r_28, st2.sl.r_29, st2.sl.r_30, st2.sl.r_31, st2.sl.cst_45, st2.sl.cst_114]
  simp only [View.readAt_eq_ld, k0_off7_eq, k0_off8_eq, k0_off9_eq, k0_off11_eq, k0_off14_eq, k0_off15_eq, k0_off17_eq]
  pointwise [k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118]
  simp only [hQ.q, hQ.d, hQ.s0, hQ.s1, hQ.a0, hQ.a1, hK.a0, hK.a1, hK.v0, hK.v1, hK.t0, hK.t1, pay50_eq, pay51_eq, sel_lo, sel_hi]
  obtain ⟨e1, e2, e3, e4, e5, e6, e7, e8, e9, e10, e11, e12, e13, e14, e15, e16, e17, e18, e19⟩ := off_simp i
  simp only [e1, e2, e3, e4, e5, e6, e7, e8, e9, e10, e11, e12, e13, e14, e15, e16, e17, e18, e19, zero_add, Fin.mk_zero, Fin.mk_one, Fin.zero_eta, Fin.eta, hQ.q, hQ.d, hQ.s0, hQ.s1, hQ.a0, hQ.a1]
  simp only [mask_sel0]
  refine Finset.sum_congr rfl fun x _ => ?_
  by_cases hx : p.val ≤ x.val
  · simp only [hx, if_true, Blk.FK, Blk.FV, Blk.D, Blk.P, Blk.A, Blk.G, ← Nat.add_assoc]
  · simp only [hx, if_false, zero_mul, lane, ite_self, add_zero]

theorem diag_fa_late
   (hQ : FitsQ B (arg2.view.read _ f2) (arg3.view.read _ f3) (arg15.view.read _ f15) (arg17.view.read _ f17))
   (hK : FitsK B (k0_pay63 v0 v3 v13 v27 v32 v33 v34) (st2.sl.r arg0 v0 v5 v13 v15) (k0_pay64 v3 v14) (k0_pay70 v14 (k0_pay68 v5) k0_pay69) (k0_pay65 v7 v17) (k0_pay71 v9 v17)) (hv3 : v3 = k0_pay50) (hv5 : v5 = k0_pay51) (p : Fin 256) : st2.sl.r_26 (F := Ideal) i arg3 arg15 arg17 f3 f15 f17 v0 v3 v13 v14 v27 v32 v33 v34 (ix2 p 0) = ∑ x : Fin 256, if p.val ≤ x.val then B.D 0 (256 + p) (512 * (i 1).val + 256 + x) else 0 := by
  subst hv3 hv5
  simp only [st2.sl.r_1, st2.sl.r_2, st2.sl.r_3, st2.sl.r_4, st2.sl.r_5, st2.sl.r_6, st2.sl.r_7, st2.sl.r_8, st2.sl.r_9, st2.sl.r_10, st2.sl.r_11, st2.sl.r_12, st2.sl.r_13, st2.sl.r_14, st2.sl.r_15, st2.sl.r_16, st2.sl.r_17, st2.sl.r_18, st2.sl.r_19, st2.sl.r_20, st2.sl.r_21, st2.sl.r_22, st2.sl.r_23, st2.sl.r_24, st2.sl.r_25, st2.sl.r_26, st2.sl.r_27, st2.sl.r_28, st2.sl.r_29, st2.sl.r_30, st2.sl.r_31, st2.sl.cst_45, st2.sl.cst_114]
  simp only [View.readAt_eq_ld, k0_off7_eq, k0_off8_eq, k0_off9_eq, k0_off11_eq, k0_off14_eq, k0_off15_eq, k0_off17_eq]
  pointwise [k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118]
  simp only [hQ.q, hQ.d, hQ.s0, hQ.s1, hQ.a0, hQ.a1, hK.a0, hK.a1, hK.v0, hK.v1, hK.t0, hK.t1, pay50_eq, pay51_eq, sel_lo, sel_hi]
  obtain ⟨e1, e2, e3, e4, e5, e6, e7, e8, e9, e10, e11, e12, e13, e14, e15, e16, e17, e18, e19⟩ := off_simp i
  simp only [e1, e2, e3, e4, e5, e6, e7, e8, e9, e10, e11, e12, e13, e14, e15, e16, e17, e18, e19, zero_add, Fin.mk_zero, Fin.mk_one, Fin.zero_eta, Fin.eta, hQ.q, hQ.d, hQ.s0, hQ.s1, hQ.a0, hQ.a1]
  simp only [mask_sel256]
  refine Finset.sum_congr rfl fun x _ => ?_
  by_cases hx : p.val ≤ x.val
  · simp only [hx, if_true, Blk.FK, Blk.FV, Blk.D, Blk.P, Blk.A, Blk.G, ← Nat.add_assoc]
  · simp only [hx, if_false, zero_mul, lane, ite_self, add_zero]

theorem diag_fb_early
   (hQ : FitsQ B (arg2.view.read _ f2) (arg3.view.read _ f3) (arg15.view.read _ f15) (arg17.view.read _ f17))
   (hK : FitsK B (k0_pay63 v0 v3 v13 v27 v32 v33 v34) (st2.sl.r arg0 v0 v5 v13 v15) (k0_pay64 v3 v14) (k0_pay70 v14 (k0_pay68 v5) k0_pay69) (k0_pay65 v7 v17) (k0_pay71 v9 v17)) (hv3 : v3 = k0_pay50) (hv5 : v5 = k0_pay51) (p : Fin 256) : st2.sl.r_15 (F := Ideal) i arg3 arg15 arg17 f3 f15 f17 arg0 v0 v5 v13 v14 v15 (ix2 p 0) = ∑ x : Fin 512, if p.val ≤ x.val then B.D 1 p (512 * (i 1).val + x) else 0 := by
  subst hv3 hv5
  simp only [st2.sl.r_1, st2.sl.r_2, st2.sl.r_3, st2.sl.r_4, st2.sl.r_5, st2.sl.r_6, st2.sl.r_7, st2.sl.r_8, st2.sl.r_9, st2.sl.r_10, st2.sl.r_11, st2.sl.r_12, st2.sl.r_13, st2.sl.r_14, st2.sl.r_15, st2.sl.r_16, st2.sl.r_17, st2.sl.r_18, st2.sl.r_19, st2.sl.r_20, st2.sl.r_21, st2.sl.r_22, st2.sl.r_23, st2.sl.r_24, st2.sl.r_25, st2.sl.r_26, st2.sl.r_27, st2.sl.r_28, st2.sl.r_29, st2.sl.r_30, st2.sl.r_31, st2.sl.cst_45, st2.sl.cst_114]
  simp only [View.readAt_eq_ld, k0_off7_eq, k0_off8_eq, k0_off9_eq, k0_off11_eq, k0_off14_eq, k0_off15_eq, k0_off17_eq]
  pointwise [k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118]
  simp only [hQ.q, hQ.d, hQ.s0, hQ.s1, hQ.a0, hQ.a1, hK.a0, hK.a1, hK.v0, hK.v1, hK.t0, hK.t1, pay50_eq, pay51_eq, sel_lo, sel_hi]
  obtain ⟨e1, e2, e3, e4, e5, e6, e7, e8, e9, e10, e11, e12, e13, e14, e15, e16, e17, e18, e19⟩ := off_simp i
  simp only [e1, e2, e3, e4, e5, e6, e7, e8, e9, e10, e11, e12, e13, e14, e15, e16, e17, e18, e19, zero_add, Fin.mk_zero, Fin.mk_one, Fin.zero_eta, Fin.eta, hQ.q, hQ.d, hQ.s0, hQ.s1, hQ.a0, hQ.a1]
  simp only [mask_sel0]
  refine Finset.sum_congr rfl fun x _ => ?_
  by_cases hx : p.val ≤ x.val
  · simp only [hx, if_true, Blk.FK, Blk.FV, Blk.D, Blk.P, Blk.A, Blk.G, ← Nat.add_assoc]
  · simp only [hx, if_false, zero_mul, lane, ite_self, add_zero]

theorem diag_fb_late
   (hQ : FitsQ B (arg2.view.read _ f2) (arg3.view.read _ f3) (arg15.view.read _ f15) (arg17.view.read _ f17))
   (hK : FitsK B (k0_pay63 v0 v3 v13 v27 v32 v33 v34) (st2.sl.r arg0 v0 v5 v13 v15) (k0_pay64 v3 v14) (k0_pay70 v14 (k0_pay68 v5) k0_pay69) (k0_pay65 v7 v17) (k0_pay71 v9 v17)) (hv3 : v3 = k0_pay50) (hv5 : v5 = k0_pay51) (p : Fin 256) : st2.sl.r_31 (F := Ideal) i arg3 arg15 arg17 f3 f15 f17 arg0 v0 v5 v13 v14 v15 (ix2 p 0) = ∑ x : Fin 256, if p.val ≤ x.val then B.D 1 (256 + p) (512 * (i 1).val + 256 + x) else 0 := by
  subst hv3 hv5
  simp only [st2.sl.r_1, st2.sl.r_2, st2.sl.r_3, st2.sl.r_4, st2.sl.r_5, st2.sl.r_6, st2.sl.r_7, st2.sl.r_8, st2.sl.r_9, st2.sl.r_10, st2.sl.r_11, st2.sl.r_12, st2.sl.r_13, st2.sl.r_14, st2.sl.r_15, st2.sl.r_16, st2.sl.r_17, st2.sl.r_18, st2.sl.r_19, st2.sl.r_20, st2.sl.r_21, st2.sl.r_22, st2.sl.r_23, st2.sl.r_24, st2.sl.r_25, st2.sl.r_26, st2.sl.r_27, st2.sl.r_28, st2.sl.r_29, st2.sl.r_30, st2.sl.r_31, st2.sl.cst_45, st2.sl.cst_114]
  simp only [View.readAt_eq_ld, k0_off7_eq, k0_off8_eq, k0_off9_eq, k0_off11_eq, k0_off14_eq, k0_off15_eq, k0_off17_eq]
  pointwise [k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118]
  simp only [hQ.q, hQ.d, hQ.s0, hQ.s1, hQ.a0, hQ.a1, hK.a0, hK.a1, hK.v0, hK.v1, hK.t0, hK.t1, pay50_eq, pay51_eq, sel_lo, sel_hi]
  obtain ⟨e1, e2, e3, e4, e5, e6, e7, e8, e9, e10, e11, e12, e13, e14, e15, e16, e17, e18, e19⟩ := off_simp i
  simp only [e1, e2, e3, e4, e5, e6, e7, e8, e9, e10, e11, e12, e13, e14, e15, e16, e17, e18, e19, zero_add, Fin.mk_zero, Fin.mk_one, Fin.zero_eta, Fin.eta, hQ.q, hQ.d, hQ.s0, hQ.s1, hQ.a0, hQ.a1]
  simp only [mask_sel256]
  refine Finset.sum_congr rfl fun x _ => ?_
  by_cases hx : p.val ≤ x.val
  · simp only [hx, if_true, Blk.FK, Blk.FV, Blk.D, Blk.P, Blk.A, Blk.G, ← Nat.add_assoc]
  · simp only [hx, if_false, zero_mul, lane, ite_self, add_zero]

end Cert.KernelIdeal.Val
end
-- ==== Proof.V.Prep.lean ====
module

public import Idealize.ShloMosaic.Lib.Pointwise
public import Idealize.ShloMosaic.Lib.WritesUnit
public import Idealize.ShloMosaic.Lib.WordCmp
public import proofs.«01_k».proof.Proof.V.Diag
public import proofs.«01_k».proof.Proof.Gen.KernelIdeal.Loops
public import proofs.«01_k».proof.Proof.Gen.KernelIdeal.Frame
public import proofs.«01_k».proof.Proof.KI.Stage2

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The first of the six lanes that carry the bias in head `h`'s widened rows: the other head's first lane. -/
def sp (h : ℕ) : ℕ := if h = 0 then 64 else 0

/-- A widened row's lane: the head's own lanes, then six lanes of bias, then zero. -/
def aug (h l : ℕ) (x a b c d e f : EReal) : EReal :=
  if (h = 0 ↔ l < 64) then x else if l = sp h then a else if l = sp h + 1 then b else if l = sp h + 2 then c else
    if l = sp h + 3 then d else if l = sp h + 4 then e else if l = sp h + 5 then f else 0

/-- The three terms a bias is carried in. -/
def hi (v : EReal) : EReal := 0 - v
def mid (v : EReal) : EReal := hi v - hi v
def lo (v : EReal) : EReal := mid v - mid v

/-- A grid point's products from the arrays it is given: queries, cotangents, outputs, the rows' log-sums, a key and a value
    tile and the cumulated gates' tile, for head pair `hp`. -/
def mkBlk (hp : ℕ) (Q DO O : ℕ → ℕ → EReal) (LS : ℕ → ℕ → EReal) (K V G : ℕ → ℕ → EReal) : Blk where
  Q := Q
  DO := DO
  ST h q := ∑ l : Fin 128, lane h l (O q l * DO q l)
  QA h q l := aug h l (Q q l) 1 1 1 (hi (LS h q)) (mid (LS h q)) (lo (LS h q))
  KA h k l := aug h l (K k l) (hi (G k (2 * hp + h))) (mid (G k (2 * hp + h))) (lo (G k (2 * hp + h))) 1 1 1
  VH h k l := lane h l (V k l)
  KT h l k := lane h l (K k l)

theorem aug0 (l : ℕ) (x a b c d e f : EReal) : aug 0 l x a b c d e f = if l < 64 then x else if l = 64 then a else if l = 65 then b else if l = 66 then c else
    if l = 67 then d else if l = 68 then e else if l = 69 then f else 0 := by
  simp [aug, sp]

theorem aug1 (l : ℕ) (x a b c d e f : EReal) : aug 1 l x a b c d e f = if l < 64 then (if l = 0 then a else if l = 1 then b else if l = 2 then c else
    if l = 3 then d else if l = 4 then e else if l = 5 then f else 0) else x := by
  by_cases h : l < 64 <;> simp [aug, sp, h]

theorem seleq (l : Fin 128) (c : ℕ) (hc : c < 128) (x y : EReal) :
    Scalar.select (IntOp.cmpi .eq (BitVec.ofNat 32 l.val) (BitVec.ofNat 32 c)) x y = if l.val = c then x else y := by
  rw [WordCmp.cmpi_eq_ofNat (by omega) (by omega)]
  by_cases h : l.val = c <;> simp [h, Scalar.select]

theorem selbt (l : Fin 128) (c d : ℕ) (hc : c < 128) (hd : d < 128) (x y : EReal) :
    Scalar.select (IntOp.andi (IntOp.cmpi .sge (BitVec.ofNat 32 l.val) (BitVec.ofNat 32 c)) (IntOp.cmpi .slt (BitVec.ofNat 32 l.val) (BitVec.ofNat 32 d))) x y
      = if c ≤ l.val ∧ l.val < d then x else y := by
  rw [WordCmp.cmpi_sge_ofNat (by omega) (by omega), WordCmp.cmpi_slt_ofNat (by omega) (by omega)]
  by_cases h : c ≤ l.val <;> by_cases h' : l.val < d <;> simp [h, h', Scalar.select, IntOp.andi]

theorem selp (c : Prop) [Decidable c] (x y : EReal) : Scalar.select (if c then 1#1 else 0#1) x y = if c then x else y := by
  by_cases h : c <;> simp [h, Scalar.select]

theorem selq (c : Prop) [Decidable c] (x y : EReal) : Scalar.select (if c then 0#1 else 1#1) x y = if c then y else x := by
  by_cases h : c <;> simp [h, Scalar.select]

theorem lane0 (l : ℕ) (x : EReal) : lane 0 l x = if l < 64 then x else 0 := by simp [lane]

theorem lane1 (l : ℕ) (x : EReal) : lane 1 l x = if l < 64 then 0 else x := by
  by_cases h : l < 64 <;> simp [lane, h]

theorem selF (h : ℕ) (hh : h < 2) (i : grid0.Coords) (x : Fin 128) (a b : EReal) :
    Scalar.select (IntOp.cmpi .eq (BitVec.ofNat 32 x.val) (Scalar.addi (Scalar.muli (2#32) (BitVec.ofNat 32 (i 0).val)) (BitVec.ofNat 32 h))) a b
      = if x.val = 2 * (i 0).val + h then a else b := by
  have h4 : (i 0).val < 4 := (i 0).isLt
  have e : Scalar.addi (Scalar.muli (2#32) (BitVec.ofNat 32 (i 0).val)) (BitVec.ofNat 32 h) = BitVec.ofNat 32 (2 * (i 0).val + h) := by
    rw [BitVec.ofNat_add, BitVec.ofNat_mul]; rfl
  rw [e]
  exact seleq x _ (by omega) a b

theorem sumF (f : ℕ → EReal) (n : ℕ) (hn : n < 128) : ∑ x : Fin 128, (if x.val = n then f x.val else 0) = f n := by
  rw [Finset.sum_eq_single (⟨n, hn⟩ : Fin 128)]
  · simp
  · intro b _ hb
    rw [if_neg]
    exact fun e => hb (Fin.ext e)
  · simp

section Heads
variable (i : grid0.Coords) (v13 v14 : Vec Ideal S512x128 .bf16) (v15 : Vec Ideal S512x128 .f32) (K V G : ℕ → ℕ → EReal)
  (h13 : ∀ (k : Fin 512) (l : Fin 128), v13 (ix2 k l) = K k l) (h14 : ∀ (k : Fin 512) (l : Fin 128), v14 (ix2 k l) = V k l)
  (h15 : ∀ (k : Fin 512) (l : Fin 128), v15 (ix2 k l) = G k l)

include h13 h15 in
theorem ka0 (k : Fin 512) (l : Fin 128) : k0_pay63 (F := Ideal) (iota .tc S1x128 32 [1] iota_S1x128_d1_w32) k0_pay50 v13 (k0_pay59 i v15) k0_pay60 k0_pay61 k0_pay62 (ix2 k l)
    = aug 0 l (K k l) (hi (G k (2 * (i 0).val + 0))) (mid (G k (2 * (i 0).val + 0))) (lo (G k (2 * (i 0).val + 0))) 1 1 1 := by
  have h4 : (i 0).val < 4 := (i 0).isLt
  pointwise [k0_pay63, k0_pay59, k0_pay60, k0_pay61, k0_pay62]
  simp only [pay50_eq, h13, h15, selF 0 (by decide), selp, seleq _ 64 (by decide), seleq _ 65 (by decide), seleq _ 66 (by decide), selbt _ 67 70 (by decide) (by decide),
    sumF (G k) (2 * (i 0).val + 0) (by omega), aug0, mid, lo, hi]
  split_ifs <;> first | rfl | (exfalso; omega)

include h13 h15 in
theorem ka1 (k : Fin 512) (l : Fin 128) : st2.sl.r (F := Ideal) (BitVec.ofNat 32 (i 0).val) (iota .tc S1x128 32 [1] iota_S1x128_d1_w32) k0_pay51 v13 v15 (ix2 k l)
    = aug 1 l (K k l) (hi (G k (2 * (i 0).val + 1))) (mid (G k (2 * (i 0).val + 1))) (lo (G k (2 * (i 0).val + 1))) 1 1 1 := by
  have h4 : (i 0).val < 4 := (i 0).isLt
  have e20 : st2.sl.cst_20 (F := Ideal) = (0 : EReal) := by
    unfold st2.sl.cst_20
    exact Ideal.ofBits_zero ..
  unfold st2.sl.r
  pointwise [k0_pay67, k0_pay66]
  simp only [pay51_eq, h13, h15, e20, selF 1 (by decide), selq, seleq _ 0 (by decide), seleq _ 1 (by decide), seleq _ 2 (by decide), selbt _ 3 6 (by decide) (by decide),
    sumF (G k) (2 * (i 0).val + 1) (by omega), aug1, mid, lo, hi]
  split_ifs <;> first | rfl | (exfalso; omega)

include h14 in
theorem vh0 (k : Fin 512) (l : Fin 128) : k0_pay64 (F := Ideal) k0_pay50 v14 (ix2 k l) = lane 0 l (V k l) := by
  pointwise [k0_pay64]
  simp only [pay50_eq, sel_lo, h14]

include h14 in
theorem vh1 (k : Fin 512) (l : Fin 128) : k0_pay70 (F := Ideal) v14 (k0_pay68 k0_pay51) k0_pay69 (ix2 k l) = lane 1 l (V k l) := by
  pointwise [k0_pay68, k0_pay69, k0_pay70]
  simp only [pay51_eq, sel_hi, h14]

include h13 in
theorem kt0 (k : Fin 512) (l : Fin 128) : k0_pay65 (F := Ideal) k0_pay52 (k0_pay58 v13) (ix2 l k) = lane 0 l (K k l) := by
  pointwise [k0_pay65, k0_pay58]
  simp only [pay52_eq, sel_lo, h13]

include h13 in
theorem kt1 (k : Fin 512) (l : Fin 128) : k0_pay71 (F := Ideal) k0_pay53 (k0_pay58 v13) (ix2 l k) = lane 1 l (K k l) := by
  pointwise [k0_pay71, k0_pay58]
  simp only [pay53_eq, sel_hi, h13]

include h13 h14 h15 in
theorem fitsK (Q DO O LS : ℕ → ℕ → EReal) : FitsK (mkBlk (i 0).val Q DO O LS K V G)
    (k0_pay63 (iota .tc S1x128 32 [1] iota_S1x128_d1_w32) k0_pay50 v13 (k0_pay59 i v15) k0_pay60 k0_pay61 k0_pay62)
    (st2.sl.r (BitVec.ofNat 32 (i 0).val) (iota .tc S1x128 32 [1] iota_S1x128_d1_w32) k0_pay51 v13 v15) (k0_pay64 k0_pay50 v14)
    (k0_pay70 v14 (k0_pay68 k0_pay51) k0_pay69) (k0_pay65 k0_pay52 (k0_pay58 v13)) (k0_pay71 k0_pay53 (k0_pay58 v13)) where
  a0 := ka0 i v13 v15 K G h13 h15
  a1 := ka1 i v13 v15 K G h13 h15
  v0 := vh0 v14 V h14
  v1 := vh1 v14 V h14
  t0 l k := kt0 v13 K h13 k l
  t1 l k := kt1 v13 K h13 k l
end Heads

theorem pv486 (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole) (v0 : IVec S1x128 32) (cst : Ideal .bf16) (cst_3 : Ideal .bf16) (k0_h1 : k0_cond1 i = 1#1) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (k : Fin k0_t1_loop.trips) (Q DO O LS : ℕ → ℕ → EReal) (h2 : ∀ (q : Fin 4096) (l : Fin 128), arg2.view.read _ X_arg2 (ix2 q l) = Q q l)
   (h3 : ∀ (q : Fin 4096) (l : Fin 128), arg3.view.read _ X_arg3 (ix2 q l) = DO q l) (h4 : ∀ (q : Fin 4096) (l : Fin 128), arg4.view.read _ X_arg4 (ix2 q l) = O q l)
   (h50 : ∀ (n : Fin 8) (x : Fin 512), arg5.view.read _ X_arg5 (ix4 0 n 0 x) = LS 0 (512 * n + x)) (h51 : ∀ (n : Fin 8) (x : Fin 512), arg5.view.read _ X_arg5 (ix4 0 n 1 x) = LS 1 (512 * n + x)) (hcst : cst = (1 : EReal)) (hcst3 : cst_3 = (0 : EReal)) (hv0 : ∀ l : Fin 128, v0 (ix2 0 l) = BitVec.ofNat 32 l.val) (x : Fin 512) : trip_k0_t1.sl.v486 (F := Ideal) i arg3 arg4 k0_h1 X_arg3 X_arg4 k (ix3 0 0 x) = ∑ l : Fin 128, lane 0 l (O (512 * k.val + x) l * DO (512 * k.val + x) l) := by
  have e1 : BitVec.toNat (Scalar.indexCast (Scalar.muli (Scf.iv 0#32 1#32 k.val) 512#32)) = 512 * k.val := congrFun (k0_off1_eq k) 0
  have e2 : BitVec.toNat (Scalar.indexCast (Scf.iv 0#32 1#32 k.val)) = k.val := congrFun (k0_off2_eq k) 0
  sl_unfold_words
  simp only [View.readAt_eq_ld]
  pointwise [k0_pay1, k0_pay2, k0_pay3, k0_pay4, k0_pay5, k0_pay6, k0_pay7, k0_pay8, k0_pay9, k0_pay10, k0_pay11, k0_pay12, k0_pay13, k0_pay14, k0_pay15, k0_pay57]
  simp only [e1, e2, h2, h3, h4, h50, h51, hv0, hcst, hcst3, pay50_eq, pay51_eq, pay52_eq, selp, selq]
  rw [if_pos (by decide)]
  simp only [lane0]

theorem pv491 (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole) (v0 : IVec S1x128 32) (cst : Ideal .bf16) (cst_3 : Ideal .bf16) (k0_h1 : k0_cond1 i = 1#1) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (k : Fin k0_t1_loop.trips) (Q DO O LS : ℕ → ℕ → EReal) (h2 : ∀ (q : Fin 4096) (l : Fin 128), arg2.view.read _ X_arg2 (ix2 q l) = Q q l)
   (h3 : ∀ (q : Fin 4096) (l : Fin 128), arg3.view.read _ X_arg3 (ix2 q l) = DO q l) (h4 : ∀ (q : Fin 4096) (l : Fin 128), arg4.view.read _ X_arg4 (ix2 q l) = O q l)
   (h50 : ∀ (n : Fin 8) (x : Fin 512), arg5.view.read _ X_arg5 (ix4 0 n 0 x) = LS 0 (512 * n + x)) (h51 : ∀ (n : Fin 8) (x : Fin 512), arg5.view.read _ X_arg5 (ix4 0 n 1 x) = LS 1 (512 * n + x)) (hcst : cst = (1 : EReal)) (hcst3 : cst_3 = (0 : EReal)) (hv0 : ∀ l : Fin 128, v0 (ix2 0 l) = BitVec.ofNat 32 l.val) (x : Fin 512) : trip_k0_t1.sl.v491 (F := Ideal) i arg3 arg4 k0_h1 X_arg3 X_arg4 k (ix3 0 0 x) = ∑ l : Fin 128, lane 1 l (O (512 * k.val + x) l * DO (512 * k.val + x) l) := by
  have e1 : BitVec.toNat (Scalar.indexCast (Scalar.muli (Scf.iv 0#32 1#32 k.val) 512#32)) = 512 * k.val := congrFun (k0_off1_eq k) 0
  have e2 : BitVec.toNat (Scalar.indexCast (Scf.iv 0#32 1#32 k.val)) = k.val := congrFun (k0_off2_eq k) 0
  sl_unfold_words
  simp only [View.readAt_eq_ld]
  pointwise [k0_pay1, k0_pay2, k0_pay3, k0_pay4, k0_pay5, k0_pay6, k0_pay7, k0_pay8, k0_pay9, k0_pay10, k0_pay11, k0_pay12, k0_pay13, k0_pay14, k0_pay15, k0_pay57]
  simp only [e1, e2, h2, h3, h4, h50, h51, hv0, hcst, hcst3, pay50_eq, pay51_eq, pay52_eq, selp, selq]
  rw [if_neg (by decide)]
  simp only [lane1]

theorem pv552 (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole) (v0 : IVec S1x128 32) (cst : Ideal .bf16) (cst_3 : Ideal .bf16) (k0_h1 : k0_cond1 i = 1#1) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (k : Fin k0_t1_loop.trips) (Q DO O LS : ℕ → ℕ → EReal) (h2 : ∀ (q : Fin 4096) (l : Fin 128), arg2.view.read _ X_arg2 (ix2 q l) = Q q l)
   (h3 : ∀ (q : Fin 4096) (l : Fin 128), arg3.view.read _ X_arg3 (ix2 q l) = DO q l) (h4 : ∀ (q : Fin 4096) (l : Fin 128), arg4.view.read _ X_arg4 (ix2 q l) = O q l)
   (h50 : ∀ (n : Fin 8) (x : Fin 512), arg5.view.read _ X_arg5 (ix4 0 n 0 x) = LS 0 (512 * n + x)) (h51 : ∀ (n : Fin 8) (x : Fin 512), arg5.view.read _ X_arg5 (ix4 0 n 1 x) = LS 1 (512 * n + x)) (hcst : cst = (1 : EReal)) (hcst3 : cst_3 = (0 : EReal)) (hv0 : ∀ l : Fin 128, v0 (ix2 0 l) = BitVec.ofNat 32 l.val) (x : Fin 512) (l : Fin 128) : trip_k0_t1.sl.v552 (F := Ideal) i arg2 arg5 v0 cst cst_3 k0_h1 X_arg2 X_arg5 k (ix3 0 x l) = aug 0 l (Q (512 * k.val + x) l) 1 1 1 (hi (LS 0 (512 * k.val + x))) (mid (LS 0 (512 * k.val + x))) (lo (LS 0 (512 * k.val + x))) := by
  have e1 : BitVec.toNat (Scalar.indexCast (Scalar.muli (Scf.iv 0#32 1#32 k.val) 512#32)) = 512 * k.val := congrFun (k0_off1_eq k) 0
  have e2 : BitVec.toNat (Scalar.indexCast (Scf.iv 0#32 1#32 k.val)) = k.val := congrFun (k0_off2_eq k) 0
  sl_unfold_words
  simp only [View.readAt_eq_ld]
  pointwise [k0_pay1, k0_pay2, k0_pay3, k0_pay4, k0_pay5, k0_pay6, k0_pay7, k0_pay8, k0_pay9, k0_pay10, k0_pay11, k0_pay12, k0_pay13, k0_pay14, k0_pay15, k0_pay57]
  simp only [e1, e2, h2, h3, h4, h50, h51, hv0, hcst, hcst3, pay50_eq, pay51_eq, pay52_eq, selp, selq]
  simp only [if_pos (show (0 : Fin 128).val < 64 by decide), seleq _ 67 (by decide), seleq _ 68 (by decide), seleq _ 69 (by decide), selbt _ 64 67 (by decide) (by decide), aug0, mid, lo, hi]
  split_ifs <;> first | rfl | (exfalso; omega)

theorem pv596 (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole) (v0 : IVec S1x128 32) (cst : Ideal .bf16) (cst_3 : Ideal .bf16) (k0_h1 : k0_cond1 i = 1#1) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (k : Fin k0_t1_loop.trips) (Q DO O LS : ℕ → ℕ → EReal) (h2 : ∀ (q : Fin 4096) (l : Fin 128), arg2.view.read _ X_arg2 (ix2 q l) = Q q l)
   (h3 : ∀ (q : Fin 4096) (l : Fin 128), arg3.view.read _ X_arg3 (ix2 q l) = DO q l) (h4 : ∀ (q : Fin 4096) (l : Fin 128), arg4.view.read _ X_arg4 (ix2 q l) = O q l)
   (h50 : ∀ (n : Fin 8) (x : Fin 512), arg5.view.read _ X_arg5 (ix4 0 n 0 x) = LS 0 (512 * n + x)) (h51 : ∀ (n : Fin 8) (x : Fin 512), arg5.view.read _ X_arg5 (ix4 0 n 1 x) = LS 1 (512 * n + x)) (hcst : cst = (1 : EReal)) (hcst3 : cst_3 = (0 : EReal)) (hv0 : ∀ l : Fin 128, v0 (ix2 0 l) = BitVec.ofNat 32 l.val) (x : Fin 512) (l : Fin 128) : k0_pay57 (trip_k0_t1.sl.v596 (F := Ideal) i arg2 arg5 v0 cst cst_3 k0_h1 X_arg2 X_arg5 k) (ix3 0 x l) = aug 1 l (Q (512 * k.val + x) l) 1 1 1 (hi (LS 1 (512 * k.val + x))) (mid (LS 1 (512 * k.val + x))) (lo (LS 1 (512 * k.val + x))) := by
  have e1 : BitVec.toNat (Scalar.indexCast (Scalar.muli (Scf.iv 0#32 1#32 k.val) 512#32)) = 512 * k.val := congrFun (k0_off1_eq k) 0
  have e2 : BitVec.toNat (Scalar.indexCast (Scf.iv 0#32 1#32 k.val)) = k.val := congrFun (k0_off2_eq k) 0
  sl_unfold_words
  simp only [View.readAt_eq_ld]
  pointwise [k0_pay1, k0_pay2, k0_pay3, k0_pay4, k0_pay5, k0_pay6, k0_pay7, k0_pay8, k0_pay9, k0_pay10, k0_pay11, k0_pay12, k0_pay13, k0_pay14, k0_pay15, k0_pay57]
  simp only [e1, e2, h2, h3, h4, h50, h51, hv0, hcst, hcst3, pay50_eq, pay51_eq, pay52_eq, selp, selq]
  simp only [if_neg (show ¬ (64 : Fin 128).val < 64 by decide), seleq _ 3 (by decide), seleq _ 4 (by decide), seleq _ 5 (by decide), selbt _ 0 3 (by decide) (by decide), aug1, mid, lo, hi]
  split_ifs <;> first | rfl | (exfalso; omega)

end Cert.KernelIdeal.Val
end
-- ==== Proof.V.FitQ.lean ====
module

public import Idealize.ShloMosaic.Lib.Pointwise
public import Idealize.ShloMosaic.Lib.WritesUnit
public import proofs.«01_k».proof.Proof.V.Prep
public import proofs.«01_k».proof.Proof.Gen.KernelIdeal.Loops
public import proofs.«01_k».proof.Proof.Gen.KernelIdeal.Frame
public import proofs.«01_k».proof.Proof.KI.Stage2

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem stat0 (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole) (v0 : IVec S1x128 32) (cst : Ideal .bf16) (cst_3 : Ideal .bf16) (k0_h1 : k0_cond1 i = 1#1) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty)  (G : BufTy.Contents (Elt Ideal) arg15.view.ty) (Q DO O LS : ℕ → ℕ → EReal) (h2 : ∀ (q : Fin 4096) (l : Fin 128), arg2.view.read _ X_arg2 (ix2 q l) = Q q l)
   (h3 : ∀ (q : Fin 4096) (l : Fin 128), arg3.view.read _ X_arg3 (ix2 q l) = DO q l) (h4 : ∀ (q : Fin 4096) (l : Fin 128), arg4.view.read _ X_arg4 (ix2 q l) = O q l)
   (h50 : ∀ (n : Fin 8) (x : Fin 512), arg5.view.read _ X_arg5 (ix4 0 n 0 x) = LS 0 (512 * n + x)) (h51 : ∀ (n : Fin 8) (x : Fin 512), arg5.view.read _ X_arg5 (ix4 0 n 1 x) = LS 1 (512 * n + x)) (hcst : cst = (1 : EReal)) (hcst3 : cst_3 = (0 : EReal)) (hv0 : ∀ l : Fin 128, v0 (ix2 0 l) = BitVec.ofNat 32 l.val) (k : ℕ) (hk : k ≤ k0_t1_loop.trips) (n : Fin 8) (hn : n.val < k) (x : Fin 512) :
    arg15.view.read _ (arg15.view.writes _ G (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 cst cst_3 k0_h1 X_arg2 X_arg3 X_arg4 X_arg5 k).1) (ix3 n 0 x) = ∑ l : Fin 128, lane 0 l (O (512 * n + x) l * DO (512 * n + x) l) := by
  induction k with
  | zero => omega
  | succ k ih =>
    rw [show (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 cst cst_3 k0_h1 X_arg2 X_arg3 X_arg4 X_arg5 (k + 1)) = _ from pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 cst cst_3 k0_h1 X_arg2 X_arg3 X_arg4 X_arg5 ⟨k, hk⟩]
    delta tripL_k0_t1 trip_k0_t1
    dsimp only [List.cons_append, List.nil_append]
    by_cases e : n.val = k
    · subst e
      refine (View.read_writes_cons_unit_of_not_mem _ _ _ _ _ (ix3 n 0 x) (k0_off3_eq ⟨n.val, hk⟩) 1 (by simp; try omega)).trans ?_
      refine (View.read_writes_cons_unit_of_mem _ _ _ _ _ (ix3 n 0 x) (ix3 0 0 x) (k0_off2_eq ⟨n.val, hk⟩) (by intro a; fin_cases a <;> (simp; try omega))).trans ?_
      exact pv486 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 cst cst_3 k0_h1 X_arg2 X_arg3 X_arg4 X_arg5 ⟨n.val, hk⟩ Q DO O LS h2 h3 h4 h50 h51 hcst hcst3 hv0 x
    · refine (View.read_writes_cons_unit_of_not_mem _ _ _ _ _ (ix3 n 0 x) (k0_off3_eq ⟨k, hk⟩) 0 (by simp; try omega)).trans ?_
      refine (View.read_writes_cons_unit_of_not_mem _ _ _ _ _ (ix3 n 0 x) (k0_off2_eq ⟨k, hk⟩) 0 (by simp; try omega)).trans ?_
      exact ih (Nat.le_of_succ_le hk) (by omega)

theorem qaug0 (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole) (v0 : IVec S1x128 32) (cst : Ideal .bf16) (cst_3 : Ideal .bf16) (k0_h1 : k0_cond1 i = 1#1) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty)  (G : BufTy.Contents (Elt Ideal) arg17.view.ty) (Q DO O LS : ℕ → ℕ → EReal) (h2 : ∀ (q : Fin 4096) (l : Fin 128), arg2.view.read _ X_arg2 (ix2 q l) = Q q l)
   (h3 : ∀ (q : Fin 4096) (l : Fin 128), arg3.view.read _ X_arg3 (ix2 q l) = DO q l) (h4 : ∀ (q : Fin 4096) (l : Fin 128), arg4.view.read _ X_arg4 (ix2 q l) = O q l)
   (h50 : ∀ (n : Fin 8) (x : Fin 512), arg5.view.read _ X_arg5 (ix4 0 n 0 x) = LS 0 (512 * n + x)) (h51 : ∀ (n : Fin 8) (x : Fin 512), arg5.view.read _ X_arg5 (ix4 0 n 1 x) = LS 1 (512 * n + x)) (hcst : cst = (1 : EReal)) (hcst3 : cst_3 = (0 : EReal)) (hv0 : ∀ l : Fin 128, v0 (ix2 0 l) = BitVec.ofNat 32 l.val) (k : ℕ) (hk : k ≤ k0_t1_loop.trips) (q : Fin 4096) (hq : q.val < 512 * k) (l : Fin 128) :
    arg17.view.read _ (arg17.view.writes _ G (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 cst cst_3 k0_h1 X_arg2 X_arg3 X_arg4 X_arg5 k).2) (ix3 0 q l) = aug 0 l (Q q l) 1 1 1 (hi (LS 0 q)) (mid (LS 0 q)) (lo (LS 0 q)) := by
  induction k with
  | zero => omega
  | succ k ih =>
    rw [show (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 cst cst_3 k0_h1 X_arg2 X_arg3 X_arg4 X_arg5 (k + 1)) = _ from pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 cst cst_3 k0_h1 X_arg2 X_arg3 X_arg4 X_arg5 ⟨k, hk⟩]
    delta tripL_k0_t1 trip_k0_t1
    dsimp only [List.cons_append, List.nil_append]
    by_cases e : 512 * k ≤ q.val
    · have e' : q.val = 512 * k + (q.val - 512 * k) := by omega
      refine (View.read_writes_cons_unit_of_not_mem _ _ _ _ _ (ix3 0 q l) (k0_off6_eq ⟨k, hk⟩) 0 (by simp; try omega)).trans ?_
      refine (View.read_writes_cons_unit_of_mem _ _ _ _ _ (ix3 0 q l) (ix3 0 ⟨q.val - 512 * k, by omega⟩ l) (k0_off5_eq ⟨k, hk⟩) (by intro a; fin_cases a <;> (simp; try omega))).trans ?_
      refine (pv552 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 cst cst_3 k0_h1 X_arg2 X_arg3 X_arg4 X_arg5 ⟨k, hk⟩ Q DO O LS h2 h3 h4 h50 h51 hcst hcst3 hv0 ⟨q.val - 512 * k, by omega⟩ l).trans ?_
      dsimp only
      rw [← e']
    · refine (View.read_writes_cons_unit_of_not_mem _ _ _ _ _ (ix3 0 q l) (k0_off6_eq ⟨k, hk⟩) 1 (by simp; try omega)).trans ?_
      refine (View.read_writes_cons_unit_of_not_mem _ _ _ _ _ (ix3 0 q l) (k0_off5_eq ⟨k, hk⟩) 1 (by simp; try omega)).trans ?_
      exact ih (Nat.le_of_succ_le hk) (by omega)

theorem stat1 (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole) (v0 : IVec S1x128 32) (cst : Ideal .bf16) (cst_3 : Ideal .bf16) (k0_h1 : k0_cond1 i = 1#1) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty)  (G : BufTy.Contents (Elt Ideal) arg15.view.ty) (Q DO O LS : ℕ → ℕ → EReal) (h2 : ∀ (q : Fin 4096) (l : Fin 128), arg2.view.read _ X_arg2 (ix2 q l) = Q q l)
   (h3 : ∀ (q : Fin 4096) (l : Fin 128), arg3.view.read _ X_arg3 (ix2 q l) = DO q l) (h4 : ∀ (q : Fin 4096) (l : Fin 128), arg4.view.read _ X_arg4 (ix2 q l) = O q l)
   (h50 : ∀ (n : Fin 8) (x : Fin 512), arg5.view.read _ X_arg5 (ix4 0 n 0 x) = LS 0 (512 * n + x)) (h51 : ∀ (n : Fin 8) (x : Fin 512), arg5.view.read _ X_arg5 (ix4 0 n 1 x) = LS 1 (512 * n + x)) (hcst : cst = (1 : EReal)) (hcst3 : cst_3 = (0 : EReal)) (hv0 : ∀ l : Fin 128, v0 (ix2 0 l) = BitVec.ofNat 32 l.val) (k : ℕ) (hk : k ≤ k0_t1_loop.trips) (n : Fin 8) (hn : n.val < k) (x : Fin 512) :
    arg15.view.read _ (arg15.view.writes _ G (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 cst cst_3 k0_h1 X_arg2 X_arg3 X_arg4 X_arg5 k).1) (ix3 n 1 x) = ∑ l : Fin 128, lane 1 l (O (512 * n + x) l * DO (512 * n + x) l) := by
  induction k with
  | zero => omega
  | succ k ih =>
    rw [show (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 cst cst_3 k0_h1 X_arg2 X_arg3 X_arg4 X_arg5 (k + 1)) = _ from pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 cst cst_3 k0_h1 X_arg2 X_arg3 X_arg4 X_arg5 ⟨k, hk⟩]
    delta tripL_k0_t1 trip_k0_t1
    dsimp only [List.cons_append, List.nil_append]
    by_cases e : n.val = k
    · subst e
      refine (View.read_writes_cons_unit_of_mem _ _ _ _ _ (ix3 n 1 x) (ix3 0 0 x) (k0_off3_eq ⟨n.val, hk⟩) (by intro a; fin_cases a <;> (simp; try omega))).trans ?_
      exact pv491 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 cst cst_3 k0_h1 X_arg2 X_arg3 X_arg4 X_arg5 ⟨n.val, hk⟩ Q DO O LS h2 h3 h4 h50 h51 hcst hcst3 hv0 x
    · refine (View.read_writes_cons_unit_of_not_mem _ _ _ _ _ (ix3 n 1 x) (k0_off3_eq ⟨k, hk⟩) 0 (by simp; try omega)).trans ?_
      refine (View.read_writes_cons_unit_of_not_mem _ _ _ _ _ (ix3 n 1 x) (k0_off2_eq ⟨k, hk⟩) 0 (by simp; try omega)).trans ?_
      exact ih (Nat.le_of_succ_le hk) (by omega)

theorem qaug1 (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole) (v0 : IVec S1x128 32) (cst : Ideal .bf16) (cst_3 : Ideal .bf16) (k0_h1 : k0_cond1 i = 1#1) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty)  (G : BufTy.Contents (Elt Ideal) arg17.view.ty) (Q DO O LS : ℕ → ℕ → EReal) (h2 : ∀ (q : Fin 4096) (l : Fin 128), arg2.view.read _ X_arg2 (ix2 q l) = Q q l)
   (h3 : ∀ (q : Fin 4096) (l : Fin 128), arg3.view.read _ X_arg3 (ix2 q l) = DO q l) (h4 : ∀ (q : Fin 4096) (l : Fin 128), arg4.view.read _ X_arg4 (ix2 q l) = O q l)
   (h50 : ∀ (n : Fin 8) (x : Fin 512), arg5.view.read _ X_arg5 (ix4 0 n 0 x) = LS 0 (512 * n + x)) (h51 : ∀ (n : Fin 8) (x : Fin 512), arg5.view.read _ X_arg5 (ix4 0 n 1 x) = LS 1 (512 * n + x)) (hcst : cst = (1 : EReal)) (hcst3 : cst_3 = (0 : EReal)) (hv0 : ∀ l : Fin 128, v0 (ix2 0 l) = BitVec.ofNat 32 l.val) (k : ℕ) (hk : k ≤ k0_t1_loop.trips) (q : Fin 4096) (hq : q.val < 512 * k) (l : Fin 128) :
    arg17.view.read _ (arg17.view.writes _ G (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 cst cst_3 k0_h1 X_arg2 X_arg3 X_arg4 X_arg5 k).2) (ix3 1 q l) = aug 1 l (Q q l) 1 1 1 (hi (LS 1 q)) (mid (LS 1 q)) (lo (LS 1 q)) := by
  induction k with
  | zero => omega
  | succ k ih =>
    rw [show (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 cst cst_3 k0_h1 X_arg2 X_arg3 X_arg4 X_arg5 (k + 1)) = _ from pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 cst cst_3 k0_h1 X_arg2 X_arg3 X_arg4 X_arg5 ⟨k, hk⟩]
    delta tripL_k0_t1 trip_k0_t1
    dsimp only [List.cons_append, List.nil_append]
    by_cases e : 512 * k ≤ q.val
    · have e' : q.val = 512 * k + (q.val - 512 * k) := by omega
      refine (View.read_writes_cons_unit_of_mem _ _ _ _ _ (ix3 1 q l) (ix3 0 ⟨q.val - 512 * k, by omega⟩ l) (k0_off6_eq ⟨k, hk⟩) (by intro a; fin_cases a <;> (simp; try omega))).trans ?_
      refine (pv596 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 cst cst_3 k0_h1 X_arg2 X_arg3 X_arg4 X_arg5 ⟨k, hk⟩ Q DO O LS h2 h3 h4 h50 h51 hcst hcst3 hv0 ⟨q.val - 512 * k, by omega⟩ l).trans ?_
      dsimp only
      rw [← e']
    · refine (View.read_writes_cons_unit_of_not_mem _ _ _ _ _ (ix3 1 q l) (k0_off6_eq ⟨k, hk⟩) 1 (by simp; try omega)).trans ?_
      refine (View.read_writes_cons_unit_of_not_mem _ _ _ _ _ (ix3 1 q l) (k0_off5_eq ⟨k, hk⟩) 1 (by simp; try omega)).trans ?_
      exact ih (Nat.le_of_succ_le hk) (by omega)

theorem fitsQ (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole) (v0 : IVec S1x128 32) (cst : Ideal .bf16) (cst_3 : Ideal .bf16) (k0_h1 : k0_cond1 i = 1#1) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty)  (G15 : BufTy.Contents (Elt Ideal) arg15.view.ty) (G17 : BufTy.Contents (Elt Ideal) arg17.view.ty) (hp : ℕ) (K V G : ℕ → ℕ → EReal) (Q DO O LS : ℕ → ℕ → EReal) (h2 : ∀ (q : Fin 4096) (l : Fin 128), arg2.view.read _ X_arg2 (ix2 q l) = Q q l)
   (h3 : ∀ (q : Fin 4096) (l : Fin 128), arg3.view.read _ X_arg3 (ix2 q l) = DO q l) (h4 : ∀ (q : Fin 4096) (l : Fin 128), arg4.view.read _ X_arg4 (ix2 q l) = O q l)
   (h50 : ∀ (n : Fin 8) (x : Fin 512), arg5.view.read _ X_arg5 (ix4 0 n 0 x) = LS 0 (512 * n + x)) (h51 : ∀ (n : Fin 8) (x : Fin 512), arg5.view.read _ X_arg5 (ix4 0 n 1 x) = LS 1 (512 * n + x)) (hcst : cst = (1 : EReal)) (hcst3 : cst_3 = (0 : EReal)) (hv0 : ∀ l : Fin 128, v0 (ix2 0 l) = BitVec.ofNat 32 l.val) (k : ℕ) (hk : k = 8) :
    FitsQ (mkBlk hp Q DO O LS K V G) (arg2.view.read _ X_arg2) (arg3.view.read _ X_arg3) (arg15.view.read _ (arg15.view.writes _ G15 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 cst cst_3 k0_h1 X_arg2 X_arg3 X_arg4 X_arg5 k).1)) (arg17.view.read _ (arg17.view.writes _ G17 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 cst cst_3 k0_h1 X_arg2 X_arg3 X_arg4 X_arg5 k).2)) where
  q := h2
  d := h3
  s0 n x := stat0 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 cst cst_3 k0_h1 X_arg2 X_arg3 X_arg4 X_arg5 G15 Q DO O LS h2 h3 h4 h50 h51 hcst hcst3 hv0 k (hk ▸ le_of_eq (by decide)) n (by omega) x
  s1 n x := stat1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 cst cst_3 k0_h1 X_arg2 X_arg3 X_arg4 X_arg5 G15 Q DO O LS h2 h3 h4 h50 h51 hcst hcst3 hv0 k (hk ▸ le_of_eq (by decide)) n (by omega) x
  a0 q l := qaug0 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 cst cst_3 k0_h1 X_arg2 X_arg3 X_arg4 X_arg5 G17 Q DO O LS h2 h3 h4 h50 h51 hcst hcst3 hv0 k (hk ▸ le_of_eq (by decide)) q (by omega) l
  a1 q l := qaug1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 cst cst_3 k0_h1 X_arg2 X_arg3 X_arg4 X_arg5 G17 Q DO O LS h2 h3 h4 h50 h51 hcst hcst3 hv0 k (hk ▸ le_of_eq (by decide)) q (by omega) l

end Cert.KernelIdeal.Val
end
-- ==== Proof.V.Tile.lean ====
module

public import Idealize.ShloMosaic.Lib.Pointwise
public import Idealize.ShloMosaic.Lib.WritesUnit
public import proofs.«01_k».proof.Proof.V.Diag
public import proofs.«01_k».proof.Proof.Gen.KernelIdeal.Loops
public import proofs.«01_k».proof.Proof.Gen.KernelIdeal.Frame
public import proofs.«01_k».proof.Proof.KI.Stage2

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem trips2 : ∀ i : grid0.Coords, Scf.trips (Scalar.addi (BitVec.ofNat 32 (i 1).val) 1#32) (Scalar.addi (Scalar.addi (BitVec.ofNat 32 (i 1).val) 1#32)
    (Scalar.muli (Scalar.divsi (Scalar.subi (8#32) (Scalar.addi (BitVec.ofNat 32 (i 1).val) 1#32)) 1#32) 1#32)) 1#32 = 7 - (i 1).val := by decide +kernel

theorem trips3 : ∀ i : grid0.Coords, Scf.trips (Scalar.addi (Scalar.addi (BitVec.ofNat 32 (i 1).val) 1#32) (Scalar.muli (Scalar.divsi (Scalar.subi (8#32) (Scalar.addi (BitVec.ofNat 32 (i 1).val) 1#32)) 1#32) 1#32))
    (Scalar.addi (Scalar.addi (BitVec.ofNat 32 (i 1).val) 1#32) (Scalar.subi (8#32) (Scalar.addi (BitVec.ofNat 32 (i 1).val) 1#32))) 1#32 = 0 := by decide +kernel

theorem trips2_le : ∀ i : grid0.Coords, 7 - (i 1).val ≤ (k0_t2_loop i).trips := by decide +kernel

theorem cst45 : st2.sl.cst_45 (F := Ideal) = (0 : EReal) := by
  unfold st2.sl.cst_45
  exact Ideal.ofBits_zero ..

theorem cat (a b : FVec Ideal S256x128 .f32) (p : Fin 512) (l : Fin 128) : k0_pay119 a b (ix2 p l) = if h : p.val < 256 then a (ix2 ⟨p.val, h⟩ l) else b (ix2 ⟨p.val - 256, by omega⟩ l) := by
  pointwise [k0_pay119]

theorem cat1 (a b : FVec Ideal S256x1 .f32) (p : Fin 512) : k0_pay121 a b (ix2 p 0) = if h : p.val < 256 then a (ix2 ⟨p.val, h⟩ 0) else b (ix2 ⟨p.val - 256, by omega⟩ 0) := by
  pointwise [k0_pay121]

theorem catv (a b : FVec Ideal S256x128 .f32) (p : Fin 512) (l : Fin 128) : k0_pay120 a b (ix2 p l) = if h : p.val < 256 then a (ix2 ⟨p.val, h⟩ l) else b (ix2 ⟨p.val - 256, by omega⟩ l) := by
  pointwise [k0_pay120]

theorem cat1b (a b : FVec Ideal S256x1 .f32) (p : Fin 512) : k0_pay122 a b (ix2 p 0) = if h : p.val < 256 then a (ix2 ⟨p.val, h⟩ 0) else b (ix2 ⟨p.val - 256, by omega⟩ 0) := by
  pointwise [k0_pay122]

theorem mask_join (f : ℕ → EReal) (j p : ℕ) (hj : j ≤ 7) (hp : p < 512) :
    (if p < 256 then ∑ x : Fin 512, (if p ≤ x.val then f (512 * j + x) else 0) else ∑ x : Fin 256, (if p - 256 ≤ x.val then f (512 * j + 256 + x) else 0))
      + ∑ q ∈ Finset.Ico (512 * j + 512) (512 * j + 512 * (7 - j) + 512), f q = ∑ q : Fin 4096, if 512 * j + p ≤ q.val then f q else 0 := by
  have e7 : 512 * j + 512 * (7 - j) + 512 = 4096 := by omega
  rw [e7]
  let g : ℕ → EReal := fun q => if 512 * j + p ≤ q then f q else 0
  have h0 : ∑ q : Fin 4096, (if 512 * j + p ≤ q.val then f q else 0) = ∑ q ∈ Finset.Ico 0 4096, g q := by
    rw [Finset.sum_Ico_eq_sum_range, ← Fin.sum_univ_eq_sum_range]
    simp [g]
  have h1 : ∑ q ∈ Finset.Ico (512 * j + 512) 4096, f q = ∑ q ∈ Finset.Ico (512 * j + 512) 4096, g q := by
    refine Finset.sum_congr rfl fun q hq => ?_
    have := (Finset.mem_Ico.1 hq).1
    simp only [g]; rw [if_pos (by omega)]
  have h2 : ∀ a : ℕ, a ≤ p → ∑ q ∈ Finset.Ico 0 (512 * j + a), g q = 0 := by
    intro a ha
    refine Finset.sum_eq_zero fun q hq => ?_
    have := (Finset.mem_Ico.1 hq).2
    simp only [g]; rw [if_neg (by omega)]
  rw [h0, h1]
  by_cases h : p < 256
  · rw [if_pos h]
    have h3 : ∑ x : Fin 512, (if p ≤ x.val then f (512 * j + x) else 0) = ∑ q ∈ Finset.Ico (512 * j) (512 * j + 512), g q := by
      rw [← tile_sum 512 (512 * j) g]
      refine Finset.sum_congr rfl fun x _ => ?_
      simp only [g, Nat.add_le_add_iff_left]
    rw [h3, Finset.sum_Ico_consecutive _ (by omega) (by omega), ← Finset.sum_Ico_consecutive _ (Nat.zero_le (512 * j)) (by omega : 512 * j ≤ 4096)]
    have := h2 0 (Nat.zero_le _)
    rw [Nat.add_zero] at this
    rw [this, zero_add]
  · rw [if_neg h]
    have h3 : ∑ x : Fin 256, (if p - 256 ≤ x.val then f (512 * j + 256 + x) else 0) = ∑ q ∈ Finset.Ico (512 * j + 256) (512 * j + 256 + 256), g q := by
      rw [← tile_sum 256 (512 * j + 256) g]
      refine Finset.sum_congr rfl fun x _ => ?_
      simp only [g]
      refine if_congr (by omega) rfl rfl
    rw [h3, show 512 * j + 256 + 256 = 512 * j + 512 by omega, Finset.sum_Ico_consecutive _ (by omega) (by omega),
      ← Finset.sum_Ico_consecutive _ (Nat.zero_le (512 * j + 256)) (by omega : 512 * j + 256 ≤ 4096), h2 256 (by omega), zero_add]

theorem out_dk (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole)
    (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (arg0 arg1 : BitVec 32) (v0 : IVec S1x128 32) (v3 v5 : IVec S1x128 1) (v7 v9 : IVec S128x1 1) (v13 v14 : Vec Ideal S512x128 .bf16) (v15 : Vec Ideal S512x128 .f32) (v17 : FVec Ideal S128x512 .f32) (v27 : FVec Ideal S512x1 .f32) (v32 : IVec S1x128 1) (v33 v34 : FVec Ideal S1x128 .bf16) (B : Blk)
   (hQ : FitsQ B (arg2.view.read _ f2) (arg3.view.read _ f3) (arg15.view.read _ f15) (arg17.view.read _ f17))
   (hK : FitsK B (k0_pay63 v0 v3 v13 v27 v32 v33 v34) (st2.sl.r arg0 v0 v5 v13 v15) (k0_pay64 v3 v14) (k0_pay70 v14 (k0_pay68 v5) k0_pay69) (k0_pay65 v7 v17) (k0_pay71 v9 v17)) (hv3 : v3 = k0_pay50) (hv5 : v5 = k0_pay51) (p : Fin 512) (l : Fin 128) : arg10.view.read _ (arg10.view.writes _ f10 (st2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34).1) (ix2 p l) = ∑ q : Fin 4096, if 512 * (i 1).val + p.val ≤ q.val then B.FK p l q else 0 := by
  have hK' : FitsK B (k0_pay63 v0 v3 v13 v27 v32 v33 v34) (st2.sl.r arg0 v0 v5 v13 v15) (k0_pay64 v3 v14) (st2.sl.r_1 v5 v14) (k0_pay65 v7 v17) (k0_pay71 v9 v17) := hK
  have hj : (i 1).val ≤ 7 := Nat.le_of_lt_succ (i 1).isLt
  delta st2
  dsimp only
  refine (View.read_writes_cons_unit_of_mem _ _ _ _ [] (ix2 p l) (ix2 p l) rfl (by intro a; fin_cases a <;> exact (Nat.zero_add _).symm)).trans ?_
  simp only [trips2, trips3]
  pointwise [k0_pay135]
  simp only [st_k0_t3_zero]
  rw [loop_dk (hc := cst45) (hQ := hQ) (hK := hK') (hv3 := hv3) (hv5 := hv5) (hk := trips2_le i)]
  dsimp only
  simp only [cat]
  refine Eq.trans ?_ (mask_join (fun q => B.FK p l q) (i 1).val p.val hj p.isLt)
  congr 1
  by_cases h : p.val < 256
  · rw [dif_pos h, if_pos h]
    exact diag_dk_early c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B hQ hK hv3 hv5 ⟨p.val, h⟩ l
  · rw [dif_neg h, if_neg h]
    have e : 256 + (p.val - 256) = p.val := by omega
    refine (diag_dk_late c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B hQ hK hv3 hv5 ⟨p.val - 256, by omega⟩ l).trans ?_
    simp only [e]

theorem out_dv (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole)
    (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (arg0 arg1 : BitVec 32) (v0 : IVec S1x128 32) (v3 v5 : IVec S1x128 1) (v7 v9 : IVec S128x1 1) (v13 v14 : Vec Ideal S512x128 .bf16) (v15 : Vec Ideal S512x128 .f32) (v17 : FVec Ideal S128x512 .f32) (v27 : FVec Ideal S512x1 .f32) (v32 : IVec S1x128 1) (v33 v34 : FVec Ideal S1x128 .bf16) (B : Blk)
   (hQ : FitsQ B (arg2.view.read _ f2) (arg3.view.read _ f3) (arg15.view.read _ f15) (arg17.view.read _ f17))
   (hK : FitsK B (k0_pay63 v0 v3 v13 v27 v32 v33 v34) (st2.sl.r arg0 v0 v5 v13 v15) (k0_pay64 v3 v14) (k0_pay70 v14 (k0_pay68 v5) k0_pay69) (k0_pay65 v7 v17) (k0_pay71 v9 v17)) (hv3 : v3 = k0_pay50) (hv5 : v5 = k0_pay51) (p : Fin 512) (l : Fin 128) : arg11.view.read _ (arg11.view.writes _ f11 (st2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34).2.1) (ix2 p l) = ∑ q : Fin 4096, if 512 * (i 1).val + p.val ≤ q.val then B.FV p l q else 0 := by
  have hK' : FitsK B (k0_pay63 v0 v3 v13 v27 v32 v33 v34) (st2.sl.r arg0 v0 v5 v13 v15) (k0_pay64 v3 v14) (st2.sl.r_1 v5 v14) (k0_pay65 v7 v17) (k0_pay71 v9 v17) := hK
  have hj : (i 1).val ≤ 7 := Nat.le_of_lt_succ (i 1).isLt
  delta st2
  dsimp only
  refine (View.read_writes_cons_unit_of_mem _ _ _ _ [] (ix2 p l) (ix2 p l) rfl (by intro a; fin_cases a <;> exact (Nat.zero_add _).symm)).trans ?_
  simp only [trips2, trips3]
  pointwise [k0_pay136]
  simp only [st_k0_t3_zero]
  rw [loop_dv (hc := cst45) (hQ := hQ) (hK := hK') (hv3 := hv3) (hv5 := hv5) (hk := trips2_le i)]
  dsimp only
  simp only [catv]
  refine Eq.trans ?_ (mask_join (fun q => B.FV p l q) (i 1).val p.val hj p.isLt)
  congr 1
  by_cases h : p.val < 256
  · rw [dif_pos h, if_pos h]
    exact diag_dv_early c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B hQ hK hv3 hv5 ⟨p.val, h⟩ l
  · rw [dif_neg h, if_neg h]
    have e : 256 + (p.val - 256) = p.val := by omega
    refine (diag_dv_late c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B hQ hK hv3 hv5 ⟨p.val - 256, by omega⟩ l).trans ?_
    simp only [e]

theorem eqw : ∀ (l : Fin 128) (x y : EReal), Scalar.select (IntOp.cmpi .eq (BitVec.ofNat 32 l.val) 0#32) x y = if l.val = 0 then x else y := by
  intro l x y
  have h : ∀ l : Fin 128, IntOp.cmpi .eq (BitVec.ofNat 32 l.val) 0#32 = if l.val = 0 then 1#1 else 0#1 := by decide
  rw [h]
  by_cases e : l.val = 0 <;> simp [e, Scalar.select]

theorem eqw1 : ∀ (l : Fin 128) (x y : EReal), Scalar.select (IntOp.cmpi .eq (BitVec.ofNat 32 l.val) 1#32) x y = if l.val = 1 then x else y := by
  intro l x y
  have h : ∀ l : Fin 128, IntOp.cmpi .eq (BitVec.ofNat 32 l.val) 1#32 = if l.val = 1 then 1#1 else 0#1 := by decide
  rw [h]
  by_cases e : l.val = 1 <;> simp [e, Scalar.select]

theorem out_fk (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole)
    (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (arg0 arg1 : BitVec 32) (v0 : IVec S1x128 32) (v3 v5 : IVec S1x128 1) (v7 v9 : IVec S128x1 1) (v13 v14 : Vec Ideal S512x128 .bf16) (v15 : Vec Ideal S512x128 .f32) (v17 : FVec Ideal S128x512 .f32) (v27 : FVec Ideal S512x1 .f32) (v32 : IVec S1x128 1) (v33 v34 : FVec Ideal S1x128 .bf16) (B : Blk)
   (hQ : FitsQ B (arg2.view.read _ f2) (arg3.view.read _ f3) (arg15.view.read _ f15) (arg17.view.read _ f17))
   (hK : FitsK B (k0_pay63 v0 v3 v13 v27 v32 v33 v34) (st2.sl.r arg0 v0 v5 v13 v15) (k0_pay64 v3 v14) (k0_pay70 v14 (k0_pay68 v5) k0_pay69) (k0_pay65 v7 v17) (k0_pay71 v9 v17)) (hv3 : v3 = k0_pay50) (hv5 : v5 = k0_pay51) (hv0 : ∀ l : Fin 128, v0 (ix2 0 l) = BitVec.ofNat 32 l.val) (p : Fin 512) (l : Fin 128) : arg13.view.read _ (arg13.view.writes _ f13 (st2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34).2.2.2.1) (ix3 0 p l) =
    -(if l.val = 0 then ∑ q : Fin 4096, (if 512 * (i 1).val + p.val ≤ q.val then B.D 0 p q else 0) else if l.val = 1 then ∑ q : Fin 4096, (if 512 * (i 1).val + p.val ≤ q.val then B.D 1 p q else 0) else 0) := by
  have hK' : FitsK B (k0_pay63 v0 v3 v13 v27 v32 v33 v34) (st2.sl.r arg0 v0 v5 v13 v15) (k0_pay64 v3 v14) (st2.sl.r_1 v5 v14) (k0_pay65 v7 v17) (k0_pay71 v9 v17) := hK
  have hj : (i 1).val ≤ 7 := Nat.le_of_lt_succ (i 1).isLt
  delta st2
  dsimp only
  refine (View.read_writes_cons_unit_of_mem _ _ _ _ [] (ix3 0 p l) (ix3 0 p l) rfl (by intro a; fin_cases a <;> exact (Nat.zero_add _).symm)).trans ?_
  simp only [trips2, trips3]
  pointwise [k0_pay137]
  simp only [st_k0_t3_zero, hv0, eqw, eqw1]
  rw [loop_fa (hc := cst45) (hQ := hQ) (hK := hK') (hv3 := hv3) (hv5 := hv5) (hk := trips2_le i), loop_fb (hc := cst45) (hQ := hQ) (hK := hK') (hv3 := hv3) (hv5 := hv5) (hk := trips2_le i)]
  dsimp only
  simp only [cat1, cat1b]
  rw [zero_sub]
  congr 1
  have e : ¬ p.val < 256 → 256 + (p.val - 256) = p.val := by omega
  refine if_congr Iff.rfl ?_ (if_congr Iff.rfl ?_ rfl)
  · refine Eq.trans ?_ (mask_join (fun q => B.D 0 p q) (i 1).val p.val hj p.isLt)
    congr 1
    by_cases h : p.val < 256
    · rw [dif_pos h, if_pos h]
      exact diag_fa_early c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B hQ hK hv3 hv5 ⟨p.val, h⟩
    · rw [dif_neg h, if_neg h]
      refine (diag_fa_late c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B hQ hK hv3 hv5 ⟨p.val - 256, by omega⟩).trans ?_
      simp only [e h]
  · refine Eq.trans ?_ (mask_join (fun q => B.D 1 p q) (i 1).val p.val hj p.isLt)
    congr 1
    by_cases h : p.val < 256
    · rw [dif_pos h, if_pos h]
      exact diag_fb_early c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B hQ hK hv3 hv5 ⟨p.val, h⟩
    · rw [dif_neg h, if_neg h]
      refine (diag_fb_late c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B hQ hK hv3 hv5 ⟨p.val - 256, by omega⟩).trans ?_
      simp only [e h]

end Cert.KernelIdeal.Val
end
-- ==== Proof.V.TripQ.lean ====
module

public import Idealize.ShloMosaic.Lib.Pointwise
public import Idealize.ShloMosaic.Lib.WritesUnit
public import proofs.«01_k».proof.Proof.V.Loop
public import proofs.«01_k».proof.Proof.Gen.KernelIdeal.Loops
public import proofs.«01_k».proof.Proof.Gen.KernelIdeal.Frame
public import proofs.«01_k».proof.Proof.KI.Stage2

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- What key `k` adds to the gradient of query `q` at lane `l`, no mask. -/
def Blk.FQ (B : Blk) (q l k : ℕ) : EReal := B.KT 0 l k * B.D 0 k q + B.KT 1 l k * B.D 1 k q

theorem trip_q (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole) (arg1 : BitVec 32) (v0 : IVec S1x128 32) (v3 : IVec S1x128 1) (v5 : IVec S1x128 1) (v70 : Vec Ideal S512x128 .bf16) (v74 : Vec Ideal S512x128 .bf16) (v79 : FVec Ideal S128x512 .bf16) (v132 : Vec Ideal S512x128 .bf16) (v136 : Vec Ideal S512x128 .bf16) (v141 : FVec Ideal S128x512 .bf16) (v194 : FVec Ideal S256x1 .f32) (v233 : FVec Ideal S256x128 .f32) (v239 : FVec Ideal S256x128 .f32) (v244 : FVec Ideal S256x1 .f32) (v315 : FVec Ideal S256x1 .f32) (v354 : FVec Ideal S256x128 .f32) (v360 : FVec Ideal S256x128 .f32) (v365 : FVec Ideal S256x1 .f32) (v383 : FVec Ideal S1x128x256 .f32) (v388 : BitVec 32) (cst_133 : Ideal .bf16) (hc : cst_133 = (0 : EReal)) (X_arg2 : BufTy.Contents (Elt Ideal) arg2.view.ty) (X_arg3 : BufTy.Contents (Elt Ideal) arg3.view.ty) (X_arg15 : BufTy.Contents (Elt Ideal) arg15.view.ty) (X_arg17 : BufTy.Contents (Elt Ideal) arg17.view.ty) (k : Fin (k0_t2_loop i).trips) (acc) (f14) (f16) (B : Blk)
   (hQ : FitsQ B (arg2.view.read _ X_arg2) (arg3.view.read _ X_arg3) (arg15.view.read _ X_arg15) (arg17.view.read _ X_arg17)) (hK : FitsK B v70 v132 v74 v136 v79 v141) (hv3 : v3 = k0_pay50) (hv5 : v5 = k0_pay51) (n : Fin 8) (l : Fin 128) (x : Fin 512) : arg16.view.read _ (arg16.view.writes _ f16 ((trip_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v0 v3 v5 v70 v74 v79 v132 v136 v141 v194 v233 v239 v244 v315 v354 v360 v365 v383 v388 cst_133 X_arg2 X_arg3 X_arg15 X_arg17 k).2.2.1 acc f14 f16)) (ix3 n l x) =
    if n.val = (i 1).val + k.val + 1 then arg16.view.read _ f16 (ix3 n l x) + ∑ p : Fin 512, B.FQ (512 * n.val + x.val) l p else arg16.view.read _ f16 (ix3 n l x) := by
  have e20 : BitVec.toNat (Scalar.indexCast (Scalar.addi (Scalar.muli (Scf.iv (Scalar.addi (BitVec.ofNat 32 (i 1).val) 1#32) 1#32 k.val) 512#32) 0#32)) = 512 * (i 1).val + 512 * k.val + 512 := congrFun (k0_off20_eq i k) 0
  have e21 : BitVec.toNat (Scalar.indexCast (Scf.iv (Scalar.addi (BitVec.ofNat 32 (i 1).val) 1#32) 1#32 k.val)) = (i 1).val + k.val + 1 := congrFun (k0_off21_eq i k) 0
  subst hv3 hv5 hc
  delta trip_k0_t2
  dsimp only

  by_cases h : n.val = (i 1).val + k.val + 1
  · rw [if_pos h]
    obtain ⟨n, hn⟩ := n
    dsimp only at h ⊢
    subst h
    · refine (View.read_writes_cons_unit_of_mem _ _ _ _ _ (ix3 ⟨_, hn⟩ l x) (ix3 0 l x) (k0_off26_eq i k) (by intro a; fin_cases a <;> (simp; try omega))).trans ?_
      sl_unfold_words
      simp only [View.readAt_eq_ld]
      pointwise [k0_pay17, k0_pay18, k0_pay19, k0_pay20, k0_pay21, k0_pay22, k0_pay23, k0_pay24, k0_pay25, k0_pay26, k0_pay27, k0_pay28, k0_pay29, k0_pay30, k0_pay16, k0_pay125, k0_pay126, k0_pay127, k0_pay128, k0_pay123, k0_pay124]
      simp only [e20, e21, hQ.q, hQ.d, hQ.s0, hQ.s1, hQ.a0, hQ.a1, hK.a0, hK.a1, hK.v0, hK.v1, hK.t0, hK.t1, pay50_eq, pay51_eq, sel_lo, sel_hi, Blk.FQ, Blk.D, Blk.P, Blk.A, Blk.G, st_eq]

      try simp only [Finset.sum_add_distrib]
  · rw [if_neg h]
    exact (View.read_writes_cons_unit_of_not_mem _ _ _ _ _ (ix3 n l x) (k0_off26_eq i k) 0 (by simp; try omega))

theorem trip_f0 (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole) (arg1 : BitVec 32) (v0 : IVec S1x128 32) (v3 : IVec S1x128 1) (v5 : IVec S1x128 1) (v70 : Vec Ideal S512x128 .bf16) (v74 : Vec Ideal S512x128 .bf16) (v79 : FVec Ideal S128x512 .bf16) (v132 : Vec Ideal S512x128 .bf16) (v136 : Vec Ideal S512x128 .bf16) (v141 : FVec Ideal S128x512 .bf16) (v194 : FVec Ideal S256x1 .f32) (v233 : FVec Ideal S256x128 .f32) (v239 : FVec Ideal S256x128 .f32) (v244 : FVec Ideal S256x1 .f32) (v315 : FVec Ideal S256x1 .f32) (v354 : FVec Ideal S256x128 .f32) (v360 : FVec Ideal S256x128 .f32) (v365 : FVec Ideal S256x1 .f32) (v383 : FVec Ideal S1x128x256 .f32) (v388 : BitVec 32) (cst_133 : Ideal .bf16) (hc : cst_133 = (0 : EReal)) (X_arg2 : BufTy.Contents (Elt Ideal) arg2.view.ty) (X_arg3 : BufTy.Contents (Elt Ideal) arg3.view.ty) (X_arg15 : BufTy.Contents (Elt Ideal) arg15.view.ty) (X_arg17 : BufTy.Contents (Elt Ideal) arg17.view.ty) (k : Fin (k0_t2_loop i).trips) (acc) (f14) (f16) (B : Blk)
   (hQ : FitsQ B (arg2.view.read _ X_arg2) (arg3.view.read _ X_arg3) (arg15.view.read _ X_arg15) (arg17.view.read _ X_arg17)) (hK : FitsK B v70 v132 v74 v136 v79 v141) (hv3 : v3 = k0_pay50) (hv5 : v5 = k0_pay51) (n : Fin 8) (x : Fin 512) : arg14.view.read _ (arg14.view.writes _ f14 ((trip_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v0 v3 v5 v70 v74 v79 v132 v136 v141 v194 v233 v239 v244 v315 v354 v360 v365 v383 v388 cst_133 X_arg2 X_arg3 X_arg15 X_arg17 k).2.1 acc f14 f16)) (ix4 0 n 0 x) =
    if n.val = (i 1).val + k.val + 1 then arg14.view.read _ f14 (ix4 0 n 0 x) + ∑ p : Fin 512, B.D 0 p (512 * n.val + x.val) else arg14.view.read _ f14 (ix4 0 n 0 x) := by
  have e20 : BitVec.toNat (Scalar.indexCast (Scalar.addi (Scalar.muli (Scf.iv (Scalar.addi (BitVec.ofNat 32 (i 1).val) 1#32) 1#32 k.val) 512#32) 0#32)) = 512 * (i 1).val + 512 * k.val + 512 := congrFun (k0_off20_eq i k) 0
  have e21 : BitVec.toNat (Scalar.indexCast (Scf.iv (Scalar.addi (BitVec.ofNat 32 (i 1).val) 1#32) 1#32 k.val)) = (i 1).val + k.val + 1 := congrFun (k0_off21_eq i k) 0
  subst hv3 hv5 hc
  delta trip_k0_t2
  dsimp only

  by_cases h : n.val = (i 1).val + k.val + 1
  · rw [if_pos h]
    obtain ⟨n, hn⟩ := n
    dsimp only at h ⊢
    subst h
    · refine (View.read_writes_cons_unit_of_not_mem _ _ _ _ _ (ix4 0 ⟨_, hn⟩ 0 x) (k0_off25_eq i k) 2 (by simp; try omega)).trans ?_
      refine (View.read_writes_cons_unit_of_mem _ _ _ _ _ (ix4 0 ⟨_, hn⟩ 0 x) (ix4 0 0 0 x) (k0_off23_eq i k) (by intro a; fin_cases a <;> (simp; try omega))).trans ?_
      sl_unfold_words
      simp only [View.readAt_eq_ld]
      pointwise [k0_pay17, k0_pay18, k0_pay19, k0_pay20, k0_pay21, k0_pay22, k0_pay23, k0_pay24, k0_pay25, k0_pay26, k0_pay27, k0_pay28, k0_pay29, k0_pay30, k0_pay16, k0_pay125, k0_pay126, k0_pay127, k0_pay128, k0_pay123, k0_pay124]
      simp only [e20, e21, hQ.q, hQ.d, hQ.s0, hQ.s1, hQ.a0, hQ.a1, hK.a0, hK.a1, hK.v0, hK.v1, hK.t0, hK.t1, pay50_eq, pay51_eq, sel_lo, sel_hi, Blk.FQ, Blk.D, Blk.P, Blk.A, Blk.G, st_eq]

      try simp only [Finset.sum_add_distrib]
  · rw [if_neg h]
    refine (View.read_writes_cons_unit_of_not_mem _ _ _ _ _ (ix4 0 n 0 x) (k0_off25_eq i k) 1 (by simp; try omega)).trans ?_
    exact (View.read_writes_cons_unit_of_not_mem _ _ _ _ _ (ix4 0 n 0 x) (k0_off23_eq i k) 1 (by simp; try omega))

theorem trip_f1 (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole) (arg1 : BitVec 32) (v0 : IVec S1x128 32) (v3 : IVec S1x128 1) (v5 : IVec S1x128 1) (v70 : Vec Ideal S512x128 .bf16) (v74 : Vec Ideal S512x128 .bf16) (v79 : FVec Ideal S128x512 .bf16) (v132 : Vec Ideal S512x128 .bf16) (v136 : Vec Ideal S512x128 .bf16) (v141 : FVec Ideal S128x512 .bf16) (v194 : FVec Ideal S256x1 .f32) (v233 : FVec Ideal S256x128 .f32) (v239 : FVec Ideal S256x128 .f32) (v244 : FVec Ideal S256x1 .f32) (v315 : FVec Ideal S256x1 .f32) (v354 : FVec Ideal S256x128 .f32) (v360 : FVec Ideal S256x128 .f32) (v365 : FVec Ideal S256x1 .f32) (v383 : FVec Ideal S1x128x256 .f32) (v388 : BitVec 32) (cst_133 : Ideal .bf16) (hc : cst_133 = (0 : EReal)) (X_arg2 : BufTy.Contents (Elt Ideal) arg2.view.ty) (X_arg3 : BufTy.Contents (Elt Ideal) arg3.view.ty) (X_arg15 : BufTy.Contents (Elt Ideal) arg15.view.ty) (X_arg17 : BufTy.Contents (Elt Ideal) arg17.view.ty) (k : Fin (k0_t2_loop i).trips) (acc) (f14) (f16) (B : Blk)
   (hQ : FitsQ B (arg2.view.read _ X_arg2) (arg3.view.read _ X_arg3) (arg15.view.read _ X_arg15) (arg17.view.read _ X_arg17)) (hK : FitsK B v70 v132 v74 v136 v79 v141) (hv3 : v3 = k0_pay50) (hv5 : v5 = k0_pay51) (n : Fin 8) (x : Fin 512) : arg14.view.read _ (arg14.view.writes _ f14 ((trip_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v0 v3 v5 v70 v74 v79 v132 v136 v141 v194 v233 v239 v244 v315 v354 v360 v365 v383 v388 cst_133 X_arg2 X_arg3 X_arg15 X_arg17 k).2.1 acc f14 f16)) (ix4 0 n 1 x) =
    if n.val = (i 1).val + k.val + 1 then arg14.view.read _ f14 (ix4 0 n 1 x) + ∑ p : Fin 512, B.D 1 p (512 * n.val + x.val) else arg14.view.read _ f14 (ix4 0 n 1 x) := by
  have e20 : BitVec.toNat (Scalar.indexCast (Scalar.addi (Scalar.muli (Scf.iv (Scalar.addi (BitVec.ofNat 32 (i 1).val) 1#32) 1#32 k.val) 512#32) 0#32)) = 512 * (i 1).val + 512 * k.val + 512 := congrFun (k0_off20_eq i k) 0
  have e21 : BitVec.toNat (Scalar.indexCast (Scf.iv (Scalar.addi (BitVec.ofNat 32 (i 1).val) 1#32) 1#32 k.val)) = (i 1).val + k.val + 1 := congrFun (k0_off21_eq i k) 0
  subst hv3 hv5 hc
  delta trip_k0_t2
  dsimp only

  by_cases h : n.val = (i 1).val + k.val + 1
  · rw [if_pos h]
    obtain ⟨n, hn⟩ := n
    dsimp only at h ⊢
    subst h
    ·
      refine (View.read_writes_cons_unit_of_mem _ _ _ _ _ (ix4 0 ⟨_, hn⟩ 1 x) (ix4 0 0 0 x) (k0_off25_eq i k) (by intro a; fin_cases a <;> (simp; try omega))).trans ?_
      sl_unfold_words
      simp only [View.readAt_eq_ld]
      pointwise [k0_pay17, k0_pay18, k0_pay19, k0_pay20, k0_pay21, k0_pay22, k0_pay23, k0_pay24, k0_pay25, k0_pay26, k0_pay27, k0_pay28, k0_pay29, k0_pay30, k0_pay16, k0_pay125, k0_pay126, k0_pay127, k0_pay128, k0_pay123, k0_pay124]
      simp only [e20, e21, hQ.q, hQ.d, hQ.s0, hQ.s1, hQ.a0, hQ.a1, hK.a0, hK.a1, hK.v0, hK.v1, hK.t0, hK.t1, pay50_eq, pay51_eq, sel_lo, sel_hi, Blk.FQ, Blk.D, Blk.P, Blk.A, Blk.G, st_eq]

      try simp only [Finset.sum_add_distrib]
  · rw [if_neg h]
    refine (View.read_writes_cons_unit_of_not_mem _ _ _ _ _ (ix4 0 n 1 x) (k0_off25_eq i k) 1 (by simp; try omega)).trans ?_
    exact (View.read_writes_cons_unit_of_not_mem _ _ _ _ _ (ix4 0 n 1 x) (k0_off23_eq i k) 1 (by simp; try omega))

theorem trip_fz (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole) (arg1 : BitVec 32) (v0 : IVec S1x128 32) (v3 : IVec S1x128 1) (v5 : IVec S1x128 1) (v70 : Vec Ideal S512x128 .bf16) (v74 : Vec Ideal S512x128 .bf16) (v79 : FVec Ideal S128x512 .bf16) (v132 : Vec Ideal S512x128 .bf16) (v136 : Vec Ideal S512x128 .bf16) (v141 : FVec Ideal S128x512 .bf16) (v194 : FVec Ideal S256x1 .f32) (v233 : FVec Ideal S256x128 .f32) (v239 : FVec Ideal S256x128 .f32) (v244 : FVec Ideal S256x1 .f32) (v315 : FVec Ideal S256x1 .f32) (v354 : FVec Ideal S256x128 .f32) (v360 : FVec Ideal S256x128 .f32) (v365 : FVec Ideal S256x1 .f32) (v383 : FVec Ideal S1x128x256 .f32) (v388 : BitVec 32) (cst_133 : Ideal .bf16) (hc : cst_133 = (0 : EReal)) (X_arg2 : BufTy.Contents (Elt Ideal) arg2.view.ty) (X_arg3 : BufTy.Contents (Elt Ideal) arg3.view.ty) (X_arg15 : BufTy.Contents (Elt Ideal) arg15.view.ty) (X_arg17 : BufTy.Contents (Elt Ideal) arg17.view.ty) (k : Fin (k0_t2_loop i).trips) (acc) (f14) (f16) (n : Fin 8) (g : Fin 8) (hg : 2 ≤ g.val) (x : Fin 512) : arg14.view.read _ (arg14.view.writes _ f14 ((trip_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v0 v3 v5 v70 v74 v79 v132 v136 v141 v194 v233 v239 v244 v315 v354 v360 v365 v383 v388 cst_133 X_arg2 X_arg3 X_arg15 X_arg17 k).2.1 acc f14 f16)) (ix4 0 n g x) = arg14.view.read _ f14 (ix4 0 n g x) := by
  delta trip_k0_t2
  dsimp only
  refine (View.read_writes_cons_unit_of_not_mem _ _ _ _ _ (ix4 0 n g x) (k0_off25_eq i k) 2 (by simp; try omega)).trans ?_
  exact (View.read_writes_cons_unit_of_not_mem _ _ _ _ _ (ix4 0 n g x) (k0_off23_eq i k) 2 (by simp; try omega))

theorem loop_q (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole) (arg1 : BitVec 32) (v0 : IVec S1x128 32) (v3 : IVec S1x128 1) (v5 : IVec S1x128 1) (v70 : Vec Ideal S512x128 .bf16) (v74 : Vec Ideal S512x128 .bf16) (v79 : FVec Ideal S128x512 .bf16) (v132 : Vec Ideal S512x128 .bf16) (v136 : Vec Ideal S512x128 .bf16) (v141 : FVec Ideal S128x512 .bf16) (v194 : FVec Ideal S256x1 .f32) (v233 : FVec Ideal S256x128 .f32) (v239 : FVec Ideal S256x128 .f32) (v244 : FVec Ideal S256x1 .f32) (v315 : FVec Ideal S256x1 .f32) (v354 : FVec Ideal S256x128 .f32) (v360 : FVec Ideal S256x128 .f32) (v365 : FVec Ideal S256x1 .f32) (v383 : FVec Ideal S1x128x256 .f32) (v388 : BitVec 32) (cst_133 : Ideal .bf16) (X_arg2 : BufTy.Contents (Elt Ideal) arg2.view.ty) (X_arg3 : BufTy.Contents (Elt Ideal) arg3.view.ty) (X_arg15 : BufTy.Contents (Elt Ideal) arg15.view.ty) (X_arg17 : BufTy.Contents (Elt Ideal) arg17.view.ty)  (G14) (G16) (init) (hc : cst_133 = (0 : EReal)) (B : Blk)
   (hQ : FitsQ B (arg2.view.read _ X_arg2) (arg3.view.read _ X_arg3) (arg15.view.read _ X_arg15) (arg17.view.read _ X_arg17)) (hK : FitsK B v70 v132 v74 v136 v79 v141) (hv3 : v3 = k0_pay50) (hv5 : v5 = k0_pay51) (n : Fin 8) (l : Fin 128) (x : Fin 512) (k : ℕ) (hk : k ≤ (k0_t2_loop i).trips) :
    arg16.view.read _ (arg16.view.writes _ G16 (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v0 v3 v5 v70 v74 v79 v132 v136 v141 v194 v233 v239 v244 v315 v354 v360 v365 v383 v388 cst_133 X_arg2 X_arg3 X_arg15 X_arg17 G14 G16 init k).2.2) (ix3 n l x) = arg16.view.read _ G16 (ix3 n l x) + (if (i 1).val < n.val ∧ n.val < (i 1).val + 1 + k then ∑ p : Fin 512, B.FQ (512 * n.val + x.val) l p else 0) := by
  induction k with
  | zero =>
    rw [if_neg (by omega), add_zero]
    rfl
  | succ k ih =>
    have e := congrArg (fun z => arg16.view.read _ (arg16.view.writes _ G16 z.2.2) (ix3 n l x)) (st_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v0 v3 v5 v70 v74 v79 v132 v136 v141 v194 v233 v239 v244 v315 v354 v360 v365 v383 v388 cst_133 X_arg2 X_arg3 X_arg15 X_arg17 G14 G16 init ⟨k, hk⟩)
    dsimp only at e
    refine e.trans ?_
    try dsimp only
    rw [View.writes_append]
    refine (trip_q 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v0 v3 v5 v70 v74 v79 v132 v136 v141 v194 v233 v239 v244 v315 v354 v360 v365 v383 v388 cst_133 hc X_arg2 X_arg3 X_arg15 X_arg17 ⟨k, hk⟩ _ _ _ B hQ hK hv3 hv5 n l x).trans ?_
    rw [ih (Nat.le_of_succ_le hk)]
    dsimp only
    by_cases h : n.val = (i 1).val + k + 1
    · rw [if_pos h, if_neg (by omega), if_pos (by omega), add_zero]
    · rw [if_neg h]
      congr 1
      exact if_congr (by omega) rfl rfl

theorem loop_f0 (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole) (arg1 : BitVec 32) (v0 : IVec S1x128 32) (v3 : IVec S1x128 1) (v5 : IVec S1x128 1) (v70 : Vec Ideal S512x128 .bf16) (v74 : Vec Ideal S512x128 .bf16) (v79 : FVec Ideal S128x512 .bf16) (v132 : Vec Ideal S512x128 .bf16) (v136 : Vec Ideal S512x128 .bf16) (v141 : FVec Ideal S128x512 .bf16) (v194 : FVec Ideal S256x1 .f32) (v233 : FVec Ideal S256x128 .f32) (v239 : FVec Ideal S256x128 .f32) (v244 : FVec Ideal S256x1 .f32) (v315 : FVec Ideal S256x1 .f32) (v354 : FVec Ideal S256x128 .f32) (v360 : FVec Ideal S256x128 .f32) (v365 : FVec Ideal S256x1 .f32) (v383 : FVec Ideal S1x128x256 .f32) (v388 : BitVec 32) (cst_133 : Ideal .bf16) (X_arg2 : BufTy.Contents (Elt Ideal) arg2.view.ty) (X_arg3 : BufTy.Contents (Elt Ideal) arg3.view.ty) (X_arg15 : BufTy.Contents (Elt Ideal) arg15.view.ty) (X_arg17 : BufTy.Contents (Elt Ideal) arg17.view.ty)  (G14) (G16) (init) (hc : cst_133 = (0 : EReal)) (B : Blk)
   (hQ : FitsQ B (arg2.view.read _ X_arg2) (arg3.view.read _ X_arg3) (arg15.view.read _ X_arg15) (arg17.view.read _ X_arg17)) (hK : FitsK B v70 v132 v74 v136 v79 v141) (hv3 : v3 = k0_pay50) (hv5 : v5 = k0_pay51) (n : Fin 8) (x : Fin 512) (k : ℕ) (hk : k ≤ (k0_t2_loop i).trips) :
    arg14.view.read _ (arg14.view.writes _ G14 (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v0 v3 v5 v70 v74 v79 v132 v136 v141 v194 v233 v239 v244 v315 v354 v360 v365 v383 v388 cst_133 X_arg2 X_arg3 X_arg15 X_arg17 G14 G16 init k).2.1) (ix4 0 n 0 x) = arg14.view.read _ G14 (ix4 0 n 0 x) + (if (i 1).val < n.val ∧ n.val < (i 1).val + 1 + k then ∑ p : Fin 512, B.D 0 p (512 * n.val + x.val) else 0) := by
  induction k with
  | zero =>
    rw [if_neg (by omega), add_zero]
    rfl
  | succ k ih =>
    have e := congrArg (fun z => arg14.view.read _ (arg14.view.writes _ G14 z.2.1) (ix4 0 n 0 x)) (st_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v0 v3 v5 v70 v74 v79 v132 v136 v141 v194 v233 v239 v244 v315 v354 v360 v365 v383 v388 cst_133 X_arg2 X_arg3 X_arg15 X_arg17 G14 G16 init ⟨k, hk⟩)
    dsimp only at e
    refine e.trans ?_
    try dsimp only
    rw [View.writes_append]
    refine (trip_f0 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v0 v3 v5 v70 v74 v79 v132 v136 v141 v194 v233 v239 v244 v315 v354 v360 v365 v383 v388 cst_133 hc X_arg2 X_arg3 X_arg15 X_arg17 ⟨k, hk⟩ _ _ _ B hQ hK hv3 hv5 n x).trans ?_
    rw [ih (Nat.le_of_succ_le hk)]
    dsimp only
    by_cases h : n.val = (i 1).val + k + 1
    · rw [if_pos h, if_neg (by omega), if_pos (by omega), add_zero]
    · rw [if_neg h]
      congr 1
      exact if_congr (by omega) rfl rfl

theorem loop_f1 (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole) (arg1 : BitVec 32) (v0 : IVec S1x128 32) (v3 : IVec S1x128 1) (v5 : IVec S1x128 1) (v70 : Vec Ideal S512x128 .bf16) (v74 : Vec Ideal S512x128 .bf16) (v79 : FVec Ideal S128x512 .bf16) (v132 : Vec Ideal S512x128 .bf16) (v136 : Vec Ideal S512x128 .bf16) (v141 : FVec Ideal S128x512 .bf16) (v194 : FVec Ideal S256x1 .f32) (v233 : FVec Ideal S256x128 .f32) (v239 : FVec Ideal S256x128 .f32) (v244 : FVec Ideal S256x1 .f32) (v315 : FVec Ideal S256x1 .f32) (v354 : FVec Ideal S256x128 .f32) (v360 : FVec Ideal S256x128 .f32) (v365 : FVec Ideal S256x1 .f32) (v383 : FVec Ideal S1x128x256 .f32) (v388 : BitVec 32) (cst_133 : Ideal .bf16) (X_arg2 : BufTy.Contents (Elt Ideal) arg2.view.ty) (X_arg3 : BufTy.Contents (Elt Ideal) arg3.view.ty) (X_arg15 : BufTy.Contents (Elt Ideal) arg15.view.ty) (X_arg17 : BufTy.Contents (Elt Ideal) arg17.view.ty)  (G14) (G16) (init) (hc : cst_133 = (0 : EReal)) (B : Blk)
   (hQ : FitsQ B (arg2.view.read _ X_arg2) (arg3.view.read _ X_arg3) (arg15.view.read _ X_arg15) (arg17.view.read _ X_arg17)) (hK : FitsK B v70 v132 v74 v136 v79 v141) (hv3 : v3 = k0_pay50) (hv5 : v5 = k0_pay51) (n : Fin 8) (x : Fin 512) (k : ℕ) (hk : k ≤ (k0_t2_loop i).trips) :
    arg14.view.read _ (arg14.view.writes _ G14 (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v0 v3 v5 v70 v74 v79 v132 v136 v141 v194 v233 v239 v244 v315 v354 v360 v365 v383 v388 cst_133 X_arg2 X_arg3 X_arg15 X_arg17 G14 G16 init k).2.1) (ix4 0 n 1 x) = arg14.view.read _ G14 (ix4 0 n 1 x) + (if (i 1).val < n.val ∧ n.val < (i 1).val + 1 + k then ∑ p : Fin 512, B.D 1 p (512 * n.val + x.val) else 0) := by
  induction k with
  | zero =>
    rw [if_neg (by omega), add_zero]
    rfl
  | succ k ih =>
    have e := congrArg (fun z => arg14.view.read _ (arg14.view.writes _ G14 z.2.1) (ix4 0 n 1 x)) (st_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v0 v3 v5 v70 v74 v79 v132 v136 v141 v194 v233 v239 v244 v315 v354 v360 v365 v383 v388 cst_133 X_arg2 X_arg3 X_arg15 X_arg17 G14 G16 init ⟨k, hk⟩)
    dsimp only at e
    refine e.trans ?_
    try dsimp only
    rw [View.writes_append]
    refine (trip_f1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v0 v3 v5 v70 v74 v79 v132 v136 v141 v194 v233 v239 v244 v315 v354 v360 v365 v383 v388 cst_133 hc X_arg2 X_arg3 X_arg15 X_arg17 ⟨k, hk⟩ _ _ _ B hQ hK hv3 hv5 n x).trans ?_
    rw [ih (Nat.le_of_succ_le hk)]
    dsimp only
    by_cases h : n.val = (i 1).val + k + 1
    · rw [if_pos h, if_neg (by omega), if_pos (by omega), add_zero]
    · rw [if_neg h]
      congr 1
      exact if_congr (by omega) rfl rfl

theorem loop_fz (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole) (arg1 : BitVec 32) (v0 : IVec S1x128 32) (v3 : IVec S1x128 1) (v5 : IVec S1x128 1) (v70 : Vec Ideal S512x128 .bf16) (v74 : Vec Ideal S512x128 .bf16) (v79 : FVec Ideal S128x512 .bf16) (v132 : Vec Ideal S512x128 .bf16) (v136 : Vec Ideal S512x128 .bf16) (v141 : FVec Ideal S128x512 .bf16) (v194 : FVec Ideal S256x1 .f32) (v233 : FVec Ideal S256x128 .f32) (v239 : FVec Ideal S256x128 .f32) (v244 : FVec Ideal S256x1 .f32) (v315 : FVec Ideal S256x1 .f32) (v354 : FVec Ideal S256x128 .f32) (v360 : FVec Ideal S256x128 .f32) (v365 : FVec Ideal S256x1 .f32) (v383 : FVec Ideal S1x128x256 .f32) (v388 : BitVec 32) (cst_133 : Ideal .bf16) (X_arg2 : BufTy.Contents (Elt Ideal) arg2.view.ty) (X_arg3 : BufTy.Contents (Elt Ideal) arg3.view.ty) (X_arg15 : BufTy.Contents (Elt Ideal) arg15.view.ty) (X_arg17 : BufTy.Contents (Elt Ideal) arg17.view.ty)  (G14) (G16) (init) (hc : cst_133 = (0 : EReal)) (n : Fin 8) (g : Fin 8) (hg : 2 ≤ g.val) (x : Fin 512) (k : ℕ) (hk : k ≤ (k0_t2_loop i).trips) :
    arg14.view.read _ (arg14.view.writes _ G14 (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v0 v3 v5 v70 v74 v79 v132 v136 v141 v194 v233 v239 v244 v315 v354 v360 v365 v383 v388 cst_133 X_arg2 X_arg3 X_arg15 X_arg17 G14 G16 init k).2.1) (ix4 0 n g x) = arg14.view.read _ G14 (ix4 0 n g x) := by
  induction k with
  | zero =>
    rfl
  | succ k ih =>
    have e := congrArg (fun z => arg14.view.read _ (arg14.view.writes _ G14 z.2.1) (ix4 0 n g x)) (st_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v0 v3 v5 v70 v74 v79 v132 v136 v141 v194 v233 v239 v244 v315 v354 v360 v365 v383 v388 cst_133 X_arg2 X_arg3 X_arg15 X_arg17 G14 G16 init ⟨k, hk⟩)
    dsimp only at e
    refine e.trans ?_
    try dsimp only
    rw [View.writes_append]
    refine (trip_fz 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v0 v3 v5 v70 v74 v79 v132 v136 v141 v194 v233 v239 v244 v315 v354 v360 v365 v383 v388 cst_133 hc X_arg2 X_arg3 X_arg15 X_arg17 ⟨k, hk⟩ _ _ _ n g hg x).trans ?_
    exact ih (Nat.le_of_succ_le hk)

end Cert.KernelIdeal.Val
end
-- ==== Proof.V.DiagQ.lean ====
module

public import Idealize.ShloMosaic.Lib.Pointwise
public import Idealize.ShloMosaic.Lib.WordCmp
public import proofs.«01_k».proof.Proof.V.Diag
public import proofs.«01_k».proof.Proof.V.TripQ
public import proofs.«01_k».proof.Proof.Gen.KernelIdeal.Loops
public import proofs.«01_k».proof.Proof.Gen.KernelIdeal.Frame
public import proofs.«01_k».proof.Proof.KI.Stage2

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem o13 (i : grid0.Coords) : k0_off13 i 0 = (i 1).val := by rw [k0_off13_eq]; rfl
theorem o13b (i : grid0.Coords) : k0_off13 i 1 = 0 := by rw [k0_off13_eq]; rfl
theorem o13c (i : grid0.Coords) : k0_off13 i 2 = 0 := by rw [k0_off13_eq]; rfl

theorem diag_f0_early (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole)
    (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (arg0 arg1 : BitVec 32) (v0 : IVec S1x128 32) (v3 v5 : IVec S1x128 1) (v7 v9 : IVec S128x1 1) (v13 v14 : Vec Ideal S512x128 .bf16) (v15 : Vec Ideal S512x128 .f32) (v17 : FVec Ideal S128x512 .f32) (v27 : FVec Ideal S512x1 .f32) (v32 : IVec S1x128 1) (v33 v34 : FVec Ideal S1x128 .bf16) (B : Blk)
   (hQ : FitsQ B (arg2.view.read _ f2) (arg3.view.read _ f3) (arg15.view.read _ f15) (arg17.view.read _ f17))
   (hK : FitsK B (k0_pay63 v0 v3 v13 v27 v32 v33 v34) (st2.sl.r arg0 v0 v5 v13 v15) (k0_pay64 v3 v14) (k0_pay70 v14 (k0_pay68 v5) k0_pay69) (k0_pay65 v7 v17) (k0_pay71 v9 v17)) (hv3 : v3 = k0_pay50) (hv5 : v5 = k0_pay51) (V : FVec Ideal S1x1x1x512 .f32) (x : Fin 512) : k0_pay84 (st2.sl.r_5 i arg3 arg15 arg17 f3 f15 f17 v0 v3 v13 v14 v27 v32 v33 v34) V (ix4 0 0 0 x) = V (ix4 0 0 0 x) + ∑ p : Fin 256, if p.val ≤ x.val then B.D 0 p (512 * (i 1).val + x) else 0 := by
  subst hv3 hv5
  simp only [st2.sl.r_1, st2.sl.r_2, st2.sl.r_3, st2.sl.r_4, st2.sl.r_5, st2.sl.r_6, st2.sl.r_7, st2.sl.r_8, st2.sl.r_9, st2.sl.r_10, st2.sl.r_11, st2.sl.r_12, st2.sl.r_13, st2.sl.r_14, st2.sl.r_15, st2.sl.r_16, st2.sl.r_17, st2.sl.r_18, st2.sl.r_19, st2.sl.r_20, st2.sl.r_21, st2.sl.r_22, st2.sl.r_23, st2.sl.r_24, st2.sl.r_25, st2.sl.r_26, st2.sl.r_27, st2.sl.r_28, st2.sl.r_29, st2.sl.r_30, st2.sl.r_31, st2.sl.cst_45, st2.sl.cst_114]
  simp only [View.readAt_eq_ld, k0_off7_eq, k0_off8_eq, k0_off9_eq, k0_off11_eq, k0_off13_eq, k0_off14_eq, k0_off15_eq, k0_off17_eq]
  pointwise [k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118]
  simp only [hQ.q, hQ.d, hQ.s0, hQ.s1, hQ.a0, hQ.a1, hK.a0, hK.a1, hK.v0, hK.v1, hK.t0, hK.t1, pay50_eq, pay51_eq, sel_lo, sel_hi]
  obtain ⟨e1, e2, e3, e4, e5, e6, e7, e8, e9, e10, e11, e12, e13, e14, e15, e16, e17, e18, e19⟩ := off_simp i
  simp only [e1, e2, e3, e4, e5, e6, e7, e8, e9, e10, e11, e12, e13, e14, e15, e16, e17, e18, e19, zero_add, Fin.mk_zero, Fin.mk_one, Fin.zero_eta, Fin.eta, hQ.q, hQ.d, hQ.s0, hQ.s1, hQ.a0, hQ.a1]
  simp only [mask_sel0]
  refine congrArg (fun z => V (ix4 0 0 0 x) + z) (Finset.sum_congr rfl fun p _ => ?_)
  by_cases hx : p.val ≤ x.val
  · simp only [hx, if_true, Blk.D, Blk.P, Blk.A, Blk.G, ← Nat.add_assoc]
  · simp only [hx, if_false, zero_mul]

theorem diag_f1_early (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole)
    (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (arg0 arg1 : BitVec 32) (v0 : IVec S1x128 32) (v3 v5 : IVec S1x128 1) (v7 v9 : IVec S128x1 1) (v13 v14 : Vec Ideal S512x128 .bf16) (v15 : Vec Ideal S512x128 .f32) (v17 : FVec Ideal S128x512 .f32) (v27 : FVec Ideal S512x1 .f32) (v32 : IVec S1x128 1) (v33 v34 : FVec Ideal S1x128 .bf16) (B : Blk)
   (hQ : FitsQ B (arg2.view.read _ f2) (arg3.view.read _ f3) (arg15.view.read _ f15) (arg17.view.read _ f17))
   (hK : FitsK B (k0_pay63 v0 v3 v13 v27 v32 v33 v34) (st2.sl.r arg0 v0 v5 v13 v15) (k0_pay64 v3 v14) (k0_pay70 v14 (k0_pay68 v5) k0_pay69) (k0_pay65 v7 v17) (k0_pay71 v9 v17)) (hv3 : v3 = k0_pay50) (hv5 : v5 = k0_pay51) (V : FVec Ideal S1x1x1x512 .f32) (x : Fin 512) : k0_pay92 (st2.sl.r_1 v5 v14) (st2.sl.r_3 i arg3 f3) (st2.sl.r_4 i arg15 f15) (st2.sl.r_12 i arg17 f17 arg0 v0 v5 v13 v15) V (ix4 0 0 0 x) = V (ix4 0 0 0 x) + ∑ p : Fin 256, if p.val ≤ x.val then B.D 1 p (512 * (i 1).val + x) else 0 := by
  subst hv3 hv5
  simp only [st2.sl.r_1, st2.sl.r_2, st2.sl.r_3, st2.sl.r_4, st2.sl.r_5, st2.sl.r_6, st2.sl.r_7, st2.sl.r_8, st2.sl.r_9, st2.sl.r_10, st2.sl.r_11, st2.sl.r_12, st2.sl.r_13, st2.sl.r_14, st2.sl.r_15, st2.sl.r_16, st2.sl.r_17, st2.sl.r_18, st2.sl.r_19, st2.sl.r_20, st2.sl.r_21, st2.sl.r_22, st2.sl.r_23, st2.sl.r_24, st2.sl.r_25, st2.sl.r_26, st2.sl.r_27, st2.sl.r_28, st2.sl.r_29, st2.sl.r_30, st2.sl.r_31, st2.sl.cst_45, st2.sl.cst_114]
  simp only [View.readAt_eq_ld, k0_off7_eq, k0_off8_eq, k0_off9_eq, k0_off11_eq, k0_off13_eq, k0_off14_eq, k0_off15_eq, k0_off17_eq]
  pointwise [k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118]
  simp only [hQ.q, hQ.d, hQ.s0, hQ.s1, hQ.a0, hQ.a1, hK.a0, hK.a1, hK.v0, hK.v1, hK.t0, hK.t1, pay50_eq, pay51_eq, sel_lo, sel_hi]
  obtain ⟨e1, e2, e3, e4, e5, e6, e7, e8, e9, e10, e11, e12, e13, e14, e15, e16, e17, e18, e19⟩ := off_simp i
  simp only [e1, e2, e3, e4, e5, e6, e7, e8, e9, e10, e11, e12, e13, e14, e15, e16, e17, e18, e19, zero_add, Fin.mk_zero, Fin.mk_one, Fin.zero_eta, Fin.eta, hQ.q, hQ.d, hQ.s0, hQ.s1, hQ.a0, hQ.a1]
  simp only [mask_sel0]
  refine congrArg (fun z => V (ix4 0 0 0 x) + z) (Finset.sum_congr rfl fun p _ => ?_)
  by_cases hx : p.val ≤ x.val
  · simp only [hx, if_true, Blk.D, Blk.P, Blk.A, Blk.G, ← Nat.add_assoc]
  · simp only [hx, if_false, zero_mul]

theorem diag_f0_late (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole)
    (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (arg0 arg1 : BitVec 32) (v0 : IVec S1x128 32) (v3 v5 : IVec S1x128 1) (v7 v9 : IVec S128x1 1) (v13 v14 : Vec Ideal S512x128 .bf16) (v15 : Vec Ideal S512x128 .f32) (v17 : FVec Ideal S128x512 .f32) (v27 : FVec Ideal S512x1 .f32) (v32 : IVec S1x128 1) (v33 v34 : FVec Ideal S1x128 .bf16) (B : Blk)
   (hQ : FitsQ B (arg2.view.read _ f2) (arg3.view.read _ f3) (arg15.view.read _ f15) (arg17.view.read _ f17))
   (hK : FitsK B (k0_pay63 v0 v3 v13 v27 v32 v33 v34) (st2.sl.r arg0 v0 v5 v13 v15) (k0_pay64 v3 v14) (k0_pay70 v14 (k0_pay68 v5) k0_pay69) (k0_pay65 v7 v17) (k0_pay71 v9 v17)) (hv3 : v3 = k0_pay50) (hv5 : v5 = k0_pay51) (V : FVec Ideal S1x1x1x256 .f32) (x : Fin 256) : k0_pay109 (st2.sl.r_20 i arg3 arg15 arg17 f3 f15 f17 v0 v3 v13 v14 v27 v32 v33 v34) V (ix4 0 0 0 x) = V (ix4 0 0 0 x) + ∑ p : Fin 256, if p.val ≤ x.val then B.D 0 (256 + p) (512 * (i 1).val + 256 + x) else 0 := by
  subst hv3 hv5
  simp only [st2.sl.r_1, st2.sl.r_2, st2.sl.r_3, st2.sl.r_4, st2.sl.r_5, st2.sl.r_6, st2.sl.r_7, st2.sl.r_8, st2.sl.r_9, st2.sl.r_10, st2.sl.r_11, st2.sl.r_12, st2.sl.r_13, st2.sl.r_14, st2.sl.r_15, st2.sl.r_16, st2.sl.r_17, st2.sl.r_18, st2.sl.r_19, st2.sl.r_20, st2.sl.r_21, st2.sl.r_22, st2.sl.r_23, st2.sl.r_24, st2.sl.r_25, st2.sl.r_26, st2.sl.r_27, st2.sl.r_28, st2.sl.r_29, st2.sl.r_30, st2.sl.r_31, st2.sl.cst_45, st2.sl.cst_114]
  simp only [View.readAt_eq_ld, k0_off7_eq, k0_off8_eq, k0_off9_eq, k0_off11_eq, k0_off13_eq, k0_off14_eq, k0_off15_eq, k0_off17_eq]
  pointwise [k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118]
  simp only [hQ.q, hQ.d, hQ.s0, hQ.s1, hQ.a0, hQ.a1, hK.a0, hK.a1, hK.v0, hK.v1, hK.t0, hK.t1, pay50_eq, pay51_eq, sel_lo, sel_hi]
  obtain ⟨e1, e2, e3, e4, e5, e6, e7, e8, e9, e10, e11, e12, e13, e14, e15, e16, e17, e18, e19⟩ := off_simp i
  simp only [e1, e2, e3, e4, e5, e6, e7, e8, e9, e10, e11, e12, e13, e14, e15, e16, e17, e18, e19, zero_add, Fin.mk_zero, Fin.mk_one, Fin.zero_eta, Fin.eta, hQ.q, hQ.d, hQ.s0, hQ.s1, hQ.a0, hQ.a1]
  simp only [mask_sel256]
  refine congrArg (fun z => V (ix4 0 0 0 x) + z) (Finset.sum_congr rfl fun p _ => ?_)
  by_cases hx : p.val ≤ x.val
  · simp only [hx, if_true, Blk.D, Blk.P, Blk.A, Blk.G, ← Nat.add_assoc]
  · simp only [hx, if_false, zero_mul]

theorem diag_f1_late (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole)
    (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (arg0 arg1 : BitVec 32) (v0 : IVec S1x128 32) (v3 v5 : IVec S1x128 1) (v7 v9 : IVec S128x1 1) (v13 v14 : Vec Ideal S512x128 .bf16) (v15 : Vec Ideal S512x128 .f32) (v17 : FVec Ideal S128x512 .f32) (v27 : FVec Ideal S512x1 .f32) (v32 : IVec S1x128 1) (v33 v34 : FVec Ideal S1x128 .bf16) (B : Blk)
   (hQ : FitsQ B (arg2.view.read _ f2) (arg3.view.read _ f3) (arg15.view.read _ f15) (arg17.view.read _ f17))
   (hK : FitsK B (k0_pay63 v0 v3 v13 v27 v32 v33 v34) (st2.sl.r arg0 v0 v5 v13 v15) (k0_pay64 v3 v14) (k0_pay70 v14 (k0_pay68 v5) k0_pay69) (k0_pay65 v7 v17) (k0_pay71 v9 v17)) (hv3 : v3 = k0_pay50) (hv5 : v5 = k0_pay51) (V : FVec Ideal S1x1x1x256 .f32) (x : Fin 256) : k0_pay117 (st2.sl.r_18 i arg3 f3) (st2.sl.r_19 i arg15 f15) (st2.sl.r_27 i arg17 f17 arg0 v0 v5 v13 v15) (st2.sl.r_28 v5 v14) st2.sl.cst_114 V (ix4 0 0 0 x) = V (ix4 0 0 0 x) + ∑ p : Fin 256, if p.val ≤ x.val then B.D 1 (256 + p) (512 * (i 1).val + 256 + x) else 0 := by
  subst hv3 hv5
  simp only [st2.sl.r_1, st2.sl.r_2, st2.sl.r_3, st2.sl.r_4, st2.sl.r_5, st2.sl.r_6, st2.sl.r_7, st2.sl.r_8, st2.sl.r_9, st2.sl.r_10, st2.sl.r_11, st2.sl.r_12, st2.sl.r_13, st2.sl.r_14, st2.sl.r_15, st2.sl.r_16, st2.sl.r_17, st2.sl.r_18, st2.sl.r_19, st2.sl.r_20, st2.sl.r_21, st2.sl.r_22, st2.sl.r_23, st2.sl.r_24, st2.sl.r_25, st2.sl.r_26, st2.sl.r_27, st2.sl.r_28, st2.sl.r_29, st2.sl.r_30, st2.sl.r_31, st2.sl.cst_45, st2.sl.cst_114]
  simp only [View.readAt_eq_ld, k0_off7_eq, k0_off8_eq, k0_off9_eq, k0_off11_eq, k0_off13_eq, k0_off14_eq, k0_off15_eq, k0_off17_eq]
  pointwise [k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118]
  simp only [hQ.q, hQ.d, hQ.s0, hQ.s1, hQ.a0, hQ.a1, hK.a0, hK.a1, hK.v0, hK.v1, hK.t0, hK.t1, pay50_eq, pay51_eq, sel_lo, sel_hi]
  obtain ⟨e1, e2, e3, e4, e5, e6, e7, e8, e9, e10, e11, e12, e13, e14, e15, e16, e17, e18, e19⟩ := off_simp i
  simp only [e1, e2, e3, e4, e5, e6, e7, e8, e9, e10, e11, e12, e13, e14, e15, e16, e17, e18, e19, zero_add, Fin.mk_zero, Fin.mk_one, Fin.zero_eta, Fin.eta, hQ.q, hQ.d, hQ.s0, hQ.s1, hQ.a0, hQ.a1]
  simp only [mask_sel256]
  refine congrArg (fun z => V (ix4 0 0 0 x) + z) (Finset.sum_congr rfl fun p _ => ?_)
  by_cases hx : p.val ≤ x.val
  · simp only [hx, if_true, Blk.D, Blk.P, Blk.A, Blk.G, ← Nat.add_assoc]
  · simp only [hx, if_false, zero_mul]

theorem diag_q_early (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole)
    (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (arg0 arg1 : BitVec 32) (v0 : IVec S1x128 32) (v3 v5 : IVec S1x128 1) (v7 v9 : IVec S128x1 1) (v13 v14 : Vec Ideal S512x128 .bf16) (v15 : Vec Ideal S512x128 .f32) (v17 : FVec Ideal S128x512 .f32) (v27 : FVec Ideal S512x1 .f32) (v32 : IVec S1x128 1) (v33 v34 : FVec Ideal S1x128 .bf16) (B : Blk)
   (hQ : FitsQ B (arg2.view.read _ f2) (arg3.view.read _ f3) (arg15.view.read _ f15) (arg17.view.read _ f17))
   (hK : FitsK B (k0_pay63 v0 v3 v13 v27 v32 v33 v34) (st2.sl.r arg0 v0 v5 v13 v15) (k0_pay64 v3 v14) (k0_pay70 v14 (k0_pay68 v5) k0_pay69) (k0_pay65 v7 v17) (k0_pay71 v9 v17)) (hv3 : v3 = k0_pay50) (hv5 : v5 = k0_pay51)  (l : Fin 128) (x : Fin 512) : k0_pay94 (st2.sl.r_16 i arg3 arg15 arg16 arg17 f3 f15 f16 f17 arg0 v0 v3 v5 v7 v9 v13 v14 v15 v17 v27 v32 v33 v34) (ix3 0 l x) = arg16.view.read _ f16 (ix3 (i 1) l x) + ∑ p : Fin 256, if p.val ≤ x.val then B.FQ (512 * (i 1).val + x) l p else 0 := by
  subst hv3 hv5
  simp only [st2.sl.r_1, st2.sl.r_2, st2.sl.r_3, st2.sl.r_4, st2.sl.r_5, st2.sl.r_6, st2.sl.r_7, st2.sl.r_8, st2.sl.r_9, st2.sl.r_10, st2.sl.r_11, st2.sl.r_12, st2.sl.r_13, st2.sl.r_14, st2.sl.r_15, st2.sl.r_16, st2.sl.r_17, st2.sl.r_18, st2.sl.r_19, st2.sl.r_20, st2.sl.r_21, st2.sl.r_22, st2.sl.r_23, st2.sl.r_24, st2.sl.r_25, st2.sl.r_26, st2.sl.r_27, st2.sl.r_28, st2.sl.r_29, st2.sl.r_30, st2.sl.r_31, st2.sl.cst_45, st2.sl.cst_114]
  simp only [View.readAt_eq_ld, k0_off7_eq, k0_off8_eq, k0_off9_eq, k0_off11_eq, k0_off13_eq, k0_off14_eq, k0_off15_eq, k0_off17_eq]
  pointwise [k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118]
  simp only [hQ.q, hQ.d, hQ.s0, hQ.s1, hQ.a0, hQ.a1, hK.a0, hK.a1, hK.v0, hK.v1, hK.t0, hK.t1, pay50_eq, pay51_eq, sel_lo, sel_hi]
  obtain ⟨e1, e2, e3, e4, e5, e6, e7, e8, e9, e10, e11, e12, e13, e14, e15, e16, e17, e18, e19⟩ := off_simp i
  simp only [e1, e2, e3, e4, e5, e6, e7, e8, e9, e10, e11, e12, e13, e14, e15, e16, e17, e18, e19, zero_add, Fin.mk_zero, Fin.mk_one, Fin.zero_eta, Fin.eta, hQ.q, hQ.d, hQ.s0, hQ.s1, hQ.a0, hQ.a1]
  simp only [mask_sel0]
  rw [← Finset.sum_add_distrib]
  refine congrArg₂ (fun y z : EReal => y + z) (by first | rfl | (simp only [o13, o13b, o13c, zero_add]; rfl)) (Finset.sum_congr rfl fun p _ => ?_)
  by_cases hx : p.val ≤ x.val
  · simp only [hx, if_true, Blk.FQ, Blk.D, Blk.P, Blk.A, Blk.G, ← Nat.add_assoc]
  · simp only [hx, if_false, zero_mul, mul_zero, add_zero]

theorem diag_q_late (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole)
    (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (arg0 arg1 : BitVec 32) (v0 : IVec S1x128 32) (v3 v5 : IVec S1x128 1) (v7 v9 : IVec S128x1 1) (v13 v14 : Vec Ideal S512x128 .bf16) (v15 : Vec Ideal S512x128 .f32) (v17 : FVec Ideal S128x512 .f32) (v27 : FVec Ideal S512x1 .f32) (v32 : IVec S1x128 1) (v33 v34 : FVec Ideal S1x128 .bf16) (B : Blk)
   (hQ : FitsQ B (arg2.view.read _ f2) (arg3.view.read _ f3) (arg15.view.read _ f15) (arg17.view.read _ f17))
   (hK : FitsK B (k0_pay63 v0 v3 v13 v27 v32 v33 v34) (st2.sl.r arg0 v0 v5 v13 v15) (k0_pay64 v3 v14) (k0_pay70 v14 (k0_pay68 v5) k0_pay69) (k0_pay65 v7 v17) (k0_pay71 v9 v17)) (hv3 : v3 = k0_pay50) (hv5 : v5 = k0_pay51) (V : FVec Ideal S1x128x256 .f32) (l : Fin 128) (x : Fin 256) : k0_pay118 (k0_pay71 v9 v17) (st2.sl.r_18 i arg3 f3) (st2.sl.r_19 i arg15 f15) (st2.sl.r_25 i arg3 arg15 arg17 f3 f15 f17 v0 v3 v7 v13 v14 v17 v27 v32 v33 v34) (st2.sl.r_27 i arg17 f17 arg0 v0 v5 v13 v15) (st2.sl.r_28 v5 v14) st2.sl.cst_114 V (ix3 0 l x) = V (ix3 0 l x) + ∑ p : Fin 256, if p.val ≤ x.val then B.FQ (512 * (i 1).val + 256 + x) l (256 + p) else 0 := by
  subst hv3 hv5
  simp only [st2.sl.r_1, st2.sl.r_2, st2.sl.r_3, st2.sl.r_4, st2.sl.r_5, st2.sl.r_6, st2.sl.r_7, st2.sl.r_8, st2.sl.r_9, st2.sl.r_10, st2.sl.r_11, st2.sl.r_12, st2.sl.r_13, st2.sl.r_14, st2.sl.r_15, st2.sl.r_16, st2.sl.r_17, st2.sl.r_18, st2.sl.r_19, st2.sl.r_20, st2.sl.r_21, st2.sl.r_22, st2.sl.r_23, st2.sl.r_24, st2.sl.r_25, st2.sl.r_26, st2.sl.r_27, st2.sl.r_28, st2.sl.r_29, st2.sl.r_30, st2.sl.r_31, st2.sl.cst_45, st2.sl.cst_114]
  simp only [View.readAt_eq_ld, k0_off7_eq, k0_off8_eq, k0_off9_eq, k0_off11_eq, k0_off13_eq, k0_off14_eq, k0_off15_eq, k0_off17_eq]
  pointwise [k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118]
  simp only [hQ.q, hQ.d, hQ.s0, hQ.s1, hQ.a0, hQ.a1, hK.a0, hK.a1, hK.v0, hK.v1, hK.t0, hK.t1, pay50_eq, pay51_eq, sel_lo, sel_hi]
  obtain ⟨e1, e2, e3, e4, e5, e6, e7, e8, e9, e10, e11, e12, e13, e14, e15, e16, e17, e18, e19⟩ := off_simp i
  simp only [e1, e2, e3, e4, e5, e6, e7, e8, e9, e10, e11, e12, e13, e14, e15, e16, e17, e18, e19, zero_add, Fin.mk_zero, Fin.mk_one, Fin.zero_eta, Fin.eta, hQ.q, hQ.d, hQ.s0, hQ.s1, hQ.a0, hQ.a1]
  simp only [mask_sel256]
  rw [← Finset.sum_add_distrib]
  refine congrArg₂ (fun y z : EReal => y + z) (by first | rfl | (simp only [o13, o13b, o13c, zero_add]; rfl)) (Finset.sum_congr rfl fun p _ => ?_)
  by_cases hx : p.val ≤ x.val
  · simp only [hx, if_true, Blk.FQ, Blk.D, Blk.P, Blk.A, Blk.G, ← Nat.add_assoc]
  · simp only [hx, if_false, zero_mul, mul_zero, add_zero]

end Cert.KernelIdeal.Val
end
-- ==== Proof.V.TileQ.lean ====
module

public import Idealize.ShloMosaic.Lib.Pointwise
public import proofs.«01_k».proof.Proof.V.Tile
public import proofs.«01_k».proof.Proof.V.DiagQ
public import proofs.«01_k».proof.Proof.Gen.KernelIdeal.Loops
public import proofs.«01_k».proof.Proof.Gen.KernelIdeal.Frame
public import proofs.«01_k».proof.Proof.KI.Stage2

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem split256 (f : ℕ → EReal) (x : ℕ) (hx : x < 512) :
    (∑ p : Fin 256, if p.val ≤ x then f p else 0) + (if 256 ≤ x then ∑ p : Fin 256, (if p.val ≤ x - 256 then f (256 + p) else 0) else 0)
      = ∑ p : Fin 512, if p.val ≤ x then f p else 0 := by
  have e : ∑ p : Fin 512, (if p.val ≤ x then f p else 0) = (∑ p : Fin 256, if p.val ≤ x then f p else 0) + ∑ p : Fin 256, (if 256 + p.val ≤ x then f (256 + p) else 0) :=
    Fin.sum_univ_add (a := 256) (b := 256) (fun p : Fin (256 + 256) => if p.val ≤ x then f p else 0)
  rw [e]
  congr 1
  by_cases h : 256 ≤ x
  · rw [if_pos h]
    refine Finset.sum_congr rfl fun p _ => if_congr (by omega) rfl rfl
  · rw [if_neg h]
    refine (Finset.sum_eq_zero fun p _ => ?_).symm
    rw [if_neg (by omega)]

theorem join_q (f : ℕ → EReal) (r : EReal) (j n x : ℕ) (hn : n < 8) (hx : x < 512) :
    r + (if n = j then ∑ p : Fin 512, (if p.val ≤ x then f p else 0) else 0) + (if j < n ∧ n < j + 1 + (7 - j) then ∑ p : Fin 512, f p else 0)
      = r + ∑ p : Fin 512, (if 512 * j + p.val ≤ 512 * n + x then f p else 0) := by
  rcases Nat.lt_trichotomy n j with h | h | h
  · rw [if_neg (by omega), if_neg (by omega), add_zero, add_zero]
    rw [Finset.sum_eq_zero fun p _ => if_neg (by omega), add_zero]
  · subst h
    rw [if_pos rfl, if_neg (by omega), add_zero]
    simp only [Nat.add_le_add_iff_left]
  · rw [if_neg (by omega), if_pos (by omega), add_zero]
    congr 1
    exact Finset.sum_congr rfl fun p _ => (if_pos (by omega)).symm

theorem writes_app3 {κ : Kind} {sp : Space} {s : Shape} {e : EltTy} (v : View sig κ sp s e) (f : v.ty.Contents (Elt Ideal)) (L3 L2 L0 : List (View.Piece (Elt Ideal) s e)) (h : L3 = []) :
    v.writes _ f (L3 ++ (L2 ++ L0)) = v.writes _ (v.writes _ f L0) L2 := by
  subst h
  rw [List.nil_append]
  exact View.writes_append ..

theorem ix3_ext {a b c : ℕ} {x x' : Fin a} {y y' : Fin b} {z z' : Fin c} (hx : x.val = x'.val) (hy : y.val = y'.val) (hz : z.val = z'.val) : ix3 x y z = ix3 x' y' z' := by
  rw [Fin.ext hx, Fin.ext hy, Fin.ext hz]

theorem ix4_ext {a b c d : ℕ} {x x' : Fin a} {y y' : Fin b} {z z' : Fin c} {w w' : Fin d} (hx : x.val = x'.val) (hy : y.val = y'.val) (hz : z.val = z'.val) (hw : w.val = w'.val) : ix4 x y z w = ix4 x' y' z' w' := by
  rw [Fin.ext hx, Fin.ext hy, Fin.ext hz, Fin.ext hw]

variable (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole)
  (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (arg0 arg1 : BitVec 32) (v0 : IVec S1x128 32) (v3 v5 : IVec S1x128 1) (v7 v9 : IVec S128x1 1) (v13 v14 : Vec Ideal S512x128 .bf16) (v15 : Vec Ideal S512x128 .f32) (v17 : FVec Ideal S128x512 .f32) (v27 : FVec Ideal S512x1 .f32) (v32 : IVec S1x128 1) (v33 v34 : FVec Ideal S1x128 .bf16) (B : Blk)
include c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B

theorem dread_q
   (hQ : FitsQ B (arg2.view.read _ f2) (arg3.view.read _ f3) (arg15.view.read _ f15) (arg17.view.read _ f17))
   (hK : FitsK B (k0_pay63 v0 v3 v13 v27 v32 v33 v34) (st2.sl.r arg0 v0 v5 v13 v15) (k0_pay64 v3 v14) (k0_pay70 v14 (k0_pay68 v5) k0_pay69) (k0_pay65 v7 v17) (k0_pay71 v9 v17)) (hv3 : v3 = k0_pay50) (hv5 : v5 = k0_pay51) (n : Fin 8) (l : Fin 128) (x : Fin 512) : arg16.view.read _ (arg16.view.writes _ f16 (⟨Rect.unit (k0_off19 i) S1x128x256.size (k0_off19_inb i), st2.sl.r_32 i arg3 arg15 arg16 arg17 f3 f15 f16 f17 arg0 v0 v3 v5 v7 v9 v13 v14 v15 v17 v27 v32 v33 v34⟩ :: st2.sl.H16_1 i arg3 arg15 arg16 arg17 f3 f15 f16 f17 arg0 v0 v3 v5 v7 v9 v13 v14 v15 v17 v27 v32 v33 v34 : List (View.Piece (Elt Ideal) S8x128x512 .f32))) (ix3 n l x) =
    arg16.view.read _ f16 (ix3 n l x) + if n.val = (i 1).val then ∑ p : Fin 512, (if p.val ≤ x.val then B.FQ (512 * n + x) l p else 0) else 0 := by
  by_cases h : n.val = (i 1).val
  · have hn : n = i 1 := Fin.ext h
    subst hn
    rw [if_pos rfl, ← split256 (fun p => B.FQ (512 * (i 1).val + x) l p) x.val x.isLt]
    by_cases hx : 256 ≤ x.val
    · rw [if_pos hx]
      refine (View.read_writes_cons_unit_of_mem _ _ _ _ _ (ix3 (i 1) l x) (ix3 0 l ⟨x.val - 256, by omega⟩) (k0_off19_eq i) (by intro a; fin_cases a <;> (simp; try omega))).trans ?_
      unfold st2.sl.r_32
      refine (diag_q_late c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B hQ hK hv3 hv5 _ l ⟨x.val - 256, by omega⟩).trans ?_
      have e : 512 * (i 1).val + 256 + (x.val - 256) = 512 * (i 1).val + x.val := by omega
      simp only [e]
      rw [← add_assoc]
      congr 1
      refine Eq.trans ?_ (diag_q_early c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B hQ hK hv3 hv5 l x)
      unfold st2.sl.v377 st2.sl.H16_1 View.readCov
      simp only [View.readAt_eq_ld, k0_off19_eq]
      pointwise []
      refine (congrArg _ (ix3_ext (x' := i 1) (y' := l) (z' := x) ?_ ?_ ?_)).trans (View.read_writes_cons_unit_of_mem _ _ _ _ _ (ix3 (i 1) l x) (ix3 0 l x) (k0_off13_eq i) (by intro a; fin_cases a <;> (simp; try omega)))
      · simp [k0_off19_eq]
      · simp [k0_off19_eq]
      · simp [k0_off19_eq]; omega
    · rw [if_neg hx, add_zero]
      refine (View.read_writes_cons_unit_of_not_mem _ _ _ _ _ (ix3 (i 1) l x) (k0_off19_eq i) 2 (by simp; try omega)).trans ?_
      unfold st2.sl.H16_1
      refine (View.read_writes_cons_unit_of_mem _ _ _ _ _ (ix3 (i 1) l x) (ix3 0 l x) (k0_off13_eq i) (by intro a; fin_cases a <;> (simp; try omega))).trans ?_
      exact diag_q_early c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B hQ hK hv3 hv5 l x
  · rw [if_neg h, add_zero]
    refine (View.read_writes_cons_unit_of_not_mem _ _ _ _ _ (ix3 n l x) (k0_off19_eq i) 0 (by simp; try omega)).trans ?_
    unfold st2.sl.H16_1
    exact (View.read_writes_cons_unit_of_not_mem _ _ _ _ _ (ix3 n l x) (k0_off13_eq i) 0 (by simp; try omega))

theorem out_q
   (hQ : FitsQ B (arg2.view.read _ f2) (arg3.view.read _ f3) (arg15.view.read _ f15) (arg17.view.read _ f17))
   (hK : FitsK B (k0_pay63 v0 v3 v13 v27 v32 v33 v34) (st2.sl.r arg0 v0 v5 v13 v15) (k0_pay64 v3 v14) (k0_pay70 v14 (k0_pay68 v5) k0_pay69) (k0_pay65 v7 v17) (k0_pay71 v9 v17)) (hv3 : v3 = k0_pay50) (hv5 : v5 = k0_pay51) (n : Fin 8) (l : Fin 128) (x : Fin 512) : arg16.view.read _ (arg16.view.writes _ f16 (st2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34).2.2.2.2.2.1) (ix3 n l x) =
    arg16.view.read _ f16 (ix3 n l x) + ∑ p : Fin 512, (if 512 * (i 1).val + p.val ≤ 512 * n.val + x.val then B.FQ (512 * n + x) l p else 0) := by
  have hK' : FitsK B (k0_pay63 v0 v3 v13 v27 v32 v33 v34) (st2.sl.r arg0 v0 v5 v13 v15) (k0_pay64 v3 v14) (st2.sl.r_1 v5 v14) (k0_pay65 v7 v17) (k0_pay71 v9 v17) := hK
  have hj : (i 1).val ≤ 7 := Nat.le_of_lt_succ (i 1).isLt
  delta st2
  dsimp only
  simp only [trips2, trips3]
  rw [writes_app3]
  · rw [loop_q (hc := cst45) (hQ := hQ) (hK := hK') (hv3 := hv3) (hv5 := hv5) (hk := trips2_le i)]
    rw [dread_q c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B hQ hK hv3 hv5 n l x]
    exact join_q (fun p => B.FQ (512 * n + x) l p) _ (i 1).val n.val x.val n.isLt x.isLt
  · rfl

theorem dread_f0
   (hQ : FitsQ B (arg2.view.read _ f2) (arg3.view.read _ f3) (arg15.view.read _ f15) (arg17.view.read _ f17))
   (hK : FitsK B (k0_pay63 v0 v3 v13 v27 v32 v33 v34) (st2.sl.r arg0 v0 v5 v13 v15) (k0_pay64 v3 v14) (k0_pay70 v14 (k0_pay68 v5) k0_pay69) (k0_pay65 v7 v17) (k0_pay71 v9 v17)) (hv3 : v3 = k0_pay50) (hv5 : v5 = k0_pay51) (n : Fin 8) (x : Fin 512) : arg14.view.read _ (arg14.view.writes _ f14 (⟨Rect.unit (k0_off18 i) S1x1x1x256.size (k0_off18_inb i), k0_pay117 (st2.sl.r_18 i arg3 f3) (st2.sl.r_19 i arg15 f15) (st2.sl.r_27 i arg17 f17 arg0 v0 v5 v13 v15) (st2.sl.r_28 v5 v14) st2.sl.cst_114 (st2.sl.v367 i arg3 arg14 arg15 arg17 f3 f14 f15 f17 arg0 v0 v3 v5 v13 v14 v15 v27 v32 v33 v34)⟩ :: st2.sl.H14_3 i arg3 arg14 arg15 arg17 f3 f14 f15 f17 arg0 v0 v3 v5 v13 v14 v15 v27 v32 v33 v34 : List (View.Piece (Elt Ideal) S1x8x8x512 .f32))) (ix4 0 n 0 x) =
    arg14.view.read _ f14 (ix4 0 n 0 x) + if n.val = (i 1).val then ∑ p : Fin 512, (if p.val ≤ x.val then B.D 0 p (512 * n + x) else 0) else 0 := by
  by_cases h : n.val = (i 1).val
  · have hn : n = i 1 := Fin.ext h
    subst hn
    rw [if_pos rfl, ← split256 (fun p => B.D 0 p (512 * (i 1).val + x)) x.val x.isLt]
    refine (View.read_writes_cons_unit_of_not_mem _ _ _ _ _ (ix4 0 (i 1) 0 x) (k0_off18_eq i) 2 (by simp; try omega)).trans ?_
    unfold st2.sl.H14_3
    have early : ∀ F14 : arg14.view.ty.Contents (Elt Ideal), arg14.view.read _ (arg14.view.writes _ F14 (st2.sl.H14_2 i arg3 arg14 arg15 arg17 f3 f14 f15 f17 arg0 v0 v3 v5 v13 v14 v15 v27 v32 v33 v34)) (ix4 0 (i 1) 0 x) =
        arg14.view.read _ f14 (ix4 0 (i 1) 0 x) + ∑ p : Fin 256, (if p.val ≤ x.val then B.D 0 p (512 * (i 1).val + x) else 0) := by
      intro F14
      unfold st2.sl.H14_2
      refine (View.read_writes_cons_unit_of_not_mem _ _ _ _ _ (ix4 0 (i 1) 0 x) (k0_off12_eq i) 2 (by simp; try omega)).trans ?_
      refine (View.read_writes_cons_unit_of_mem _ _ _ _ _ (ix4 0 (i 1) 0 x) (ix4 0 0 0 x) (k0_off10_eq i) (by intro a; fin_cases a <;> (simp; try omega))).trans ?_
      refine (diag_f0_early c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B hQ hK hv3 hv5 _ x).trans ?_
      congr 1
      simp only [View.readAt_eq_ld]
      pointwise []
      refine congrArg _ (ix4_ext ?_ ?_ ?_ ?_) <;> simp [k0_off10_eq]
    by_cases hx : 256 ≤ x.val
    · rw [if_pos hx]
      refine (View.read_writes_cons_unit_of_mem _ _ _ _ _ (ix4 0 (i 1) 0 x) (ix4 0 0 0 ⟨x.val - 256, by omega⟩) (k0_off16_eq i) (by intro a; fin_cases a <;> (simp; try omega))).trans ?_
      refine (diag_f0_late c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B hQ hK hv3 hv5 _ ⟨x.val - 256, by omega⟩).trans ?_
      have e : 512 * (i 1).val + 256 + (x.val - 256) = 512 * (i 1).val + x.val := by omega
      simp only [e]
      rw [← add_assoc]
      congr 1
      refine Eq.trans ?_ (early arg14.view.junk)
      unfold st2.sl.v317 View.readCov
      simp only [View.readAt_eq_ld]
      pointwise []
      refine congrArg _ (ix4_ext ?_ ?_ ?_ ?_) <;> simp [k0_off16_eq]
      omega
    · rw [if_neg hx, add_zero]
      refine (View.read_writes_cons_unit_of_not_mem _ _ _ _ _ (ix4 0 (i 1) 0 x) (k0_off16_eq i) 3 (by simp; try omega)).trans ?_
      exact early f14
  · rw [if_neg h, add_zero]
    unfold st2.sl.H14_3 st2.sl.H14_2
    refine (View.read_writes_cons_unit_of_not_mem _ _ _ _ _ (ix4 0 n 0 x) (k0_off18_eq i) 1 (by simp; try omega)).trans ?_
    refine (View.read_writes_cons_unit_of_not_mem _ _ _ _ _ (ix4 0 n 0 x) (k0_off16_eq i) 1 (by simp; try omega)).trans ?_
    refine (View.read_writes_cons_unit_of_not_mem _ _ _ _ _ (ix4 0 n 0 x) (k0_off12_eq i) 1 (by simp; try omega)).trans ?_
    exact (View.read_writes_cons_unit_of_not_mem _ _ _ _ _ (ix4 0 n 0 x) (k0_off10_eq i) 1 (by simp; try omega))

theorem dread_f1
   (hQ : FitsQ B (arg2.view.read _ f2) (arg3.view.read _ f3) (arg15.view.read _ f15) (arg17.view.read _ f17))
   (hK : FitsK B (k0_pay63 v0 v3 v13 v27 v32 v33 v34) (st2.sl.r arg0 v0 v5 v13 v15) (k0_pay64 v3 v14) (k0_pay70 v14 (k0_pay68 v5) k0_pay69) (k0_pay65 v7 v17) (k0_pay71 v9 v17)) (hv3 : v3 = k0_pay50) (hv5 : v5 = k0_pay51) (n : Fin 8) (x : Fin 512) : arg14.view.read _ (arg14.view.writes _ f14 (⟨Rect.unit (k0_off18 i) S1x1x1x256.size (k0_off18_inb i), k0_pay117 (st2.sl.r_18 i arg3 f3) (st2.sl.r_19 i arg15 f15) (st2.sl.r_27 i arg17 f17 arg0 v0 v5 v13 v15) (st2.sl.r_28 v5 v14) st2.sl.cst_114 (st2.sl.v367 i arg3 arg14 arg15 arg17 f3 f14 f15 f17 arg0 v0 v3 v5 v13 v14 v15 v27 v32 v33 v34)⟩ :: st2.sl.H14_3 i arg3 arg14 arg15 arg17 f3 f14 f15 f17 arg0 v0 v3 v5 v13 v14 v15 v27 v32 v33 v34 : List (View.Piece (Elt Ideal) S1x8x8x512 .f32))) (ix4 0 n 1 x) =
    arg14.view.read _ f14 (ix4 0 n 1 x) + if n.val = (i 1).val then ∑ p : Fin 512, (if p.val ≤ x.val then B.D 1 p (512 * n + x) else 0) else 0 := by
  by_cases h : n.val = (i 1).val
  · have hn : n = i 1 := Fin.ext h
    subst hn
    rw [if_pos rfl, ← split256 (fun p => B.D 1 p (512 * (i 1).val + x)) x.val x.isLt]
    unfold st2.sl.H14_3
    have early : ∀ F14 : arg14.view.ty.Contents (Elt Ideal), arg14.view.read _ (arg14.view.writes _ F14 (st2.sl.H14_3 i arg3 arg14 arg15 arg17 f3 f14 f15 f17 arg0 v0 v3 v5 v13 v14 v15 v27 v32 v33 v34)) (ix4 0 (i 1) 1 x) =
        arg14.view.read _ f14 (ix4 0 (i 1) 1 x) + ∑ p : Fin 256, (if p.val ≤ x.val then B.D 1 p (512 * (i 1).val + x) else 0) := by
      intro F14
      unfold st2.sl.H14_3 st2.sl.H14_2
      refine (View.read_writes_cons_unit_of_not_mem _ _ _ _ _ (ix4 0 (i 1) 1 x) (k0_off16_eq i) 2 (by simp; try omega)).trans ?_
      refine (View.read_writes_cons_unit_of_mem _ _ _ _ _ (ix4 0 (i 1) 1 x) (ix4 0 0 0 x) (k0_off12_eq i) (by intro a; fin_cases a <;> (simp; try omega))).trans ?_
      refine (diag_f1_early c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B hQ hK hv3 hv5 _ x).trans ?_
      congr 1
      unfold st2.sl.v246
      simp only [View.readAt_eq_ld]
      pointwise []
      refine congrArg _ (ix4_ext ?_ ?_ ?_ ?_) <;> simp [k0_off12_eq]
    by_cases hx : 256 ≤ x.val
    · rw [if_pos hx]
      refine (View.read_writes_cons_unit_of_mem _ _ _ _ _ (ix4 0 (i 1) 1 x) (ix4 0 0 0 ⟨x.val - 256, by omega⟩) (k0_off18_eq i) (by intro a; fin_cases a <;> (simp; try omega))).trans ?_
      refine (diag_f1_late c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B hQ hK hv3 hv5 _ ⟨x.val - 256, by omega⟩).trans ?_
      have e : 512 * (i 1).val + 256 + (x.val - 256) = 512 * (i 1).val + x.val := by omega
      simp only [e]
      rw [← add_assoc]
      congr 1
      refine Eq.trans ?_ (early arg14.view.junk)
      unfold st2.sl.v367 View.readCov
      simp only [View.readAt_eq_ld]
      pointwise []
      refine congrArg _ (ix4_ext ?_ ?_ ?_ ?_) <;> simp [k0_off18_eq]
      omega
    · rw [if_neg hx, add_zero]
      refine (View.read_writes_cons_unit_of_not_mem _ _ _ _ _ (ix4 0 (i 1) 1 x) (k0_off18_eq i) 3 (by simp; try omega)).trans ?_
      exact early f14
  · rw [if_neg h, add_zero]
    unfold st2.sl.H14_3 st2.sl.H14_2
    refine (View.read_writes_cons_unit_of_not_mem _ _ _ _ _ (ix4 0 n 1 x) (k0_off18_eq i) 1 (by simp; try omega)).trans ?_
    refine (View.read_writes_cons_unit_of_not_mem _ _ _ _ _ (ix4 0 n 1 x) (k0_off16_eq i) 1 (by simp; try omega)).trans ?_
    refine (View.read_writes_cons_unit_of_not_mem _ _ _ _ _ (ix4 0 n 1 x) (k0_off12_eq i) 1 (by simp; try omega)).trans ?_
    exact (View.read_writes_cons_unit_of_not_mem _ _ _ _ _ (ix4 0 n 1 x) (k0_off10_eq i) 1 (by simp; try omega))

theorem dread_fz
   (hQ : FitsQ B (arg2.view.read _ f2) (arg3.view.read _ f3) (arg15.view.read _ f15) (arg17.view.read _ f17))
   (hK : FitsK B (k0_pay63 v0 v3 v13 v27 v32 v33 v34) (st2.sl.r arg0 v0 v5 v13 v15) (k0_pay64 v3 v14) (k0_pay70 v14 (k0_pay68 v5) k0_pay69) (k0_pay65 v7 v17) (k0_pay71 v9 v17)) (hv3 : v3 = k0_pay50) (hv5 : v5 = k0_pay51) (n g : Fin 8) (hg : 2 ≤ g.val) (x : Fin 512) : arg14.view.read _ (arg14.view.writes _ f14 (⟨Rect.unit (k0_off18 i) S1x1x1x256.size (k0_off18_inb i), k0_pay117 (st2.sl.r_18 i arg3 f3) (st2.sl.r_19 i arg15 f15) (st2.sl.r_27 i arg17 f17 arg0 v0 v5 v13 v15) (st2.sl.r_28 v5 v14) st2.sl.cst_114 (st2.sl.v367 i arg3 arg14 arg15 arg17 f3 f14 f15 f17 arg0 v0 v3 v5 v13 v14 v15 v27 v32 v33 v34)⟩ :: st2.sl.H14_3 i arg3 arg14 arg15 arg17 f3 f14 f15 f17 arg0 v0 v3 v5 v13 v14 v15 v27 v32 v33 v34 : List (View.Piece (Elt Ideal) S1x8x8x512 .f32))) (ix4 0 n g x) =
    arg14.view.read _ f14 (ix4 0 n g x) := by
  unfold st2.sl.H14_3 st2.sl.H14_2
  refine (View.read_writes_cons_unit_of_not_mem _ _ _ _ _ (ix4 0 n g x) (k0_off18_eq i) 2 (by simp; try omega)).trans ?_
  refine (View.read_writes_cons_unit_of_not_mem _ _ _ _ _ (ix4 0 n g x) (k0_off16_eq i) 2 (by simp; try omega)).trans ?_
  refine (View.read_writes_cons_unit_of_not_mem _ _ _ _ _ (ix4 0 n g x) (k0_off12_eq i) 2 (by simp; try omega)).trans ?_
  exact (View.read_writes_cons_unit_of_not_mem _ _ _ _ _ (ix4 0 n g x) (k0_off10_eq i) 2 (by simp; try omega))

theorem out_f0
   (hQ : FitsQ B (arg2.view.read _ f2) (arg3.view.read _ f3) (arg15.view.read _ f15) (arg17.view.read _ f17))
   (hK : FitsK B (k0_pay63 v0 v3 v13 v27 v32 v33 v34) (st2.sl.r arg0 v0 v5 v13 v15) (k0_pay64 v3 v14) (k0_pay70 v14 (k0_pay68 v5) k0_pay69) (k0_pay65 v7 v17) (k0_pay71 v9 v17)) (hv3 : v3 = k0_pay50) (hv5 : v5 = k0_pay51) (n : Fin 8) (x : Fin 512) : arg14.view.read _ (arg14.view.writes _ f14 (st2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34).2.2.2.2.1) (ix4 0 n 0 x) =
    arg14.view.read _ f14 (ix4 0 n 0 x) + ∑ p : Fin 512, (if 512 * (i 1).val + p.val ≤ 512 * n.val + x.val then B.D 0 p (512 * n + x) else 0) := by
  have hK' : FitsK B (k0_pay63 v0 v3 v13 v27 v32 v33 v34) (st2.sl.r arg0 v0 v5 v13 v15) (k0_pay64 v3 v14) (st2.sl.r_1 v5 v14) (k0_pay65 v7 v17) (k0_pay71 v9 v17) := hK
  have hj : (i 1).val ≤ 7 := Nat.le_of_lt_succ (i 1).isLt
  delta st2
  dsimp only
  simp only [trips2, trips3]
  rw [writes_app3]
  · rw [loop_f0 (hc := cst45) (hQ := hQ) (hK := hK') (hv3 := hv3) (hv5 := hv5) (hk := trips2_le i)]
    rw [dread_f0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B hQ hK hv3 hv5 n x]
    exact join_q (fun p => B.D 0 p (512 * n + x)) _ (i 1).val n.val x.val n.isLt x.isLt
  · rfl

theorem out_f1
   (hQ : FitsQ B (arg2.view.read _ f2) (arg3.view.read _ f3) (arg15.view.read _ f15) (arg17.view.read _ f17))
   (hK : FitsK B (k0_pay63 v0 v3 v13 v27 v32 v33 v34) (st2.sl.r arg0 v0 v5 v13 v15) (k0_pay64 v3 v14) (k0_pay70 v14 (k0_pay68 v5) k0_pay69) (k0_pay65 v7 v17) (k0_pay71 v9 v17)) (hv3 : v3 = k0_pay50) (hv5 : v5 = k0_pay51) (n : Fin 8) (x : Fin 512) : arg14.view.read _ (arg14.view.writes _ f14 (st2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34).2.2.2.2.1) (ix4 0 n 1 x) =
    arg14.view.read _ f14 (ix4 0 n 1 x) + ∑ p : Fin 512, (if 512 * (i 1).val + p.val ≤ 512 * n.val + x.val then B.D 1 p (512 * n + x) else 0) := by
  have hK' : FitsK B (k0_pay63 v0 v3 v13 v27 v32 v33 v34) (st2.sl.r arg0 v0 v5 v13 v15) (k0_pay64 v3 v14) (st2.sl.r_1 v5 v14) (k0_pay65 v7 v17) (k0_pay71 v9 v17) := hK
  have hj : (i 1).val ≤ 7 := Nat.le_of_lt_succ (i 1).isLt
  delta st2
  dsimp only
  simp only [trips2, trips3]
  rw [writes_app3]
  · rw [loop_f1 (hc := cst45) (hQ := hQ) (hK := hK') (hv3 := hv3) (hv5 := hv5) (hk := trips2_le i)]
    rw [dread_f1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B hQ hK hv3 hv5 n x]
    exact join_q (fun p => B.D 1 p (512 * n + x)) _ (i 1).val n.val x.val n.isLt x.isLt
  · rfl

theorem out_fz
   (hQ : FitsQ B (arg2.view.read _ f2) (arg3.view.read _ f3) (arg15.view.read _ f15) (arg17.view.read _ f17))
   (hK : FitsK B (k0_pay63 v0 v3 v13 v27 v32 v33 v34) (st2.sl.r arg0 v0 v5 v13 v15) (k0_pay64 v3 v14) (k0_pay70 v14 (k0_pay68 v5) k0_pay69) (k0_pay65 v7 v17) (k0_pay71 v9 v17)) (hv3 : v3 = k0_pay50) (hv5 : v5 = k0_pay51) (n g : Fin 8) (hg : 2 ≤ g.val) (x : Fin 512) : arg14.view.read _ (arg14.view.writes _ f14 (st2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34).2.2.2.2.1) (ix4 0 n g x) =
    arg14.view.read _ f14 (ix4 0 n g x) := by
  delta st2
  dsimp only
  simp only [trips2, trips3]
  rw [writes_app3]
  · rw [loop_fz (hc := cst45) (hg := hg) (hk := trips2_le i)]
    exact dread_fz c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B hQ hK hv3 hv5 n g hg x
  · rfl

end Cert.KernelIdeal.Val
end
-- ==== Proof.V.TileC.lean ====
module

public import Idealize.ShloMosaic.Lib.Pointwise
public import proofs.«01_k».proof.Proof.V.TileQ
public import proofs.«01_k».proof.Proof.KI.Stage3
public import proofs.«01_k».proof.Proof.Gen.KernelIdeal.Loops
public import proofs.«01_k».proof.Proof.Gen.KernelIdeal.Frame
public import proofs.«01_k».proof.Proof.KI.Stage2

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem t4_trips : k0_t4_loop.trips = 8 := by decide +kernel

theorem iv4 : ∀ k : Fin k0_t4_loop.trips, BitVec.toNat (Scalar.indexCast (Scf.iv (0#32) (1#32) k.val)) = k.val := by decide +kernel

theorem iv4b : ∀ k : Fin k0_t4_loop.trips, BitVec.toNat (Scalar.indexCast (Scalar.muli (Scf.iv (0#32) (1#32) k.val) 512#32)) = 512 * k.val := by decide +kernel

theorem vec2 {a b : ℕ} (h : a = b) : (![a, 0] : Fin 2 → ℕ) = ![b, 0] := by rw [h]

theorem loop4_q (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole) (k0_h2 : k0_cond2 i = 1#1) (X_arg16 : BufTy.Contents (Elt Ideal) arg16.view.ty) (init : FVec Ideal S1x128 .f32) (n : Fin 8) (l : Fin 128) (x : Fin 512) (G9 : BufTy.Contents (Elt Ideal) arg9.view.ty) (k : ℕ) (hk : k ≤ k0_t4_loop.trips) (hn : n.val < k) :
    arg9.view.read _ (arg9.view.writes _ G9 (st_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X_arg16 init k).2) (ix2 ⟨512 * n.val + x.val, by omega⟩ l) = arg16.view.read _ X_arg16 (ix3 n l x) := by
  induction k with
  | zero => omega
  | succ k ih =>
    have e := congrArg (fun s => arg9.view.read _ (arg9.view.writes _ G9 s.2) (ix2 ⟨512 * n.val + x.val, by omega⟩ l)) (st_k0_t4_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X_arg16 init ⟨k, hk⟩)
    dsimp only at e
    refine e.trans ?_
    delta tripL_k0_t4 trip_k0_t4
    dsimp only
    sl_unfold_words
    have o := vec2 (iv4b ⟨k, hk⟩)
    by_cases h : n.val < k
    · refine (View.read_writes_cons_unit_of_not_mem _ _ _ _ _ (ix2 ⟨512 * n.val + x.val, by omega⟩ l) o 0 (by simp; omega)).trans ?_
      exact ih (Nat.le_of_succ_le hk) h
    · have hk' : n.val = k := by omega
      refine (View.read_writes_cons_unit_of_mem _ _ _ _ _ (ix2 ⟨512 * n.val + x.val, by omega⟩ l) (ix2 x l) o (by intro a; fin_cases a <;> (simp; try omega))).trans ?_
      simp only [View.readAt_eq_ld]
      pointwise [k0_pay4, k0_pay5]
      refine congrArg _ (ix3_ext ?_ rfl rfl)
      exact (iv4 ⟨k, hk⟩).trans hk'.symm

theorem loop4_s (𝒱 : Variants) (c : Dev nD) (bd : Option 𝒱.V) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole) (k0_h2 : k0_cond2 i = 1#1) (X_arg16 : BufTy.Contents (Elt Ideal) arg16.view.ty) (init : FVec Ideal S1x128 .f32) (Z : ℕ → ℕ → ℕ → EReal) (hZ : ∀ (n : Fin 8) (l : Fin 128) (x : Fin 512), arg16.view.read _ X_arg16 (ix3 n l x) = Z n l x) (l : Fin 128) (k : ℕ) (hk : k ≤ k0_t4_loop.trips) :
    (st_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X_arg16 init k).1 (ix2 0 l) = init (ix2 0 l) + ∑ n ∈ Finset.range k, ∑ x : Fin 512, Z n l x := by
  induction k with
  | zero => simp [st_k0_t4_zero]
  | succ k ih =>
    have e := congrArg (fun s => s.1 (ix2 0 l)) (st_k0_t4_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X_arg16 init ⟨k, hk⟩)
    dsimp only at e
    refine e.trans ?_
    unfold tripR_k0_t4
    delta trip_k0_t4
    dsimp only
    sl_unfold_words
    simp only [View.readAt_eq_ld]
    pointwise [k0_pay4, k0_pay6]
    rw [ih (Nat.le_of_succ_le hk), Finset.sum_range_succ, ← add_assoc]
    congr 1
    refine Finset.sum_congr rfl fun x _ => ?_
    have h8 : k < 8 := by have := t4_trips; omega
    refine Eq.trans ?_ (hZ ⟨k, h8⟩ l x)
    exact congrArg _ (ix3_ext (iv4 ⟨k, hk⟩) rfl rfl)

theorem out_csk (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole)
    (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (arg0 arg1 : BitVec 32) (v0 : IVec S1x128 32) (v3 v5 : IVec S1x128 1) (v7 v9 : IVec S128x1 1) (v13 v14 : Vec Ideal S512x128 .bf16) (v15 : Vec Ideal S512x128 .f32) (v17 : FVec Ideal S128x512 .f32) (v27 : FVec Ideal S512x1 .f32) (v32 : IVec S1x128 1) (v33 v34 : FVec Ideal S1x128 .bf16) (B : Blk)
   (hQ : FitsQ B (arg2.view.read _ f2) (arg3.view.read _ f3) (arg15.view.read _ f15) (arg17.view.read _ f17))
   (hK : FitsK B (k0_pay63 v0 v3 v13 v27 v32 v33 v34) (st2.sl.r arg0 v0 v5 v13 v15) (k0_pay64 v3 v14) (k0_pay70 v14 (k0_pay68 v5) k0_pay69) (k0_pay65 v7 v17) (k0_pay71 v9 v17)) (hv3 : v3 = k0_pay50) (hv5 : v5 = k0_pay51) (l : Fin 128) :
    arg12.view.read _ (arg12.view.writes _ f12 (st2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34).2.2.1) (ix3 0 0 ⟨128 + l.val, by omega⟩) =
      arg12.view.read _ f12 (ix3 0 0 ⟨128 + l.val, by omega⟩) + ∑ p : Fin 512, ∑ q : Fin 4096, if 512 * (i 1).val + p.val ≤ q.val then B.FK p l q else 0 := by
  have hK' : FitsK B (k0_pay63 v0 v3 v13 v27 v32 v33 v34) (st2.sl.r arg0 v0 v5 v13 v15) (k0_pay64 v3 v14) (st2.sl.r_1 v5 v14) (k0_pay65 v7 v17) (k0_pay71 v9 v17) := hK
  have hj : (i 1).val ≤ 7 := Nat.le_of_lt_succ (i 1).isLt
  delta st2
  dsimp only
  refine (View.read_writes_cons_unit_of_not_mem _ _ _ _ _ (ix3 0 0 ⟨128 + l.val, by omega⟩) rfl 2 (by simp; try omega)).trans ?_
  refine (View.read_writes_cons_unit_of_mem _ _ _ _ _ (ix3 0 0 ⟨128 + l.val, by omega⟩) (ix3 0 0 l) rfl (by intro a; fin_cases a <;> (simp; try omega))).trans ?_

  simp only [View.readAt_eq_ld]
  pointwise [k0_pay1]
  refine congrArg _ (Finset.sum_congr rfl fun p _ => ?_)
  unfold st2.sl.r_33
  simp only [trips2, trips3, st_k0_t3_zero]
  rw [loop_dk (hc := cst45) (hQ := hQ) (hK := hK') (hv3 := hv3) (hv5 := hv5) (hk := trips2_le i)]
  dsimp only
  simp only [cat]
  refine Eq.trans ?_ (mask_join (fun q => B.FK p l q) (i 1).val p.val hj p.isLt)
  congr 1
  by_cases h : p.val < 256
  · rw [dif_pos h, if_pos h]
    exact diag_dk_early c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B hQ hK hv3 hv5 ⟨p.val, h⟩ l
  · rw [dif_neg h, if_neg h]
    have e : 256 + (p.val - 256) = p.val := by omega
    refine (diag_dk_late c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B hQ hK hv3 hv5 ⟨p.val - 256, by omega⟩ l).trans ?_
    simp only [e]

theorem out_csv (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole)
    (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (arg0 arg1 : BitVec 32) (v0 : IVec S1x128 32) (v3 v5 : IVec S1x128 1) (v7 v9 : IVec S128x1 1) (v13 v14 : Vec Ideal S512x128 .bf16) (v15 : Vec Ideal S512x128 .f32) (v17 : FVec Ideal S128x512 .f32) (v27 : FVec Ideal S512x1 .f32) (v32 : IVec S1x128 1) (v33 v34 : FVec Ideal S1x128 .bf16) (B : Blk)
   (hQ : FitsQ B (arg2.view.read _ f2) (arg3.view.read _ f3) (arg15.view.read _ f15) (arg17.view.read _ f17))
   (hK : FitsK B (k0_pay63 v0 v3 v13 v27 v32 v33 v34) (st2.sl.r arg0 v0 v5 v13 v15) (k0_pay64 v3 v14) (k0_pay70 v14 (k0_pay68 v5) k0_pay69) (k0_pay65 v7 v17) (k0_pay71 v9 v17)) (hv3 : v3 = k0_pay50) (hv5 : v5 = k0_pay51) (l : Fin 128) :
    arg12.view.read _ (arg12.view.writes _ f12 (st2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34).2.2.1) (ix3 0 0 ⟨256 + l.val, by omega⟩) =
      arg12.view.read _ f12 (ix3 0 0 ⟨256 + l.val, by omega⟩) + ∑ p : Fin 512, ∑ q : Fin 4096, if 512 * (i 1).val + p.val ≤ q.val then B.FV p l q else 0 := by
  have hK' : FitsK B (k0_pay63 v0 v3 v13 v27 v32 v33 v34) (st2.sl.r arg0 v0 v5 v13 v15) (k0_pay64 v3 v14) (st2.sl.r_1 v5 v14) (k0_pay65 v7 v17) (k0_pay71 v9 v17) := hK
  have hj : (i 1).val ≤ 7 := Nat.le_of_lt_succ (i 1).isLt
  delta st2
  dsimp only
  refine (View.read_writes_cons_unit_of_mem _ _ _ _ _ (ix3 0 0 ⟨256 + l.val, by omega⟩) (ix3 0 0 l) rfl (by intro a; fin_cases a <;> (simp; try omega))).trans ?_
  unfold st2.sl.v428
  simp only [View.readAt_eq_ld]
  pointwise [k0_pay2]
  refine congrArg _ (Finset.sum_congr rfl fun p _ => ?_)
  unfold st2.sl.r_34
  simp only [trips2, trips3, st_k0_t3_zero]
  rw [loop_dv (hc := cst45) (hQ := hQ) (hK := hK') (hv3 := hv3) (hv5 := hv5) (hk := trips2_le i)]
  dsimp only
  simp only [catv]
  refine Eq.trans ?_ (mask_join (fun q => B.FV p l q) (i 1).val p.val hj p.isLt)
  congr 1
  by_cases h : p.val < 256
  · rw [dif_pos h, if_pos h]
    exact diag_dv_early c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B hQ hK hv3 hv5 ⟨p.val, h⟩ l
  · rw [dif_neg h, if_neg h]
    have e : 256 + (p.val - 256) = p.val := by omega
    refine (diag_dv_late c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B hQ hK hv3 hv5 ⟨p.val - 256, by omega⟩ l).trans ?_
    simp only [e]

end Cert.KernelIdeal.Val
end
-- ==== Proof.V.StepQ.lean ====
module

public import Idealize.ShloMosaic.Lib.Pointwise
public import proofs.«01_k».proof.Proof.V.TileC
public import proofs.«01_k».proof.Proof.Gen.KernelIdeal.Loops
public import proofs.«01_k».proof.Proof.Gen.KernelIdeal.Frame
public import proofs.«01_k».proof.Proof.KI.Stage2

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- What is summed up over the key tiles of one head pair: the gradient of the queries, of the row sums and of the columns. -/
structure Sums where
  q : ℕ → ℕ → ℕ → EReal
  f : ℕ → ℕ → ℕ → EReal
  c : ℕ → EReal

/-- The sums before the first key tile. -/
def Sums.zero : Sums := ⟨fun _ _ _ => 0, fun _ _ _ => 0, fun _ => 0⟩

/-- The sums after key tile `j`. -/
def Sums.next (Z : Sums) (B : Blk) (j : ℕ) : Sums where
  q n l x := Z.q n l x + ∑ p : Fin 512, (if 512 * j + p.val ≤ 512 * n + x then B.FQ (512 * n + x) l p else 0)
  f n g x := if g = 0 then Z.f n 0 x + ∑ p : Fin 512, (if 512 * j + p.val ≤ 512 * n + x then B.D 0 p (512 * n + x) else 0)
    else if g = 1 then Z.f n 1 x + ∑ p : Fin 512, (if 512 * j + p.val ≤ 512 * n + x then B.D 1 p (512 * n + x) else 0) else Z.f n g x
  c y := Z.c y + if y < 256 then ∑ p : Fin 512, ∑ q : Fin 4096, (if 512 * j + p.val ≤ q.val then B.FK p (y - 128) q else 0)
    else ∑ p : Fin 512, ∑ q : Fin 4096, (if 512 * j + p.val ≤ q.val then B.FV p (y - 256) q else 0)

/-- The sums stand where the kernel keeps them. -/
structure Holds (Z : Sums) (X12 : Vec Ideal S1x1x384 .f32) (X14 : Vec Ideal S1x8x8x512 .f32) (X16 : Vec Ideal S8x128x512 .f32) : Prop where
  q : ∀ (n : Fin 8) (l : Fin 128) (x : Fin 512), X16 (ix3 n l x) = Z.q n l x
  f : ∀ (n g : Fin 8) (x : Fin 512), X14 (ix4 0 n g x) = Z.f n g x
  k : ∀ l : Fin 128, X12 (ix3 0 0 ⟨128 + l.val, by omega⟩) = Z.c (128 + l.val)
  v : ∀ l : Fin 128, X12 (ix3 0 0 ⟨256 + l.val, by omega⟩) = Z.c (256 + l.val)

/-- What the last key tile writes from the sums. -/
structure Ends (Z : Sums) (X9 : Vec Ideal S4096x128 .bf16) (X12 : Vec Ideal S1x1x384 .f32) : Prop where
  q : ∀ (n : Fin 8) (l : Fin 128) (x : Fin 512), X9 (ix2 ⟨512 * n.val + x.val, by omega⟩ l) = Z.q n l x
  c : ∀ l : Fin 128, X12 (ix3 0 0 ⟨l.val, by omega⟩) = ∑ n ∈ Finset.range 8, ∑ x : Fin 512, Z.q n l x

theorem holds_zero (arg12 : Memref sig .tc .vmem S1x1x384 .f32) (arg14 : Memref sig .tc .vmem S1x8x8x512 .f32) (arg16 : Memref sig .tc .vmem S8x128x512 .f32) :
    Holds Sums.zero (arg12.view.read _ (arg12.view.writes (Elt Ideal) arg12.view.junk [⟨Rect.unit ![0, 0, 0] S1x1x384.size inb_S1x1x384_S1x1x384_0_0_0, k0_pay55 (F := Ideal)⟩])) (arg14.view.read _ (arg14.view.writes (Elt Ideal) arg14.view.junk [⟨Rect.unit ![0, 0, 0, 0] S1x8x8x512.size inb_S1x8x8x512_S1x8x8x512_0_0_0_0, k0_pay56 (F := Ideal)⟩])) (arg16.view.read _ (arg16.view.writes (Elt Ideal) arg16.view.junk [⟨Rect.unit ![0, 0, 0] S8x128x512.size inb_S8x128x512_S8x128x512_0_0_0, k0_pay54 (F := Ideal)⟩])) where
  q n l x := by
    refine (View.read_writes_cons_unit_of_mem _ _ _ _ _ (ix3 n l x) (ix3 n l x) rfl (by intro a; fin_cases a <;> (simp; try omega))).trans ?_
    pointwise [k0_pay54, Sums.zero]
  f n g x := by
    refine (View.read_writes_cons_unit_of_mem _ _ _ _ _ (ix4 0 n g x) (ix4 0 n g x) rfl (by intro a; fin_cases a <;> (simp; try omega))).trans ?_
    pointwise [k0_pay56, Sums.zero]
  k l := by
    refine (View.read_writes_cons_unit_of_mem _ _ _ _ _ (ix3 0 0 ⟨128 + l.val, by omega⟩) (ix3 0 0 ⟨128 + l.val, by omega⟩) rfl (by intro a; fin_cases a <;> (simp; try omega))).trans ?_
    pointwise [k0_pay55, Sums.zero]
  v l := by
    refine (View.read_writes_cons_unit_of_mem _ _ _ _ _ (ix3 0 0 ⟨256 + l.val, by omega⟩) (ix3 0 0 ⟨256 + l.val, by omega⟩) rfl (by intro a; fin_cases a <;> (simp; try omega))).trans ?_
    pointwise [k0_pay55, Sums.zero]

theorem holds_next (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole)
    (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (arg0 arg1 : BitVec 32) (v0 : IVec S1x128 32) (v3 v5 : IVec S1x128 1) (v7 v9 : IVec S128x1 1) (v13 v14 : Vec Ideal S512x128 .bf16) (v15 : Vec Ideal S512x128 .f32) (v17 : FVec Ideal S128x512 .f32) (v27 : FVec Ideal S512x1 .f32) (v32 : IVec S1x128 1) (v33 v34 : FVec Ideal S1x128 .bf16) (B : Blk)
   (hQ : FitsQ B (arg2.view.read _ f2) (arg3.view.read _ f3) (arg15.view.read _ f15) (arg17.view.read _ f17))
   (hK : FitsK B (k0_pay63 v0 v3 v13 v27 v32 v33 v34) (st2.sl.r arg0 v0 v5 v13 v15) (k0_pay64 v3 v14) (k0_pay70 v14 (k0_pay68 v5) k0_pay69) (k0_pay65 v7 v17) (k0_pay71 v9 v17)) (hv3 : v3 = k0_pay50) (hv5 : v5 = k0_pay51) (Z : Sums) (hZ : Holds Z (arg12.view.read _ f12) (arg14.view.read _ f14) (arg16.view.read _ f16)) :
    Holds (Z.next B (i 1).val) (arg12.view.read _ (arg12.view.writes _ f12 (st2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34).2.2.1))
      (arg14.view.read _ (arg14.view.writes _ f14 (st2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34).2.2.2.2.1)) (arg16.view.read _ (arg16.view.writes _ f16 (st2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34).2.2.2.2.2.1)) where
  q n l x := by
    rw [out_q c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B hQ hK hv3 hv5 n l x, hZ.q]; rfl
  f n g x := by
    by_cases h0 : g.val = 0
    · have e : g = 0 := Fin.ext h0
      subst e
      rw [out_f0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B hQ hK hv3 hv5 n x, hZ.f]; rfl
    · by_cases h1 : g.val = 1
      · have e : g = 1 := Fin.ext h1
        subst e
        rw [out_f1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B hQ hK hv3 hv5 n x, hZ.f]; rfl
      · rw [out_fz c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B hQ hK hv3 hv5 n g (by omega) x, hZ.f]
        simp only [Sums.next]
        rw [if_neg h0, if_neg h1]
  k l := by
    rw [out_csk c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B hQ hK hv3 hv5 l, hZ.k]
    simp only [Sums.next]
    rw [if_pos (by omega), Nat.add_sub_cancel_left]
  v l := by
    rw [out_csv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B hQ hK hv3 hv5 l, hZ.v]
    simp only [Sums.next]
    rw [if_neg (by omega), Nat.add_sub_cancel_left]

theorem t4_trips' : Scf.trips k0_t4_loop.lb k0_t4_loop.ub k0_t4_loop.st = 8 := t4_trips

theorem holds_end (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole) (hc2 : k0_cond2 i = 1#1) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (Z : Sums) (hZ : Holds Z (arg12.view.read _ f12) (arg14.view.read _ f14) (arg16.view.read _ f16)) :
    Ends Z (arg9.view.read _ (arg9.view.writes _ f9 (st3C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc2 f2 f3 f4 f5 f6 f7 f8 f9 f10 f11 f12 f13 f14 f15 f16 f17).1)) (arg12.view.read _ (arg12.view.writes _ f12 (st3C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc2 f2 f3 f4 f5 f6 f7 f8 f9 f10 f11 f12 f13 f14 f15 f16 f17).2.1))
      ∧ Holds Z (arg12.view.read _ (arg12.view.writes _ f12 (st3C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc2 f2 f3 f4 f5 f6 f7 f8 f9 f10 f11 f12 f13 f14 f15 f16 f17).2.1)) (arg14.view.read _ f14) (arg16.view.read _ f16) := by
  have k : ∀ (b : ℕ) (hb : 128 ≤ b ∧ b ≤ 256) (l : Fin 128), arg12.view.read _ (arg12.view.writes _ f12 (st3C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc2 f2 f3 f4 f5 f6 f7 f8 f9 f10 f11 f12 f13 f14 f15 f16 f17).2.1) (ix3 0 0 ⟨b + l.val, by omega⟩)
      = arg12.view.read _ f12 (ix3 0 0 ⟨b + l.val, by omega⟩) := by
    intro b hb l
    delta st3C
    dsimp only
    exact View.read_writes_cons_unit_of_not_mem _ _ _ _ _ (ix3 0 0 ⟨b + l.val, by omega⟩) rfl 2 (by simp; try omega)
  refine ⟨⟨fun n l x => ?_, fun l => ?_⟩, hZ.q, hZ.f, fun l => (k 128 (by omega) l).trans (hZ.k l), fun l => (k 256 (by omega) l).trans (hZ.v l)⟩
  · delta st3C
    dsimp only
    rw [t4_trips', loop4_q (hk := by rw [t4_trips]) (hn := n.isLt), hZ.q]
  · delta st3C
    dsimp only
    refine (View.read_writes_cons_unit_of_mem _ _ _ _ _ (ix3 0 0 ⟨l.val, by omega⟩) (ix3 0 0 l) rfl (by intro a; fin_cases a <;> (simp; try omega))).trans ?_
    rw [t4_trips']
    pointwise [k0_pay7]
    rw [loop4_s (Z := Z.q) (hZ := hZ.q) (hk := by rw [t4_trips])]
    rw [show k0_pay3 (F := Ideal) (ix2 0 l) = 0 from by pointwise [k0_pay3], zero_add]

end Cert.KernelIdeal.Val
end
-- ==== Proof.V.Body.lean ====
module

public import Idealize.ShloMosaic.Lib.Pointwise
public import Idealize.ShloMosaic.Lib.WritesUnit
public import proofs.«01_k».proof.Proof.V.FitQ
public import proofs.«01_k».proof.Proof.V.StepQ
public import proofs.«01_k».proof.Proof.KI.Stage1
public import proofs.«01_k».proof.Proof.KI.Stage3
public import proofs.«01_k».proof.Proof.Gen.KernelIdeal.Loops
public import proofs.«01_k».proof.Proof.Gen.KernelIdeal.Frame
public import proofs.«01_k».proof.Proof.KI.Stage2

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem bit_one : (Scalar.ofBits .bf16 0x3F80#16 : Ideal .bf16) = (1 : EReal) := by
  exact Ideal.ofBits_one_bf16

theorem bit_zero : (Scalar.ofBits .bf16 0x0000#16 : Ideal .bf16) = (0 : EReal) := Ideal.ofBits_zero ..

/-- A grid point's blocks of the arrays the kernel reads. -/
structure Loads (Q DO O LS K V G : ℕ → ℕ → EReal) (X2 X3 : Vec Ideal S4096x128 .bf16) (X4 : Vec Ideal S4096x128 .f32) (X5 : Vec Ideal S1x8x8x512 .f32)
    (X6 X7 : Vec Ideal S512x128 .bf16) (X8 : Vec Ideal S512x128 .f32) : Prop where
  q : ∀ (q : Fin 4096) (l : Fin 128), X2 (ix2 q l) = Q q l
  d : ∀ (q : Fin 4096) (l : Fin 128), X3 (ix2 q l) = DO q l
  o : ∀ (q : Fin 4096) (l : Fin 128), X4 (ix2 q l) = O q l
  l0 : ∀ (n : Fin 8) (x : Fin 512), X5 (ix4 0 n 0 x) = LS 0 (512 * n + x)
  l1 : ∀ (n : Fin 8) (x : Fin 512), X5 (ix4 0 n 1 x) = LS 1 (512 * n + x)
  k : ∀ (k : Fin 512) (l : Fin 128), X6 (ix2 k l) = K k l
  v : ∀ (k : Fin 512) (l : Fin 128), X7 (ix2 k l) = V k l
  g : ∀ (k : Fin 512) (l : Fin 128), X8 (ix2 k l) = G k l

def IsDk (B : Blk) (j : ℕ) (X : Vec Ideal S512x128 .bf16) : Prop :=
  ∀ (p : Fin 512) (l : Fin 128), X (ix2 p l) = ∑ q : Fin 4096, if 512 * j + p.val ≤ q.val then B.FK p l q else 0

def IsDv (B : Blk) (j : ℕ) (X : Vec Ideal S512x128 .bf16) : Prop :=
  ∀ (p : Fin 512) (l : Fin 128), X (ix2 p l) = ∑ q : Fin 4096, if 512 * j + p.val ≤ q.val then B.FV p l q else 0

def IsFk (B : Blk) (j : ℕ) (X : Vec Ideal S1x512x128 .f32) : Prop :=
  ∀ (p : Fin 512) (l : Fin 128), X (ix3 0 p l) =
    -(if l.val = 0 then ∑ q : Fin 4096, (if 512 * j + p.val ≤ q.val then B.D 0 p q else 0) else if l.val = 1 then ∑ q : Fin 4096, (if 512 * j + p.val ≤ q.val then B.D 1 p q else 0) else 0)

theorem read_tile {e : EltTy} (a : Memref sig .tc .vmem S512x128 e) (f : BufTy.Contents (Elt Ideal) a.view.ty) (k : Fin 512) (l : Fin 128) :
    View.readAt (Elt Ideal) a.view (Rect.unit ![0, 0] S512x128.size inb_S512x128_S512x128_0_0).toLoadRect f (ix2 k l) = a.view.read _ f (ix2 k l) := by
  simp only [View.readAt_eq_ld]
  pointwise []

theorem iota_lane (l : Fin 128) : iota .tc S1x128 32 [1] iota_S1x128_d1_w32 (ix2 0 l) = BitVec.ofNat 32 l.val := by
  pointwise []

/-- The body after its first stretch: what it leaves in the tile's results. -/
theorem rest_val (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (arg0 arg1 : BitVec 32) (v0 : IVec S1x128 32) (v3 v5 : IVec S1x128 1) (v7 v9 : IVec S128x1 1) (v13 v14 : Vec Ideal S512x128 .bf16) (v15 : Vec Ideal S512x128 .f32) (v17 : FVec Ideal S128x512 .f32) (v27 : FVec Ideal S512x1 .f32) (v32 : IVec S1x128 1) (v33 v34 : FVec Ideal S1x128 .bf16) (B : Blk) (hQ : FitsQ B (arg2.view.read _ f2) (arg3.view.read _ f3) (arg15.view.read _ f15) (arg17.view.read _ f17)) (hK : FitsK B (k0_pay63 v0 v3 v13 v27 v32 v33 v34) (st2.sl.r arg0 v0 v5 v13 v15) (k0_pay64 v3 v14) (k0_pay70 v14 (k0_pay68 v5) k0_pay69) (k0_pay65 v7 v17) (k0_pay71 v9 v17)) (hv3 : v3 = k0_pay50) (hv5 : v5 = k0_pay51) (hv0 : ∀ l : Fin 128, v0 (ix2 0 l) = BitVec.ofNat 32 l.val) (Z : Sums) (hZ : Holds Z (arg12.view.read _ f12) (arg14.view.read _ f14) (arg16.view.read _ f16)) (E : Set ℕ) (K : PUnit → sProp 𝕄) :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)
        ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (∃ g10, (arg10.view.loc (c : Thread nD τ) ↦[arg10.view.set]{fullShare} g10) ∗ ⌜IsDk B (i 1).val (arg10.view.read _ g10)⌝) ∗ (∃ g11, (arg11.view.loc (c : Thread nD τ) ↦[arg11.view.set]{fullShare} g11) ∗ ⌜IsDv B (i 1).val (arg11.view.read _ g11)⌝) ∗ (∃ g13, (arg13.view.loc (c : Thread nD τ) ↦[arg13.view.set]{fullShare} g13) ∗ ⌜IsFk B (i 1).val (arg13.view.read _ g13)⌝) ∗ (∃ g9 g12 g14 g16, (arg9.view.loc (c : Thread nD τ) ↦[arg9.view.set]{fullShare} g9) ∗ (arg12.view.loc (c : Thread nD τ) ↦[arg12.view.set]{fullShare} g12) ∗ (arg14.view.loc (c : Thread nD τ) ↦[arg14.view.set]{fullShare} g14) ∗ (arg16.view.loc (c : Thread nD τ) ↦[arg16.view.set]{fullShare} g16) ∗ ⌜Holds (Z.next B (i 1).val) (arg12.view.read _ g12) (arg14.view.read _ g14) (arg16.view.read _ g16) ∧ (k0_cond2 i = 1#1 → Ends (Z.next B (i 1).val) (arg9.view.read _ g9) (arg12.view.read _ g12))⌝) ∗ (∃ g15 g17, (arg15.view.loc (c : Thread nD τ) ↦[arg15.view.set]{fullShare} g15) ∗ (arg17.view.loc (c : Thread nD τ) ↦[arg17.view.set]{fullShare} g17) ∗ ⌜FitsQ B (arg2.view.read _ f2) (arg3.view.read _ f3) (arg15.view.read _ g15) (arg17.view.read _ g17)⌝)) -∗ K ⟨⟩))
      ⊢ wp frame (wpE (defs₀ (F := Ideal)) Variants.none c none) E (stage1.tail i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 arg1 v0 v3 v5 v7 v9 v13 v14 v15 v17 v27 v32 v33 v34) K := by
  rw [stage2.eq, stage3.eq]
  iintro ⟨H2, H3, H4, H5, H6, H7, H8, H9, H10, H11, H12, H13, H14, H15, H16, H17, Hk⟩
  iapply ((st2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34).2.2.2.2.2.2 E (stage3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 stage3.tail) K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H2, H3, H4, H5, H6, H7, H8, H9, H10, H11, H12, H13, H14, H15, H16, H17⟩
  by_cases hc2 : k0_cond2 i = 1#1
  · iapply ((st3C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc2 _ _ _ _ _ _ _ _ _ _ _ _ _ _ _ _).2.2 E stage3.tail K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iintro ⟨H2, H3, H4, H5, H6, H7, H8, H9, H10, H11, H12, H13, H14, H15, H16, H17⟩
    unfold stage3.tail; sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H10]
    · iexists _; isplitl [H10]; · iexact H10
      ipureintro; exact fun p l => out_dk c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B hQ hK hv3 hv5 p l
    isplitl [H11]
    · iexists _; isplitl [H11]; · iexact H11
      ipureintro; exact fun p l => out_dv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B hQ hK hv3 hv5 p l
    isplitl [H13]
    · iexists _; isplitl [H13]; · iexact H13
      ipureintro; exact fun p l => out_fk c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B hQ hK hv3 hv5 hv0 p l
    isplitl [H9 H12 H14 H16]
    · iexists _; iexists _; iexists _; iexists _
      isplitl [H9]; · iexact H9
      isplitl [H12]; · iexact H12
      isplitl [H14]; · iexact H14
      isplitl [H16]; · iexact H16
      ipureintro; exact ⟨And.right (holds_end c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc2 _ _ _ _ _ _ _ _ _ _ _ _ _ _ _ _ _ (holds_next c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B hQ hK hv3 hv5 Z hZ)), fun _ => And.left (holds_end c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc2 _ _ _ _ _ _ _ _ _ _ _ _ _ _ _ _ _ (holds_next c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B hQ hK hv3 hv5 Z hZ))⟩
    iexists _; iexists _
    isplitl [H15]; · iexact H15
    isplitl [H17]; · iexact H17
    ipureintro; exact hQ
  · iapply ((st3N c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc2 _ _ _ _ _ _ _ _ _ _ _ _ _ _ _ _).2 E stage3.tail K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iintro ⟨H2, H3, H4, H5, H6, H7, H8, H9, H10, H11, H12, H13, H14, H15, H16, H17⟩
    unfold stage3.tail; sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H10]
    · iexists _; isplitl [H10]; · iexact H10
      ipureintro; exact fun p l => out_dk c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B hQ hK hv3 hv5 p l
    isplitl [H11]
    · iexists _; isplitl [H11]; · iexact H11
      ipureintro; exact fun p l => out_dv c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B hQ hK hv3 hv5 p l
    isplitl [H13]
    · iexists _; isplitl [H13]; · iexact H13
      ipureintro; exact fun p l => out_fk c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B hQ hK hv3 hv5 hv0 p l
    isplitl [H9 H12 H14 H16]
    · iexists _; iexists _; iexists _; iexists _
      isplitl [H9]; · iexact H9
      isplitl [H12]; · iexact H12
      isplitl [H14]; · iexact H14
      isplitl [H16]; · iexact H16
      ipureintro; exact ⟨holds_next c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17 arg0 arg1 v0 v3 v5 v7 v9 v13 v14 v15 v17 v27 v32 v33 v34 B hQ hK hv3 hv5 Z hZ, fun h => absurd h hc2⟩
    iexists _; iexists _
    isplitl [H15]; · iexact H15
    isplitl [H17]; · iexact H17
    ipureintro; exact hQ

/-- The body at any point: what it leaves in the tile's results, and the head pair's rows it keeps. -/
theorem body_val (c : Dev nD) (i : grid0.Coords) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S1x8x8x512 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S512x128 .f32) (harg8 : arg8.IsWhole) (arg9 : Memref sig .tc .vmem S4096x128 .bf16) (harg9 : arg9.IsWhole) (arg10 : Memref sig .tc .vmem S512x128 .bf16) (harg10 : arg10.IsWhole) (arg11 : Memref sig .tc .vmem S512x128 .bf16) (harg11 : arg11.IsWhole) (arg12 : Memref sig .tc .vmem S1x1x384 .f32) (harg12 : arg12.IsWhole) (arg13 : Memref sig .tc .vmem S1x512x128 .f32) (harg13 : arg13.IsWhole) (arg14 : Memref sig .tc .vmem S1x8x8x512 .f32) (harg14 : arg14.IsWhole) (arg15 : Memref sig .tc .vmem S8x8x512 .f32) (harg15 : arg15.IsWhole) (arg16 : Memref sig .tc .vmem S8x128x512 .f32) (harg16 : arg16.IsWhole) (arg17 : Memref sig .tc .vmem S2x4096x128 .bf16) (harg17 : arg17.IsWhole) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (B : Blk) (Q DO O LS KA VA G : ℕ → ℕ → EReal) (hB : B = mkBlk (i 0).val Q DO O LS KA VA G)
    (hL : Loads Q DO O LS KA VA G (arg2.view.read _ f2) (arg3.view.read _ f3) (arg4.view.read _ f4) (arg5.view.read _ f5) (arg6.view.read _ f6) (arg7.view.read _ f7) (arg8.view.read _ f8)) (hS : ¬ k0_cond1 i = 1#1 → FitsQ B (arg2.view.read _ f2) (arg3.view.read _ f3) (arg15.view.read _ f15) (arg17.view.read _ f17)) (Z : Sums) (hZ0 : k0_cond1 i = 1#1 → Z = Sums.zero) (hZ : ¬ k0_cond1 i = 1#1 → Holds Z (arg12.view.read _ f12) (arg14.view.read _ f14) (arg16.view.read _ f16)) (E : Set ℕ) (K : PUnit → sProp 𝕄) :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)
        ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (∃ g10, (arg10.view.loc (c : Thread nD τ) ↦[arg10.view.set]{fullShare} g10) ∗ ⌜IsDk B (i 1).val (arg10.view.read _ g10)⌝) ∗ (∃ g11, (arg11.view.loc (c : Thread nD τ) ↦[arg11.view.set]{fullShare} g11) ∗ ⌜IsDv B (i 1).val (arg11.view.read _ g11)⌝) ∗ (∃ g13, (arg13.view.loc (c : Thread nD τ) ↦[arg13.view.set]{fullShare} g13) ∗ ⌜IsFk B (i 1).val (arg13.view.read _ g13)⌝) ∗ (∃ g9 g12 g14 g16, (arg9.view.loc (c : Thread nD τ) ↦[arg9.view.set]{fullShare} g9) ∗ (arg12.view.loc (c : Thread nD τ) ↦[arg12.view.set]{fullShare} g12) ∗ (arg14.view.loc (c : Thread nD τ) ↦[arg14.view.set]{fullShare} g14) ∗ (arg16.view.loc (c : Thread nD τ) ↦[arg16.view.set]{fullShare} g16) ∗ ⌜Holds (Z.next B (i 1).val) (arg12.view.read _ g12) (arg14.view.read _ g14) (arg16.view.read _ g16) ∧ (k0_cond2 i = 1#1 → Ends (Z.next B (i 1).val) (arg9.view.read _ g9) (arg12.view.read _ g12))⌝) ∗ (∃ g15 g17, (arg15.view.loc (c : Thread nD τ) ↦[arg15.view.set]{fullShare} g15) ∗ (arg17.view.loc (c : Thread nD τ) ↦[arg17.view.set]{fullShare} g17) ∗ ⌜FitsQ B (arg2.view.read _ f2) (arg3.view.read _ f3) (arg15.view.read _ g15) (arg17.view.read _ g17)⌝)) -∗ K ⟨⟩))
      ⊢ wp frame (wpE (defs₀ (F := Ideal)) Variants.none c none) E (cc0_attention_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have hK := fitsK i (View.readAt (Elt Ideal) arg6.view (Rect.unit ![0, 0] S512x128.size inb_S512x128_S512x128_0_0).toLoadRect f6)
    (View.readAt (Elt Ideal) arg7.view (Rect.unit ![0, 0] S512x128.size inb_S512x128_S512x128_0_0).toLoadRect f7)
    (View.readAt (Elt Ideal) arg8.view (Rect.unit ![0, 0] S512x128.size inb_S512x128_S512x128_0_0).toLoadRect f8) KA VA G
    (fun k l => (read_tile arg6 f6 k l).trans (hL.k k l)) (fun k l => (read_tile arg7 f7 k l).trans (hL.v k l)) (fun k l => (read_tile arg8 f8 k l).trans (hL.g k l)) Q DO O LS
  simp only [cc0_attention_bwd_eq_skeleton]
  rw [stage1.eq]
  iintro ⟨H2, H3, H4, H5, H6, H7, H8, H9, H10, H11, H12, H13, H14, H15, H16, H17, Hk⟩
  by_cases hc1 : k0_cond1 i = 1#1
  · iapply (st1A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 f2 f3 f4 f5 f6 f7 f8 f9 f10 f11 f12 f13 f14 f15 f16 f17 E (fun arg0 arg1 v0 v3 v5 v7 v9 v13 v14 v15 v17 v27 v32 v33 v34 => stage1.tail i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 arg1 v0 v3 v5 v7 v9 v13 v14 v15 v17 v27 v32 v33 v34) K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iintro ⟨H2, H3, H4, H5, H6, H7, H8, H9, H10, H11, H12, H13, H14, H15, H16, H17⟩
    iapply (rest_val c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ _ _ _ _ _ _ _ _ _ _ _ _ _ _ _ _ _ _ _ _ _ _ B
      (by subst hB; exact fitsQ Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ hc1 f2 f3 f4 f5 f15 f17 _ _ _ _ Q DO O LS hL.q hL.d hL.o hL.l0 hL.l1 bit_one bit_zero iota_lane _ rfl)
      (by subst hB; exact hK) rfl rfl iota_lane Z (by rw [hZ0 hc1]; exact holds_zero arg12 arg14 arg16) E K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact Hk
  · iapply ((st1N c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 f2 f3 f4 f5 f6 f7 f8 f9 f10 f11 f12 f13 f14 f15 f16 f17).2 E (fun arg0 arg1 v0 v3 v5 v7 v9 v13 v14 v15 v17 v27 v32 v33 v34 => stage1.tail i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 arg1 v0 v3 v5 v7 v9 v13 v14 v15 v17 v27 v32 v33 v34) K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iintro ⟨H2, H3, H4, H5, H6, H7, H8, H9, H10, H11, H12, H13, H14, H15, H16, H17⟩
    iapply (rest_val c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ _ _ _ _ _ _ _ _ _ _ _ _ _ _ _ _ _ _ _ _ _ _ B (hS hc1) (by subst hB; exact hK) rfl rfl iota_lane Z (hZ hc1) E K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact Hk

end Cert.KernelIdeal.Val
end
-- ==== Proof.V.Arrays.lean ====
module

public import Idealize.ShloMosaic.Lib.Pointwise
public import Idealize.ShloMosaic.Lib.Pipeline.ValueKit
public import Idealize.ShloMosaic.Lib.Pipeline.ArrRel
public import Idealize.ShloMosaic.Lib.Pipeline.DatRel
public import proofs.«01_k».proof.Proof.V.Body
public import proofs.«01_k».proof.Proof.KI.FrameRun
public import proofs.«01_k».proof.Proof.Gen.KernelIdeal.Loops
public import proofs.«01_k».proof.Proof.Gen.KernelIdeal.Frame
public import proofs.«01_k».proof.Proof.KI.Stage2

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- An array read at natural indices, zero outside it. -/
def ar2 {n k : ℕ} (X : (⟨2, ![n, k]⟩ : Shape).Idx → EReal) (r c : ℕ) : EReal :=
  if h : r < n ∧ c < k then X (ix2 ⟨r, h.1⟩ ⟨c, h.2⟩) else 0

theorem ar2_of {n k : ℕ} (X : (⟨2, ![n, k]⟩ : Shape).Idx → EReal) {r c : ℕ} (hr : r < n) (hc : c < k) : ar2 X r c = X (ix2 ⟨r, hr⟩ ⟨c, hc⟩) :=
  dif_pos ⟨hr, hc⟩

/-- The rows' log-sums of head pair `hp`, head `h` of the two, at row `q`. -/
def arL (X : (⟨4, ![4, 8, 8, 512]⟩ : Shape).Idx → EReal) (hp h q : ℕ) : EReal :=
  if hh : hp < 4 ∧ h < 8 ∧ q < 4096 then X (ix4 ⟨hp, hh.1⟩ ⟨q / 512, by omega⟩ ⟨h, hh.2.1⟩ ⟨q % 512, by omega⟩) else 0

section Arrays
variable (x0 : (⟨2, ![4096, 1536]⟩ : Shape).Idx → EReal) (x1 : (⟨2, ![4096, 512]⟩ : Shape).Idx → EReal) (x2 : (⟨2, ![4096, 512]⟩ : Shape).Idx → EReal)
  (x3 : (⟨4, ![4, 8, 8, 512]⟩ : Shape).Idx → EReal) (x4 : (⟨2, ![4096, 128]⟩ : Shape).Idx → EReal)

/-- The products of head pair `hp` and key tile `j`. -/
def blkAt (hp j : ℕ) : Blk := mkBlk hp (fun q l => ar2 x0 q (128 * hp + l)) (fun q l => ar2 x1 q (128 * hp + l)) (fun q l => ar2 x2 q (128 * hp + l))
  (fun h q => arL x3 hp h q) (fun k l => ar2 x0 (512 * j + k) (512 + 128 * hp + l)) (fun k l => ar2 x0 (512 * j + k) (1024 + 128 * hp + l))
  (fun k l => ar2 x4 (512 * j + k) l)
end Arrays

variable (m : (ℓ : Loc nD τ sig) → Buf (Elt Ideal) ℓ)

abbrev A0 (c : Dev nD) : (⟨2, ![4096, 1536]⟩ : Shape).Idx → EReal := m ((c : Thread nD τ).loc main_arg0)
abbrev A1 (c : Dev nD) : (⟨2, ![4096, 512]⟩ : Shape).Idx → EReal := m ((c : Thread nD τ).loc main_arg1)
abbrev A2 (c : Dev nD) : (⟨2, ![4096, 512]⟩ : Shape).Idx → EReal := m ((c : Thread nD τ).loc main_arg2)
abbrev A3 (c : Dev nD) : (⟨4, ![4, 8, 8, 512]⟩ : Shape).Idx → EReal := m ((c : Thread nD τ).loc main_arg3)
abbrev A4 (c : Dev nD) : (⟨2, ![4096, 128]⟩ : Shape).Idx → EReal := m ((c : Thread nD τ).loc main_arg4)

abbrev blk (c : Dev nD) (hp j : ℕ) : Blk := blkAt (A0 m c) (A1 m c) (A2 m c) (A3 m c) (A4 m c) hp j

theorem co0 : ∀ t : Fin cfg0.N, (grid0.coords t 0).val = t.val / 8 := by decide +kernel
theorem co1 : ∀ t : Fin cfg0.N, (grid0.coords t 1).val = t.val % 8 := by decide +kernel
theorem c1_iff : ∀ t : Fin cfg0.N, k0_cond1 (grid0.coords t) = 1#1 ↔ t.val % 8 = 0 := by decide +kernel

theorem ix_0 : ∀ t : Fin cfg0.N, win0_0.index t = ![0, t.val / 8] := by decide +kernel
theorem ix_1 : ∀ t : Fin cfg0.N, win0_1.index t = ![0, t.val / 8] := by decide +kernel
theorem ix_2 : ∀ t : Fin cfg0.N, win0_2.index t = ![0, t.val / 8] := by decide +kernel
theorem ix_3 : ∀ t : Fin cfg0.N, win0_3.index t = ![t.val / 8, 0, 0, 0] := by decide +kernel
theorem ix_4 : ∀ t : Fin cfg0.N, win0_4.index t = ![t.val % 8, 4 + t.val / 8] := by decide +kernel
theorem ix_5 : ∀ t : Fin cfg0.N, win0_5.index t = ![t.val % 8, 8 + t.val / 8] := by decide +kernel
theorem ix_6 : ∀ t : Fin cfg0.N, win0_6.index t = ![t.val % 8, 0] := by decide +kernel

theorem N32 (t : Fin cfg0.N) : t.val < 32 := t.isLt

theorem loads (c : Dev nD) (t : Fin cfg0.N) :
    Loads (fun q l => ar2 (A0 m c) q (128 * (t.val / 8) + l)) (fun q l => ar2 (A1 m c) q (128 * (t.val / 8) + l)) (fun q l => ar2 (A2 m c) q (128 * (t.val / 8) + l))
      (fun h q => arL (A3 m c) (t.val / 8) h q) (fun k l => ar2 (A0 m c) (512 * (t.val % 8) + k) (512 + 128 * (t.val / 8) + l))
      (fun k l => ar2 (A0 m c) (512 * (t.val % 8) + k) (1024 + 128 * (t.val / 8) + l)) (fun k l => ar2 (A4 m c) (512 * (t.val % 8) + k) l)
      (iblk m c 0 t) (iblk m c 1 t) (iblk m c 2 t) (iblk m c 3 t) (iblk m c 4 t) (iblk m c 5 t) (iblk m c 6 t) where
  q q l := by
    have := N32 t
    rw [ar2_of _ q.isLt (by omega)]
    blk_ext [iblk, V, ix_0 t]
  d q l := by
    have := N32 t
    rw [ar2_of _ q.isLt (by omega)]
    blk_ext [iblk, V, ix_1 t]
  o q l := by
    have := N32 t
    rw [ar2_of _ q.isLt (by omega)]
    blk_ext [iblk, V, ix_2 t]
  l0 n x := by
    have := N32 t
    unfold arL
    rw [dif_pos ⟨by omega, by omega, by omega⟩]
    blk_ext [iblk, V, ix_3 t]
  l1 n x := by
    have := N32 t
    unfold arL
    rw [dif_pos ⟨by omega, by omega, by omega⟩]
    blk_ext [iblk, V, ix_3 t]
  k k l := by
    have := N32 t
    rw [ar2_of _ (by omega) (by omega)]
    blk_ext [iblk, V, ix_4 t]
  v k l := by
    have := N32 t
    rw [ar2_of _ (by omega) (by omega)]
    blk_ext [iblk, V, ix_5 t]
  g k l := by
    have := N32 t
    rw [ar2_of _ (by omega) (by omega)]
    blk_ext [iblk, V, ix_6 t]

end Cert.KernelIdeal.Val
end
-- ==== Proof.V.Run.lean ====
module

public import Idealize.ShloMosaic.Lib.Pointwise
public import Idealize.ShloMosaic.Lib.Pipeline.ArrRel
public import Idealize.ShloMosaic.Lib.Pipeline.DatRel
public import Idealize.ShloMosaic.Lib.Claim
public import Idealize.ShloMosaic.Lib.Pipeline.FrameBody
public import proofs.«01_k».proof.Proof.V.Arrays
public import proofs.«01_k».proof.Proof.KI.FrameRun
public import proofs.«01_k».proof.Proof.Gen.KernelIdeal.Loops
public import proofs.«01_k».proof.Proof.Gen.KernelIdeal.Frame
public import proofs.«01_k».proof.Proof.KI.Stage2

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat RDat Cfg Window BodyObligationRel)

local notation "𝕄" => MT nD τ sig Unit (Elt Ideal) ℕ (UR sig nD τ) ℕ

variable (m : (ℓ : Loc nD τ sig) → Buf (Elt Ideal) ℓ) (ρ : Dev nD → PrngReg)

/-- The rows of head pair `hp` stand in the scratch. -/
structure Keep (B : Blk) (X15 : Vec Ideal S8x8x512 .f32) (X17 : Vec Ideal S2x4096x128 .bf16) : Prop where
  s0 : ∀ (n : Fin 8) (x : Fin 512), X15 (ix3 n 0 x) = B.ST 0 (512 * n + x)
  s1 : ∀ (n : Fin 8) (x : Fin 512), X15 (ix3 n 1 x) = B.ST 1 (512 * n + x)
  a0 : ∀ (q : Fin 4096) (l : Fin 128), X17 (ix3 0 q l) = B.QA 0 q l
  a1 : ∀ (q : Fin 4096) (l : Fin 128), X17 (ix3 1 q l) = B.QA 1 q l

/-- The sums of head pair `hp` after its first `j` key tiles. -/
def sums (c : Dev nD) (hp : ℕ) : ℕ → Sums
  | 0 => Sums.zero
  | j + 1 => (sums c hp j).next (blk m c hp j) j

def IsSq (Z : Sums) (X : Vec Ideal S8x128x512 .f32) : Prop := ∀ (n : Fin 8) (l : Fin 128) (x : Fin 512), X (ix3 n l x) = Z.q n l x

def IsSf (Z : Sums) (X : Vec Ideal S1x8x8x512 .f32) : Prop := ∀ (n g : Fin 8) (x : Fin 512), X (ix4 0 n g x) = Z.f n g x

structure IsSc (Z : Sums) (X : Vec Ideal S1x1x384 .f32) : Prop where
  k : ∀ l : Fin 128, X (ix3 0 0 ⟨128 + l.val, by omega⟩) = Z.c (128 + l.val)
  v : ∀ l : Fin 128, X (ix3 0 0 ⟨256 + l.val, by omega⟩) = Z.c (256 + l.val)

def IsEq (Z : Sums) (X : Vec Ideal S4096x128 .bf16) : Prop := ∀ (n : Fin 8) (l : Fin 128) (x : Fin 512), X (ix2 ⟨512 * n.val + x.val, by omega⟩ l) = Z.q n l x

def IsEc (Z : Sums) (X : Vec Ideal S1x1x384 .f32) : Prop := ∀ l : Fin 128, X (ix3 0 0 ⟨l.val, by omega⟩) = ∑ n ∈ Finset.range 8, ∑ x : Fin 512, Z.q n l x

/-- What stands in the scratch before point `n`. -/
def Inv (c : Dev nD) (n : ℕ) (X15 : Vec Ideal S8x8x512 .f32) (X16 : Vec Ideal S8x128x512 .f32) (X17 : Vec Ideal S2x4096x128 .bf16) : Prop :=
  n % 8 ≠ 0 → Keep (blk m c (n / 8) 0) X15 X17 ∧ IsSq (sums m c (n / 8) (n % 8)) X16

theorem inv_fits (c : Dev nD) (t : Fin cfg0.N) {X15 : Vec Ideal S8x8x512 .f32} {X16 : Vec Ideal S8x128x512 .f32} {X17 : Vec Ideal S2x4096x128 .bf16} (h : Inv m c t.val X15 X16 X17)
    (hn : ¬ k0_cond1 (grid0.coords t) = 1#1) : FitsQ (blk m c (t.val / 8) (t.val % 8)) (iblk m c 0 t) (iblk m c 1 t) X15 X17 :=
  have k := (h fun e => hn ((c1_iff t).2 e)).1
  ⟨(loads m c t).q, (loads m c t).d, k.s0, k.s1, k.a0, k.a1⟩

theorem fits_inv (c : Dev nD) (t : Fin cfg0.N) {X2 X3 : Vec Ideal S4096x128 .bf16} {X15 : Vec Ideal S8x8x512 .f32} {X16 : Vec Ideal S8x128x512 .f32} {X17 : Vec Ideal S2x4096x128 .bf16}
    (h : FitsQ (blk m c (t.val / 8) (t.val % 8)) X2 X3 X15 X17) (hq : IsSq (sums m c (t.val / 8) (t.val % 8 + 1)) X16) : Inv m c (t.val + 1) X15 X16 X17 := fun hn => by
  rw [show (t.val + 1) / 8 = t.val / 8 by omega, show (t.val + 1) % 8 = t.val % 8 + 1 by omega]
  exact ⟨⟨h.s0, h.s1, h.a0, h.a1⟩, hq⟩

/-- What a point leaves in a result's window. -/
def vRl (c : Dev nD) (w : Fin cfg0.W) (t : Fin cfg0.N) (X : (cfg0.win w).block.Idx → Elt Ideal (cfg0.win w).elt) : Prop :=
  match w, X with
  | ⟨7, _⟩, X => t.val % 8 = 7 → IsEq (sums m c (t.val / 8) 8) X
  | ⟨8, _⟩, X => IsDk (blk m c (t.val / 8) (t.val % 8)) (t.val % 8) X
  | ⟨9, _⟩, X => IsDv (blk m c (t.val / 8) (t.val % 8)) (t.val % 8) X
  | ⟨10, _⟩, X => IsSc (sums m c (t.val / 8) (t.val % 8 + 1)) X ∧ (t.val % 8 = 7 → IsEc (sums m c (t.val / 8) 8) X)
  | ⟨11, _⟩, X => IsFk (blk m c (t.val / 8) (t.val % 8)) (t.val % 8) X
  | ⟨12, _⟩, X => IsSf (sums m c (t.val / 8) (t.val % 8 + 1)) X
  | _, _ => True

theorem c2_iff : ∀ t : Fin cfg0.N, k0_cond2 (grid0.coords t) = 1#1 ↔ t.val % 8 = 7 := by decide +kernel
theorem fe_10 : ∀ t : Fin cfg0.N, (cfg0.win 10).fetch t = false := by decide +kernel
theorem fe_12 : ∀ t : Fin cfg0.N, (cfg0.win 12).fetch t = false := by decide +kernel
theorem fn_10 : ∀ t : Fin cfg0.N, (cfg0.win 10).flush t = true → t.val % 8 = 7 := by decide +kernel
theorem fn_12 : ∀ t : Fin cfg0.N, (cfg0.win 12).flush t = true → t.val % 8 = 7 := by decide +kernel

/-- The invariant before point `n`. -/
def vΦ (c : Dev nD) (n : ℕ) : sProp 𝕄 :=
  iprop((∃ d15 d16 d17, ⌜Inv m c n d15 d16 d17⌝ ∗ owns (c : Thread nD τ) sc_0 fullShare d15 ∗ owns (c : Thread nD τ) sc_1 fullShare d16 ∗ owns (c : Thread nD τ) sc_2 fullShare d17) ∗ (∃ r, prngReg c r))

/-- The data of the region. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => fun _ => Classical.arbitrary _
    | ⟨8, _⟩ => fun _ => Classical.arbitrary _
    | ⟨9, _⟩ => fun _ => Classical.arbitrary _
    | ⟨10, _⟩ => fun _ => Classical.arbitrary _
    | ⟨11, _⟩ => fun _ => Classical.arbitrary _
    | ⟨12, _⟩ => fun _ => Classical.arbitrary _
  Φ n := vΦ m c n.val
  q w := Pipeline.shareOf spec0 w
  owed _ := 0

theorem vA_eq (c : Dev nD) (w : Fin cfg0.W) : (vdats m 0 c).A w = V m c (Pipeline.arrRef spec0 w) := by
  dsimp only [vdats]
theorem vafter_0 (c : Dev nD) (t : Fin cfg0.N) : (vdats m 0 c).after 0 t = iblk m c 0 t := by dsimp only [vdats]
theorem vafter_1 (c : Dev nD) (t : Fin cfg0.N) : (vdats m 0 c).after 1 t = iblk m c 1 t := by dsimp only [vdats]
theorem vafter_2 (c : Dev nD) (t : Fin cfg0.N) : (vdats m 0 c).after 2 t = iblk m c 2 t := by dsimp only [vdats]
theorem vafter_3 (c : Dev nD) (t : Fin cfg0.N) : (vdats m 0 c).after 3 t = iblk m c 3 t := by dsimp only [vdats]
theorem vafter_4 (c : Dev nD) (t : Fin cfg0.N) : (vdats m 0 c).after 4 t = iblk m c 4 t := by dsimp only [vdats]
theorem vafter_5 (c : Dev nD) (t : Fin cfg0.N) : (vdats m 0 c).after 5 t = iblk m c 5 t := by dsimp only [vdats]
theorem vafter_6 (c : Dev nD) (t : Fin cfg0.N) : (vdats m 0 c).after 6 t = iblk m c 6 t := by dsimp only [vdats]
theorem vbefore_0 (c : Dev nD) (t : Fin cfg0.N) (d) : (vdats m 0 c).before 0 t d = iblk m c 0 t :=
  before0_0_of m (vdats m 0 c) (vA_eq m c 0) (vafter_0 m c) t d
theorem vbefore_1 (c : Dev nD) (t : Fin cfg0.N) (d) : (vdats m 0 c).before 1 t d = iblk m c 1 t :=
  before0_1_of m (vdats m 0 c) (vA_eq m c 1) (vafter_1 m c) t d
theorem vbefore_2 (c : Dev nD) (t : Fin cfg0.N) (d) : (vdats m 0 c).before 2 t d = iblk m c 2 t :=
  before0_2_of m (vdats m 0 c) (vA_eq m c 2) (vafter_2 m c) t d
theorem vbefore_3 (c : Dev nD) (t : Fin cfg0.N) (d) : (vdats m 0 c).before 3 t d = iblk m c 3 t :=
  before0_3_of m (vdats m 0 c) (vA_eq m c 3) (vafter_3 m c) t d
theorem vbefore_4 (c : Dev nD) (t : Fin cfg0.N) (d) : (vdats m 0 c).before 4 t d = iblk m c 4 t :=
  before0_4_of m (vdats m 0 c) (vA_eq m c 4) (vafter_4 m c) t d
theorem vbefore_5 (c : Dev nD) (t : Fin cfg0.N) (d) : (vdats m 0 c).before 5 t d = iblk m c 5 t :=
  before0_5_of m (vdats m 0 c) (vA_eq m c 5) (vafter_5 m c) t d
theorem vbefore_6 (c : Dev nD) (t : Fin cfg0.N) (d) : (vdats m 0 c).before 6 t d = iblk m c 6 t :=
  before0_6_of m (vdats m 0 c) (vA_eq m c 6) (vafter_6 m c) t d

theorem finds_f (c : Dev nD) (t : Fin cfg0.N) (hn : ¬ k0_cond1 (grid0.coords t) = 1#1) (X : Vec Ideal S1x8x8x512 .f32) (h : ((vdats m 0 c).toRRel isRes (vRl m c)).Finds 12 t X) :
    IsSf (sums m c (t.val / 8) (t.val % 8)) X := by
  have h0 : t.val % 8 ≠ 0 := fun e => hn ((c1_iff t).2 e)
  rcases ((vdats m 0 c).toRRel isRes (vRl m c)).finds_of_pos (fe_12 t) (by omega) X |>.1 h with e | ⟨Y, -, e⟩
  · have := fn_12 _ e
    simp only [] at this
    omega
  · have e' : IsSf (sums m c ((t.val - 1) / 8) ((t.val - 1) % 8 + 1)) X := e
    rwa [show (t.val - 1) / 8 = t.val / 8 by omega, show (t.val - 1) % 8 + 1 = t.val % 8 by omega] at e'

theorem finds_c (c : Dev nD) (t : Fin cfg0.N) (hn : ¬ k0_cond1 (grid0.coords t) = 1#1) (X : Vec Ideal S1x1x384 .f32) (h : ((vdats m 0 c).toRRel isRes (vRl m c)).Finds 10 t X) :
    IsSc (sums m c (t.val / 8) (t.val % 8)) X := by
  have h0 : t.val % 8 ≠ 0 := fun e => hn ((c1_iff t).2 e)
  rcases ((vdats m 0 c).toRRel isRes (vRl m c)).finds_of_pos (fe_10 t) (by omega) X |>.1 h with e | ⟨Y, -, e⟩
  · have := fn_10 _ e
    simp only [] at this
    omega
  · have e' : IsSc (sums m c ((t.val - 1) / 8) ((t.val - 1) % 8 + 1)) X ∧ _ := e
    have e' := e'.1
    rwa [show (t.val - 1) / 8 = t.val / 8 by omega, show (t.val - 1) % 8 + 1 = t.val % 8 by omega] at e'

/-- The body at any point, window by window. -/
theorem vsound (c : Dev nD) (t : Fin cfg0.N) :
    iprop((vdats m 0 c).Φ t.castSucc ∗ (vdats m 0 c).owesAt () t.castSucc ∗ (∃ d : Vec Ideal S4096x128 .bf16, owns (c : Thread nD τ) (ms_0 t) fullShare ((vdats m 0 c).before 0 t d)) ∗ (∃ d : Vec Ideal S4096x128 .bf16, owns (c : Thread nD τ) (ms_1 t) fullShare ((vdats m 0 c).before 1 t d)) ∗ (∃ d : Vec Ideal S4096x128 .f32, owns (c : Thread nD τ) (ms_2 t) fullShare ((vdats m 0 c).before 2 t d)) ∗ (∃ d : Vec Ideal S1x8x8x512 .f32, owns (c : Thread nD τ) (ms_3 t) fullShare ((vdats m 0 c).before 3 t d)) ∗ (∃ d : Vec Ideal S512x128 .bf16, owns (c : Thread nD τ) (ms_4 t) fullShare ((vdats m 0 c).before 4 t d)) ∗ (∃ d : Vec Ideal S512x128 .bf16, owns (c : Thread nD τ) (ms_5 t) fullShare ((vdats m 0 c).before 5 t d)) ∗ (∃ d : Vec Ideal S512x128 .f32, owns (c : Thread nD τ) (ms_6 t) fullShare ((vdats m 0 c).before 6 t d)) ∗ (∃ X, ⌜((vdats m 0 c).toRRel isRes (vRl m c)).Finds 7 t X⌝ ∗ owns (c : Thread nD τ) (ms_7 t) fullShare X) ∗ (∃ X, ⌜((vdats m 0 c).toRRel isRes (vRl m c)).Finds 8 t X⌝ ∗ owns (c : Thread nD τ) (ms_8 t) fullShare X) ∗ (∃ X, ⌜((vdats m 0 c).toRRel isRes (vRl m c)).Finds 9 t X⌝ ∗ owns (c : Thread nD τ) (ms_9 t) fullShare X) ∗ (∃ X, ⌜((vdats m 0 c).toRRel isRes (vRl m c)).Finds 10 t X⌝ ∗ owns (c : Thread nD τ) (ms_10 t) fullShare X) ∗ (∃ X, ⌜((vdats m 0 c).toRRel isRes (vRl m c)).Finds 11 t X⌝ ∗ owns (c : Thread nD τ) (ms_11 t) fullShare X) ∗ (∃ X, ⌜((vdats m 0 c).toRRel isRes (vRl m c)).Finds 12 t X⌝ ∗ owns (c : Thread nD τ) (ms_12 t) fullShare X))
      ⊢ wp frame (wpE (defs₀ (F := Ideal)) Variants.none c none) Set.univ (bodyAt0 t) fun _ =>
        iprop((vdats m 0 c).Φ t.succ ∗ (vdats m 0 c).owesAt () t.succ ∗ owns (c : Thread nD τ) (ms_0 t) fullShare ((vdats m 0 c).after 0 t) ∗ owns (c : Thread nD τ) (ms_1 t) fullShare ((vdats m 0 c).after 1 t) ∗ owns (c : Thread nD τ) (ms_2 t) fullShare ((vdats m 0 c).after 2 t) ∗ owns (c : Thread nD τ) (ms_3 t) fullShare ((vdats m 0 c).after 3 t) ∗ owns (c : Thread nD τ) (ms_4 t) fullShare ((vdats m 0 c).after 4 t) ∗ owns (c : Thread nD τ) (ms_5 t) fullShare ((vdats m 0 c).after 5 t) ∗ owns (c : Thread nD τ) (ms_6 t) fullShare ((vdats m 0 c).after 6 t) ∗ (∃ X, ⌜vRl m c 7 t X⌝ ∗ owns (c : Thread nD τ) (ms_7 t) fullShare X) ∗ (∃ X, ⌜vRl m c 8 t X⌝ ∗ owns (c : Thread nD τ) (ms_8 t) fullShare X) ∗ (∃ X, ⌜vRl m c 9 t X⌝ ∗ owns (c : Thread nD τ) (ms_9 t) fullShare X) ∗ (∃ X, ⌜vRl m c 10 t X⌝ ∗ owns (c : Thread nD τ) (ms_10 t) fullShare X) ∗ (∃ X, ⌜vRl m c 11 t X⌝ ∗ owns (c : Thread nD τ) (ms_11 t) fullShare X) ∗ (∃ X, ⌜vRl m c 12 t X⌝ ∗ owns (c : Thread nD τ) (ms_12 t) fullShare X)) := by
  simp only [vbefore_0, vbefore_1, vbefore_2, vbefore_3, vbefore_4, vbefore_5, vbefore_6, vafter_0, vafter_1, vafter_2, vafter_3, vafter_4, vafter_5, vafter_6]
  rw [show (vdats m 0 c).owesAt () t.succ = (vdats m 0 c).owesAt () t.castSucc from rfl,
    show (vdats m 0 c).Φ t.castSucc = vΦ m c t.val from rfl,
    show (vdats m 0 c).Φ t.succ = vΦ m c (t.val + 1) from rfl]
  unfold vΦ owns
  iintro ⟨⟨⟨%e15, %e16, %e17, %hI, ⟨%f15, %hf15, H15⟩, ⟨%f16, %hf16, H16⟩, ⟨%f17, %hf17, H17⟩⟩, Hg⟩, Ho, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, -, %f9, -, H9⟩, ⟨%d10, -, %f10, -, H10⟩, ⟨%d11, -, %f11, -, H11⟩, ⟨%d12, %F12, %f12, %hf12, H12⟩, ⟨%d13, -, %f13, -, H13⟩, ⟨%d14, %F14, %f14, %hf14, H14⟩⟩
  iapply (body_val c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) sc_0 (Memref.isWhole_whole _) sc_1 (Memref.isWhole_whole _) sc_2 (Memref.isWhole_whole _) f2 f3 f4 f5 f6 f7 f8 f9 f10 f11 f12 f13 f14 f15 f16 f17 (blk m c (t.val / 8) (t.val % 8)) _ _ _ _ _ _ _ (by rw [co0 t]; rfl)
    (by rw [hf2, hf3, hf4, hf5, hf6, hf7, hf8]; exact loads m c t)
    (by rw [hf2, hf3, hf15, hf17]; exact inv_fits m c t hI)
    (sums m c (t.val / 8) (t.val % 8)) (fun h => by rw [(c1_iff t).1 h]; rfl)
    (fun h => by
      rw [hf12, hf14, hf16]
      have hc := finds_c m c t h d12 F12
      exact ⟨(hI fun e => h ((c1_iff t).2 e)).2, finds_f m c t h d14 F14, hc.k, hc.v⟩) Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H2, H3, H4, H5, H6, H7, H8, ⟨%g10, H10, %r10⟩, ⟨%g11, H11, %r11⟩, ⟨%g13, H13, %r13⟩, ⟨%g9, %g12, %g14, %g16, H9, H12, H14, H16, %hS, %hE⟩, %g15, %g17, H15, H17, %hQ⟩
  rw [co1 t] at r10 r11 r13 hS hE
  change Holds (sums m c (t.val / 8) (t.val % 8 + 1)) _ _ _ at hS
  have r9 : t.val % 8 = 7 → IsEq (sums m c (t.val / 8) 8) ((ms_7 t).view.read _ g9) := fun h => by
    have e := (hE ((c2_iff t).2 h)).q
    rw [h] at e
    exact e
  have r12 : IsSc (sums m c (t.val / 8) (t.val % 8 + 1)) ((ms_10 t).view.read _ g12) ∧ (t.val % 8 = 7 → IsEc (sums m c (t.val / 8) 8) ((ms_10 t).view.read _ g12)) :=
    ⟨⟨hS.k, hS.v⟩, fun h => by
      have e := (hE ((c2_iff t).2 h)).c
      rw [h] at e
      exact e⟩
  have r14 : IsSf (sums m c (t.val / 8) (t.val % 8 + 1)) ((ms_12 t).view.read _ g14) := hS.f
  isplitl [H15 H16 H17 Hg]
  · isplitl [H15 H16 H17]
    · iexists _; iexists _; iexists _
      isplitr
      · ipureintro; exact fits_inv m c t hQ hS.q
      isplitl [H15]
      · iexists _; isplitr
        swap; · iexact H15
        ipureintro; rfl
      isplitl [H16]
      · iexists _; isplitr
        swap; · iexact H16
        ipureintro; rfl
      iexists _; isplitr
      swap; · iexact H17
      ipureintro; rfl
    iexact Hg
  isplitl [Ho]; · iexact Ho
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact hf6
  isplitl [H7]
  · iexists _; isplitr
    swap; · iexact H7
    ipureintro; exact hf7
  isplitl [H8]
  · iexists _; isplitr
    swap; · iexact H8
    ipureintro; exact hf8
  isplitl [H9]
  · iexists ((ms_7 t).view.read _ g9); isplitr
    · ipureintro; exact r9
    iexists _; isplitr
    swap; · iexact H9
    ipureintro; rfl
  isplitl [H10]
  · iexists ((ms_8 t).view.read _ g10); isplitr
    · ipureintro; exact r10
    iexists _; isplitr
    swap; · iexact H10
    ipureintro; rfl
  isplitl [H11]
  · iexists ((ms_9 t).view.read _ g11); isplitr
    · ipureintro; exact r11
    iexists _; isplitr
    swap; · iexact H11
    ipureintro; rfl
  isplitl [H12]
  · iexists ((ms_10 t).view.read _ g12); isplitr
    · ipureintro; exact r12
    iexists _; isplitr
    swap; · iexact H12
    ipureintro; rfl
  isplitl [H13]
  · iexists ((ms_11 t).view.read _ g13); isplitr
    · ipureintro; exact r13
    iexists _; isplitr
    swap; · iexact H13
    ipureintro; rfl
  iexists ((ms_12 t).view.read _ g14); isplitr
  · ipureintro; exact r14
  iexists _; isplitr
  swap; · iexact H14
  ipureintro; rfl

/-- The obligation of the region. -/
theorem vobligation (c : Dev nD) : BodyObligationRel (vdats m 0 c) (defs₀ (F := Ideal)) Variants.none () Set.univ isRes (vRl m c) := fun t => by
  rw [bigSep_W0, bigSep_W0, frow]
  exact triple_restated (vsound m c t) rfl .rfl fun _ => .rfl

theorem vin (c : Dev nD) : (Pipeline.ΦA spec0 c : sProp 𝕄) ⊢ vΦ m c 0 := by
  rw [scratch_eq]; unfold vΦ
  iintro ⟨⟨⟨%d15, H15⟩, ⟨%d16, H16⟩, ⟨%d17, H17⟩⟩, Hg⟩
  isplitr [Hg]
  · iexists d15; iexists d16; iexists d17
    isplitr
    · ipureintro; exact fun h => absurd rfl h
    isplitl [H15]; · iexact H15
    isplitl [H16]; · iexact H16
    iexact H17
  iexact Hg

theorem vout (c : Dev nD) (n : ℕ) : vΦ m c n ⊢ (Pipeline.ΦA spec0 c : sProp 𝕄) := by
  rw [scratch_eq]; unfold vΦ
  iintro ⟨⟨%d15, %d16, %d17, -, H15, H16, H17⟩, Hg⟩
  isplitr [Hg]
  · isplitl [H15]; · iexists d15; iexact H15
    isplitl [H16]; · iexists d16; iexact H16
    iexists d17; iexact H17
  iexact Hg

/-- The data, each result's window held to what a point leaves in it. -/
abbrev rd (c : Dev nD) : RDat τ (Elt Ideal) Unit ℕ (UR sig nD τ) ℕ cfg0 c := (vdats m 0 c).toRRel isRes (vRl m c)

set_option backward.isDefEq.respectTransparency.types false in
/-- The run. -/
theorem vrun : θ_run defs (onTc (τ := τ) (main (F := Ideal))) (s₀ m ρ) (fun r =>
    RDat.FramePost cfg0 (rd m) (V m) r ∧ r.2.sem = fun _ => 0) :=
  Pipeline.RDat.θ_run_frame_track_shared (Q' := _) cfgs (0 : Fin 1) launch₀0 defs₀ Variants.none (rd m) m ρ main
    (hbody := fun c => (vobligation m c).toRRel) (hq := fun _ _ _ => rfl)
    (howed := fun _ _ => rfl) (V := V m) (hmain := hmain m Variants.none) (hA := vA_eq m) (hin := vin m) (hout := fun c => vout m c _)

end Cert.KernelIdeal.Val
end
-- ==== Proof.V.Results.lean ====
module

public import Idealize.ShloMosaic.Lib.Pointwise
public import Idealize.ShloMosaic.Lib.Pipeline.ValueKit
public import proofs.«01_k».proof.Proof.V.Run
public import proofs.«01_k».proof.Proof.Gen.KernelIdeal.Loops
public import proofs.«01_k».proof.Proof.Gen.KernelIdeal.Frame
public import proofs.«01_k».proof.Proof.KI.Stage2

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat RDat Cfg Window BodyObligationRel)

local notation "𝕄" => MT nD τ sig Unit (Elt Ideal) ℕ (UR sig nD τ) ℕ

variable (m : (ℓ : Loc nD τ sig) → Buf (Elt Ideal) ℓ) (ρ : Dev nD → PrngReg)

theorem ix_8 : ∀ t : Fin cfg0.N, win0_8.index t = ![t.val % 8, t.val / 8] := by decide +kernel
theorem ix_9 : ∀ t : Fin cfg0.N, win0_9.index t = ![t.val % 8, t.val / 8] := by decide +kernel
theorem ix_11 : ∀ t : Fin cfg0.N, win0_11.index t = ![t.val / 8, t.val % 8, 0] := by decide +kernel

def Gdk (c : Dev nD) : S4096x512.Idx → EReal := fun i =>
  ∑ q : Fin 4096, if (i 0).val ≤ q.val then (blk m c ((i 1).val / 128) ((i 0).val / 512)).FK ((i 0).val % 512) ((i 1).val % 128) q else 0

def Gdv (c : Dev nD) : S4096x512.Idx → EReal := fun i =>
  ∑ q : Fin 4096, if (i 0).val ≤ q.val then (blk m c ((i 1).val / 128) ((i 0).val / 512)).FV ((i 0).val % 512) ((i 1).val % 128) q else 0

def Gfk (c : Dev nD) : S4x4096x128.Idx → EReal := fun i =>
  -(if (i 2).val < 2 then ∑ q : Fin 4096, (if (i 1).val ≤ q.val then (blk m c (i 0).val ((i 1).val / 512)).D (i 2).val ((i 1).val % 512) q else 0) else 0)

theorem fl_8 : ∀ u : Fin cfg0.N, (cfg0.win 8).flush u = true := by decide +kernel
theorem fl_9 : ∀ u : Fin cfg0.N, (cfg0.win 9).flush u = true := by decide +kernel
theorem fl_11 : ∀ u : Fin cfg0.N, (cfg0.win 11).flush u = true := by decide +kernel

theorem hN (t : Fin cfg0.grid.N) : t.val < 32 := t.isLt

theorem arr_dk (c : Dev nD) (after : (w' : Fin cfg0.W) → Fin cfg0.N → (cfg0.win w').block.Idx → Elt Ideal (cfg0.win w').elt)
    (hL : ∀ u : Fin cfg0.N, vRl m c 8 u (after 8 u)) : ((rd m c).withAfter after).arrAt 8 cfg0.N = Gdk m c := by
  refine ((rd m c).withAfter after).arrAt_eq_of_covers 8 _ (by decide +kernel) fun t hf y => ?_
  have h : IsDk _ _ (after 8 t) := hL t
  obtain ⟨p, l, rfl⟩ : ∃ (p : Fin 512) (l : Fin 128), y = ix2 p l := ⟨y 0, y 1, by ext a; fin_cases a <;> rfl⟩
  refine Eq.trans (b := after 8 t (ix2 p l)) ?_ ((h p l).trans ?_)
  · blk_simp
    rfl
  · unfold Gdk
    blk_simp [ix_8 t]
    have := hN t
    rw [show (t.val / 8 * 128 + l.val) / 128 = t.val / 8 by omega, show (t.val % 8 * 512 + p.val) / 512 = t.val % 8 by omega,
      show (t.val % 8 * 512 + p.val) % 512 = p.val by omega, show (t.val / 8 * 128 + l.val) % 128 = l.val by omega, mul_comm 512 (t.val % 8)]

theorem arr_dv (c : Dev nD) (after : (w' : Fin cfg0.W) → Fin cfg0.N → (cfg0.win w').block.Idx → Elt Ideal (cfg0.win w').elt)
    (hL : ∀ u : Fin cfg0.N, vRl m c 9 u (after 9 u)) : ((rd m c).withAfter after).arrAt 9 cfg0.N = Gdv m c := by
  refine ((rd m c).withAfter after).arrAt_eq_of_covers 9 _ (by decide +kernel) fun t hf y => ?_
  have h : IsDv _ _ (after 9 t) := hL t
  obtain ⟨p, l, rfl⟩ : ∃ (p : Fin 512) (l : Fin 128), y = ix2 p l := ⟨y 0, y 1, by ext a; fin_cases a <;> rfl⟩
  refine Eq.trans (b := after 9 t (ix2 p l)) ?_ ((h p l).trans ?_)
  · blk_simp
    rfl
  · unfold Gdv
    blk_simp [ix_9 t]
    have := hN t
    rw [show (t.val / 8 * 128 + l.val) / 128 = t.val / 8 by omega, show (t.val % 8 * 512 + p.val) / 512 = t.val % 8 by omega,
      show (t.val % 8 * 512 + p.val) % 512 = p.val by omega, show (t.val / 8 * 128 + l.val) % 128 = l.val by omega, mul_comm 512 (t.val % 8)]

theorem arr_fk (c : Dev nD) (after : (w' : Fin cfg0.W) → Fin cfg0.N → (cfg0.win w').block.Idx → Elt Ideal (cfg0.win w').elt)
    (hL : ∀ u : Fin cfg0.N, vRl m c 11 u (after 11 u)) : ((rd m c).withAfter after).arrAt 11 cfg0.N = Gfk m c := by
  refine ((rd m c).withAfter after).arrAt_eq_of_covers 11 _ (by decide +kernel) fun t hf y => ?_
  have h : IsFk _ _ (after 11 t) := hL t
  obtain ⟨p, l, rfl⟩ : ∃ (p : Fin 512) (l : Fin 128), y = ix3 0 p l := by
    refine ⟨y 1, y 2, ?_⟩
    ext a
    fin_cases a
    · exact Nat.lt_one_iff.1 (y 0).isLt
    · rfl
    · rfl
  refine Eq.trans (b := after 11 t (ix3 0 p l)) ?_ ((h p l).trans ?_)
  · blk_simp
    rfl
  · unfold Gfk
    blk_simp [ix_11 t]
    simp only [Fin.isValue, Fin.val_eq_zero, Nat.add_zero]
    have := hN t
    rw [show (t.val % 8 * 512 + p.val) / 512 = t.val % 8 by omega,
      show (t.val % 8 * 512 + p.val) % 512 = p.val by omega, mul_comm 512 (t.val % 8)]
    congr 1
    by_cases e0 : l.val = 0
    · rw [if_pos e0, if_pos (by omega), e0]
    by_cases e1 : l.val = 1
    · rw [if_neg e0, if_pos e1, if_pos (by omega), e1]
    rw [if_neg e0, if_neg e1, if_neg (by omega)]

theorem ix_7 : ∀ t : Fin cfg0.N, win0_7.index t = ![0, t.val / 8] := by decide +kernel
theorem ix_10 : ∀ t : Fin cfg0.N, win0_10.index t = ![t.val / 8, 0, 0] := by decide +kernel
theorem ix_12 : ∀ t : Fin cfg0.N, win0_12.index t = ![t.val / 8, 0, 0, 0] := by decide +kernel
theorem fn_7 : ∀ t : Fin cfg0.N, (cfg0.win 7).flush t = true → t.val % 8 = 7 := by decide +kernel

def Gdq (c : Dev nD) : S4096x512.Idx → EReal := fun i =>
  (sums m c ((i 1).val / 128) 8).q ((i 0).val / 512) ((i 1).val % 128) ((i 0).val % 512)

def Gcs (c : Dev nD) : S4x1x384.Idx → EReal := fun i =>
  if (i 2).val < 128 then ∑ n ∈ Finset.range 8, ∑ x : Fin 512, (sums m c (i 0).val 8).q n (i 2).val x.val else (sums m c (i 0).val 8).c (i 2).val

def Gfq (c : Dev nD) : S4x8x8x512.Idx → EReal := fun i => (sums m c (i 0).val 8).f (i 1).val (i 2).val (i 3).val

theorem arr_dq (c : Dev nD) (after : (w' : Fin cfg0.W) → Fin cfg0.N → (cfg0.win w').block.Idx → Elt Ideal (cfg0.win w').elt)
    (hL : ∀ u : Fin cfg0.N, (cfg0.win 7).flush u = true → vRl m c 7 u (after 7 u)) : ((rd m c).withAfter after).arrAt 7 cfg0.N = Gdq m c := by
  refine ((rd m c).withAfter after).arrAt_eq_of_covers 7 _ (by decide +kernel) fun t hf y => ?_
  have h : IsEq _ (after 7 t) := hL t hf (fn_7 t hf)
  obtain ⟨n, x, l, rfl⟩ : ∃ (n : Fin 8) (x : Fin 512) (l : Fin 128), y = ix2 ⟨512 * n.val + x.val, by omega⟩ l := by
    have hy : (y 0).val < 4096 := (y 0).isLt
    refine ⟨⟨(y 0).val / 512, by omega⟩, ⟨(y 0).val % 512, by omega⟩, y 1, ?_⟩
    ext a
    fin_cases a
    · exact (Nat.div_add_mod (y 0).val 512).symm
    · rfl
  refine Eq.trans (b := after 7 t (ix2 ⟨512 * n.val + x.val, by omega⟩ l)) ?_ ((h n l x).trans ?_)
  · blk_simp
    rfl
  · unfold Gdq
    blk_simp [ix_7 t]
    simp only [Nat.zero_mul, Nat.zero_add]
    have := hN t
    rw [show (t.val / 8 * 128 + l.val) / 128 = t.val / 8 by omega, show (512 * n.val + x.val) / 512 = n.val by omega,
      show (512 * n.val + x.val) % 512 = x.val by omega, show (t.val / 8 * 128 + l.val) % 128 = l.val by omega]

theorem arr_cs (c : Dev nD) (after : (w' : Fin cfg0.W) → Fin cfg0.N → (cfg0.win w').block.Idx → Elt Ideal (cfg0.win w').elt)
    (hL : ∀ u : Fin cfg0.N, (cfg0.win 10).flush u = true → vRl m c 10 u (after 10 u)) : ((rd m c).withAfter after).arrAt 10 cfg0.N = Gcs m c := by
  refine ((rd m c).withAfter after).arrAt_eq_of_covers 10 _ (by decide +kernel) fun t hf y => ?_
  obtain ⟨hs, he⟩ : IsSc (sums m c (t.val / 8) (t.val % 8 + 1)) (after 10 t) ∧ (t.val % 8 = 7 → IsEc (sums m c (t.val / 8) 8) (after 10 t)) := hL t hf
  have e7 := fn_10 t hf
  rw [e7] at hs
  have he := he e7
  obtain ⟨l, rfl⟩ : ∃ (l : Fin 384), y = ix3 0 0 l := by
    refine ⟨y 2, ?_⟩
    ext a
    fin_cases a
    · exact Nat.lt_one_iff.1 (y 0).isLt
    · exact Nat.lt_one_iff.1 (y 1).isLt
    · rfl
  have h : after 10 t (ix3 0 0 l) = if l.val < 128 then ∑ n ∈ Finset.range 8, ∑ x : Fin 512, (sums m c (t.val / 8) 8).q n l.val x.val else (sums m c (t.val / 8) 8).c l.val := by
    by_cases e : l.val < 128
    · rw [if_pos e]; exact he ⟨l.val, e⟩
    rw [if_neg e]
    by_cases e' : l.val < 256
    · have := hs.k ⟨l.val - 128, by omega⟩
      have el : 128 + (l.val - 128) = l.val := by omega
      simp only [el] at this
      exact this
    · have := hs.v ⟨l.val - 256, by omega⟩
      have el : 256 + (l.val - 256) = l.val := by omega
      simp only [el] at this
      exact this
  refine Eq.trans (b := after 10 t (ix3 0 0 l)) ?_ (h.trans ?_)
  · blk_simp
    rfl
  · unfold Gcs
    blk_simp [ix_10 t]
    simp only [Fin.isValue, Fin.val_eq_zero, Nat.add_zero, Nat.zero_mul, Nat.zero_add, Nat.mul_one]

theorem arr_fq (c : Dev nD) (after : (w' : Fin cfg0.W) → Fin cfg0.N → (cfg0.win w').block.Idx → Elt Ideal (cfg0.win w').elt)
    (hL : ∀ u : Fin cfg0.N, (cfg0.win 12).flush u = true → vRl m c 12 u (after 12 u)) : ((rd m c).withAfter after).arrAt 12 cfg0.N = Gfq m c := by
  refine ((rd m c).withAfter after).arrAt_eq_of_covers 12 _ (by decide +kernel) fun t hf y => ?_
  have h : IsSf (sums m c (t.val / 8) (t.val % 8 + 1)) (after 12 t) := hL t hf
  rw [fn_12 t hf] at h
  obtain ⟨n, g, x, rfl⟩ : ∃ (n g : Fin 8) (x : Fin 512), y = ix4 0 n g x := by
    refine ⟨y 1, y 2, y 3, ?_⟩
    ext a
    fin_cases a
    · exact Nat.lt_one_iff.1 (y 0).isLt
    · rfl
    · rfl
    · rfl
  refine Eq.trans (b := after 12 t (ix4 0 n g x)) ?_ ((h n g x).trans ?_)
  · blk_simp
    rfl
  · unfold Gfq
    blk_simp [ix_12 t]
    simp only [Fin.isValue, Fin.val_eq_zero, Nat.add_zero, Nat.zero_mul, Nat.zero_add, Nat.mul_one]

/-- The run's results, and its arguments as they were. -/
theorem results : θ_run defs (onTc (τ := τ) (main (F := Ideal))) (s₀ m ρ) (fun r => ∀ c : Dev nD,
    r.2.mem ((c.tc : Thread nD τ).loc main_v0_0) = Gdq m c ∧ r.2.mem ((c.tc : Thread nD τ).loc main_v0_1) = Gdk m c
      ∧ r.2.mem ((c.tc : Thread nD τ).loc main_v0_2) = Gdv m c ∧ r.2.mem ((c.tc : Thread nD τ).loc main_v0_3) = Gcs m c
      ∧ r.2.mem ((c.tc : Thread nD τ).loc main_v0_4) = Gfk m c ∧ r.2.mem ((c.tc : Thread nD τ).loc main_v0_5) = Gfq m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => by
    obtain ⟨after, hL, hA⟩ := h.1.exists_exact c
    have hr (w : Fin cfg0.W) (hw : isRes w = true) (u : Fin cfg0.N) (hf : (cfg0.win w).flush u = true) : vRl m c w u (after w u) :=
      (vdats m 0 c).toRRel_leaves hw (hL w u hf)
    exact ⟨(hA 7).trans (arr_dq m c after fun u hf => hr 7 rfl u hf), (hA 8).trans (arr_dk m c after fun u => hr 8 rfl u (fl_8 u)),
      (hA 9).trans (arr_dv m c after fun u => hr 9 rfl u (fl_9 u)), (hA 10).trans (arr_cs m c after fun u hf => hr 10 rfl u hf),
      (hA 11).trans (arr_fk m c after fun u => hr 11 rfl u (fl_11 u)), (hA 12).trans (arr_fq m c after fun u hf => hr 12 rfl u hf),
      (Pipeline.RDat.FramePost.arr_in h.1 c 5 rfl).trans ((vA_eq m c 5).trans (V_main_arg0 m c)),
      (Pipeline.RDat.FramePost.arr_in h.1 c 1 rfl).trans ((vA_eq m c 1).trans (V_main_arg1 m c)),
      (Pipeline.RDat.FramePost.arr_in h.1 c 2 rfl).trans ((vA_eq m c 2).trans (V_main_arg2 m c)),
      (Pipeline.RDat.FramePost.arr_in h.1 c 3 rfl).trans ((vA_eq m c 3).trans (V_main_arg3 m c)),
      (Pipeline.RDat.FramePost.arr_in h.1 c 6 rfl).trans ((vA_eq m c 6).trans (V_main_arg4 m c))⟩) (vrun m ρ)

end Cert.KernelIdeal.Val
end
-- ==== Proof.V.Ref.lean ====
module

public import Idealize.ShloMosaic.Lib.Pointwise
public import Idealize.ShloMosaic.Lib.WordCmp
public import proofs.«01_k».proof.Proof.Gen.ReferenceIdeal.Run

@[expose] public section

set_option maxRecDepth 16384

noncomputable section

namespace Cert.ReferenceIdeal.Val

open Cert.ReferenceIdeal Cert.ReferenceIdeal.Gen
open Idealize.ShloMosaic Idealize.ShloMosaic.TcCoe Idealize.SL.Sem

variable (x0 : FVec Ideal S4096x1536 .bf16) (x1 : FVec Ideal S4096x512 .bf16) (x2 : FVec Ideal S4096x512 .f32) (x3 : FVec Ideal S4x8x8x512 .f32) (x4 : FVec Ideal S4096x128 .f32)

/-- The heads of an array of 512 columns. -/
def heads (x : FVec Ideal S4096x512 .f32) : FVec Ideal S8x4096x64 .f32 :=
  transpose S8x4096x64 [1, 0, 2] (shapeCast S4096x8x64 x shapeCasts_S4096x512_S4096x8x64) transposes_S4096x8x64_S8x4096x64_1_0_2

theorem heads_at (x : FVec Ideal S4096x512 .f32) (h : Fin 8) (q : Fin 4096) (d : Fin 64) : heads x (ix3 h q d) = x (ix2 q ⟨64 * h.val + d.val, by omega⟩) := by
  pointwise [heads]
  first | done | (congr 1; apply congrArg; apply Fin.ext; simp; try omega)

def rq : FVec Ideal S8x4096x64 .f32 := heads (extf .f32 (extractStridedSlice S4096x512 ![0, 0] x0 slices_S4096x1536_S4096x512_0_0) bitsLt_bf16_f32)
def rk : FVec Ideal S8x4096x64 .f32 := heads (extf .f32 (extractStridedSlice S4096x512 ![0, 512] x0 slices_S4096x1536_S4096x512_0_512) bitsLt_bf16_f32)
def rv : FVec Ideal S8x4096x64 .f32 := heads (extf .f32 (extractStridedSlice S4096x512 ![0, 1024] x0 slices_S4096x1536_S4096x512_0_1024) bitsLt_bf16_f32)
def rdo : FVec Ideal S8x4096x64 .f32 := heads (extf .f32 x1 bitsLt_bf16_f32)
def ro : FVec Ideal S8x4096x64 .f32 := heads x2

theorem rq_at (h : Fin 8) (q : Fin 4096) (d : Fin 64) : rq x0 (ix3 h q d) = x0 (ix2 q ⟨64 * h.val + d.val, by omega⟩) := by
  unfold rq; rw [heads_at]; pointwise []
theorem rk_at (h : Fin 8) (q : Fin 4096) (d : Fin 64) : rk x0 (ix3 h q d) = x0 (ix2 q ⟨512 + (64 * h.val + d.val), by omega⟩) := by
  unfold rk; rw [heads_at]; pointwise []
theorem rv_at (h : Fin 8) (q : Fin 4096) (d : Fin 64) : rv x0 (ix3 h q d) = x0 (ix2 q ⟨1024 + (64 * h.val + d.val), by omega⟩) := by
  unfold rv; rw [heads_at]; pointwise []
theorem rdo_at (h : Fin 8) (q : Fin 4096) (d : Fin 64) : rdo x1 (ix3 h q d) = x1 (ix2 q ⟨64 * h.val + d.val, by omega⟩) := by
  unfold rdo; rw [heads_at]; pointwise []
theorem ro_at (h : Fin 8) (q : Fin 4096) (d : Fin 64) : ro x2 (ix3 h q d) = x2 (ix2 q ⟨64 * h.val + d.val, by omega⟩) := heads_at x2 h q d

def rf : FVec Ideal S8x4096 .f32 := transpose S8x4096 [1, 0] (extractStridedSlice S4096x8 ![0, 0] x4 slices_S4096x128_S4096x8_0_0) transposes_S4096x8_S8x4096_1_0
theorem rf_at (h : Fin 8) (k : Fin 4096) : rf x4 (ix2 h k) = x4 (ix2 k ⟨h.val, by omega⟩) := by
  pointwise [rf]

def rl : FVec Ideal S8x4096 .f32 := shapeCast S8x4096 (transpose S4x2x8x512 [0, 2, 1, 3] (extractStridedSlice S4x8x2x512 ![0, 0, 0, 0] x3 slices_S4x8x8x512_S4x8x2x512_0_0_0_0) transposes_S4x8x2x512_S4x2x8x512_0_2_1_3) shapeCasts_S4x2x8x512_S8x4096
theorem rl_at (h : Fin 8) (q : Fin 4096) : rl x3 (ix2 h q) = x3 (ix4 ⟨h.val / 2, by omega⟩ ⟨q.val / 512, by omega⟩ ⟨h.val % 2, by omega⟩ ⟨q.val % 512, by omega⟩) := by
  pointwise [rl]

/-- The causal mask. -/
def rm : IVec S8x4096x4096 1 := broadcastInDim S8x4096x4096 ![0, 1, 2] bcast_S1x4096x4096_S8x4096x4096_0_1_2 (broadcastInDim S1x4096x4096 ![1, 2] bcast_S4096x4096_S1x4096x4096_1_2 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))
theorem rm_at (h : Fin 8) (q k : Fin 4096) : rm (ix3 h q k) = if k.val ≤ q.val then 1#1 else 0#1 := by
  pointwise [rm]
  rw [WordCmp.cmpi_sle_ofNat (by omega) (by omega)]
  by_cases e : k.val ≤ q.val <;> simp [e]

/-- The probabilities. -/
def rp : FVec Ideal S8x4096x4096 .f32 := Host.exp (select rm (subf (subf (Host.dotGeneral dot_S8x4096x64_S8x4096x64_S8x4096x4096_2_2_1_1_0_0 none (rq x0) (rk x0)) (broadcastInDim S8x4096x4096 ![0, 1, 2] bcast_S8x1x4096_S8x4096x4096_0_1_2 (broadcastInDim S8x1x4096 ![0, 2] bcast_S8x4096_S8x1x4096_0_2 (rf x4)))) (broadcastInDim S8x4096x4096 ![0, 1, 2] bcast_S8x4096x1_S8x4096x4096_0_1_2 (broadcastInDim S8x4096x1 ![0, 1] bcast_S8x4096_S8x4096x1_0_1 (rl x3)))) (broadcastInDim S8x4096x4096 ![] bcast_S_S8x4096x4096 (id (constant S_ .f32 0xFF800000#32))))
theorem rp_at (h : Fin 8) (q k : Fin 4096) : rp x0 x3 x4 (ix3 h q k) = if k.val ≤ q.val then Ideal.exp ((∑ d : Fin 64, rq x0 (ix3 h q d) * rk x0 (ix3 h k d)) - rf x4 (ix2 h k) - rl x3 (ix2 h q)) else 0 := by
  pointwise [rp]
  rw [rm_at]
  by_cases e : k.val ≤ q.val
  · rw [if_pos e, if_pos e]; rfl
  · rw [if_neg e, if_neg e]
    show Ideal.exp (Ideal.ofBits .f32 0xFF800000#32) = 0
    rw [show Ideal.ofBits .f32 0xFF800000#32 = ⊥ from by simp [Ideal.ofBits, Ideal.ieee]]
    exact Ideal.exp_bot

/-- The scores' gradient. -/
def rd : FVec Ideal S8x4096x4096 .f32 := mulf (rp x0 x3 x4) (subf (Host.dotGeneral dot_S8x4096x64_S8x4096x64_S8x4096x4096_2_2_1_1_0_0 none (rdo x1) (rv x0)) (broadcastInDim S8x4096x4096 ![0, 1, 2] bcast_S8x4096x1_S8x4096x4096_0_1_2 (broadcastInDim S8x4096x1 ![0, 1] bcast_S8x4096_S8x4096x1_0_1 (Host.reduceAdd (mulf (ro x2) (rdo x1)) (constant S_ .f32 0x00000000#32) reducesTo_S8x4096x64_S8x4096_d2 h_S_))))
theorem rd_at (h : Fin 8) (q k : Fin 4096) : rd x0 x1 x2 x3 x4 (ix3 h q k) = rp x0 x3 x4 (ix3 h q k) * ((∑ d : Fin 64, rdo x1 (ix3 h q d) * rv x0 (ix3 h k d)) - ∑ d : Fin 64, ro x2 (ix3 h q d) * rdo x1 (ix3 h q d)) := by
  pointwise [rd]

def merge (x : FVec Ideal S8x4096x64 .f32) : FVec Ideal S4096x512 .bf16 := truncf .bf16 (shapeCast S4096x512 (transpose S4096x8x64 [1, 0, 2] x transposes_S8x4096x64_S4096x8x64_1_0_2) shapeCasts_S4096x8x64_S4096x512) bitsLt_bf16_f32
theorem merge_at (x : FVec Ideal S8x4096x64 .f32) (k : Fin 4096) (c : Fin 512) : merge x (ix2 k c) = x (ix3 ⟨c.val / 64, by omega⟩ k ⟨c.val % 64, by omega⟩) := by
  pointwise [merge]

/-- The gradients of q, k and v, by head. -/
def hq : FVec Ideal S8x4096x64 .f32 := Host.dotGeneral dot_S8x4096x4096_S8x4096x64_S8x4096x64_2_1_1_2_0_0 none (rd x0 x1 x2 x3 x4) (rk x0)
def hk : FVec Ideal S8x4096x64 .f32 := Host.dotGeneral dot_S8x4096x4096_S8x4096x64_S8x4096x64_1_1_2_2_0_0 none (rd x0 x1 x2 x3 x4) (rq x0)
def hv : FVec Ideal S8x4096x64 .f32 := Host.dotGeneral dot_S8x4096x4096_S8x4096x64_S8x4096x64_1_1_2_2_0_0 none (rp x0 x3 x4) (rdo x1)
theorem hq_at (h : Fin 8) (q : Fin 4096) (d : Fin 64) : hq x0 x1 x2 x3 x4 (ix3 h q d) = ∑ k : Fin 4096, rd x0 x1 x2 x3 x4 (ix3 h q k) * rk x0 (ix3 h k d) := by
  pointwise [hq]
theorem hk_at (h : Fin 8) (k : Fin 4096) (d : Fin 64) : hk x0 x1 x2 x3 x4 (ix3 h k d) = ∑ q : Fin 4096, rd x0 x1 x2 x3 x4 (ix3 h q k) * rq x0 (ix3 h q d) := by
  pointwise [hk]
theorem hv_at (h : Fin 8) (k : Fin 4096) (d : Fin 64) : hv x0 x1 x3 x4 (ix3 h k d) = ∑ q : Fin 4096, rp x0 x3 x4 (ix3 h q k) * rdo x1 (ix3 h q d) := by
  pointwise [hv]

def rdq : FVec Ideal S4096x512 .bf16 := merge (hq x0 x1 x2 x3 x4)
theorem rdq_at (q : Fin 4096) (c : Fin 512) : rdq x0 x1 x2 x3 x4 (ix2 q c) = ∑ k : Fin 4096, rd x0 x1 x2 x3 x4 (ix3 ⟨c.val / 64, by omega⟩ q k) * rk x0 (ix3 ⟨c.val / 64, by omega⟩ k ⟨c.val % 64, by omega⟩) := by
  unfold rdq; rw [merge_at, hq_at]

def rdk : FVec Ideal S4096x512 .bf16 := merge (hk x0 x1 x2 x3 x4)
theorem rdk_at (k : Fin 4096) (c : Fin 512) : rdk x0 x1 x2 x3 x4 (ix2 k c) = ∑ q : Fin 4096, rd x0 x1 x2 x3 x4 (ix3 ⟨c.val / 64, by omega⟩ q k) * rq x0 (ix3 ⟨c.val / 64, by omega⟩ q ⟨c.val % 64, by omega⟩) := by
  unfold rdk; rw [merge_at, hk_at]

def rdv : FVec Ideal S4096x512 .bf16 := merge (hv x0 x1 x3 x4)
theorem rdv_at (k : Fin 4096) (c : Fin 512) : rdv x0 x1 x3 x4 (ix2 k c) = ∑ q : Fin 4096, rp x0 x3 x4 (ix3 ⟨c.val / 64, by omega⟩ q k) * rdo x1 (ix3 ⟨c.val / 64, by omega⟩ q ⟨c.val % 64, by omega⟩) := by
  unfold rdv; rw [merge_at, hv_at]

/-- Column sums, a pair of heads to a row. -/
def rcol (x : FVec Ideal S8x4096x64 .f32) : FVec Ideal S4x1x128 .f32 := shapeCast S4x1x128 (Host.reduceAdd x (constant S_ .f32 0x00000000#32) reducesTo_S8x4096x64_S8x64_d1 h_S_) shapeCasts_S8x64_S4x1x128
theorem rcol_at (x : FVec Ideal S8x4096x64 .f32) (p : Fin 4) (l : Fin 128) : rcol x (ix3 p 0 l) = ∑ q : Fin 4096, x (ix3 ⟨2 * p.val + l.val / 64, by omega⟩ q ⟨l.val % 64, by omega⟩) := by
  pointwise [rcol]
  refine Finset.sum_congr rfl fun q _ => congrArg x ?_
  exact congrArg (fun a => ix3 a q _) (Fin.ext (show p.val * 2 + l.val / 64 = 2 * p.val + l.val / 64 by omega))

def rcs : FVec Ideal S4x1x384 .f32 := concatenate S4x1x384 2 [⟨S4x1x128, rcol (hq x0 x1 x2 x3 x4)⟩, ⟨S4x1x128, rcol (hk x0 x1 x2 x3 x4)⟩, ⟨S4x1x128, rcol (hv x0 x1 x3 x4)⟩] concatenates_S4x1x128_S4x1x128_S4x1x128_S4x1x384_d2
theorem rcs_at (p : Fin 4) (l : Fin 384) : rcs x0 x1 x2 x3 x4 (ix3 p 0 l) = if h : l.val < 128 then rcol (hq x0 x1 x2 x3 x4) (ix3 p 0 ⟨l.val, h⟩)
    else if h' : l.val < 256 then rcol (hk x0 x1 x2 x3 x4) (ix3 p 0 ⟨l.val - 128, by omega⟩) else rcol (hv x0 x1 x3 x4) (ix3 p 0 ⟨l.val - 256, by omega⟩) := by
  pointwise [rcs]
  by_cases e : l.val < 128
  · rw [dif_pos e, dif_pos e]
  by_cases e' : l.val < 256
  · rw [dif_neg e, dif_neg e, dif_pos e', dif_pos (show l.val - 128 < 128 by omega)]
  · rw [dif_neg e, dif_neg e, dif_neg e', dif_neg (show ¬ l.val - 128 < 128 by omega)]
    exact congrArg (fun a => rcol (hv x0 x1 x3 x4) (ix3 p 0 a)) (Fin.ext (show l.val - 128 - 128 = l.val - 256 by omega))

theorem sitofp_zero : FloatOps.sitofp (F := Ideal) FTy.f32 0#32 = (0 : EReal) := by
  show (((0#32 : BitVec 32).toInt : ℝ) : EReal) = 0
  simp

def rdf : FVec Ideal S4x4096x128 .f32 := pad S4x4096x128 ![0, 0, 0] ![0, 0, 126] ![0, 0, 0] (Host.negf (transpose S4x4096x2 [0, 2, 1] (shapeCast S4x2x4096 (Host.reduceAdd (rd x0 x1 x2 x3 x4) (constant S_ .f32 0x00000000#32) reducesTo_S8x4096x4096_S8x4096_d1 h_S_) shapeCasts_S8x4096_S4x2x4096) transposes_S4x2x4096_S4x4096x2_0_2_1)) (sitofp (F := Ideal) .f32 (constantI S_ 32 0#32)) pads_S4x4096x2_S4x4096x128_000_000_01260 h_S_
theorem rdf_at (p : Fin 4) (k : Fin 4096) (l : Fin 128) : rdf x0 x1 x2 x3 x4 (ix3 p k l) = if hl : l.val < 2 then -∑ q : Fin 4096, rd x0 x1 x2 x3 x4 (ix3 ⟨2 * p.val + l.val, by omega⟩ q k) else 0 := by
  pointwise [rdf]
  by_cases e : l.val < 2
  · rw [dif_pos e, dif_pos e]
    refine congrArg Neg.neg (Finset.sum_congr rfl fun x _ => ?_)
    rw [show (⟨p.val * 2 + l.val, by omega⟩ : Fin 8) = ⟨2 * p.val + l.val, by omega⟩ from Fin.ext (show p.val * 2 + l.val = 2 * p.val + l.val by omega)]
  · rw [dif_neg e, dif_neg e, sitofp_zero]

def rfq : FVec Ideal S4x8x8x512 .f32 := pad S4x8x8x512 ![0, 0, 0, 0] ![0, 0, 6, 0] ![0, 0, 0, 0] (transpose S4x8x2x512 [0, 2, 1, 3] (shapeCast S4x2x8x512 (Host.reduceAdd (rd x0 x1 x2 x3 x4) (constant S_ .f32 0x00000000#32) reducesTo_S8x4096x4096_S8x4096_d2 h_S_) shapeCasts_S8x4096_S4x2x8x512) transposes_S4x2x8x512_S4x8x2x512_0_2_1_3) (sitofp (F := Ideal) .f32 (constantI S_ 32 0#32)) pads_S4x8x2x512_S4x8x8x512_000_000_060_000 h_S_
theorem rfq_at (p : Fin 4) (n g : Fin 8) (x : Fin 512) : rfq x0 x1 x2 x3 x4 (ix4 p n g x) = if hg : g.val < 2 then ∑ k : Fin 4096, rd x0 x1 x2 x3 x4 (ix3 ⟨2 * p.val + g.val, by omega⟩ ⟨512 * n.val + x.val, by omega⟩ k) else 0 := by
  pointwise [rfq]
  by_cases e : g.val < 2
  · rw [dif_pos e, dif_pos e]
    refine Finset.sum_congr rfl fun k _ => congrArg _ ?_
    refine congrArg₂ (fun a b => ix3 a b k) (Fin.ext ?_) (Fin.ext ?_) <;> simp only [] <;> omega
  · rw [dif_neg e, dif_neg e, sitofp_zero]

/-- The reference's run: its results, and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v65) = rdq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v68) = rdk (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v71) = rdv (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_v54) = rcs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v59) = rdf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v72) = rfq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

end Cert.ReferenceIdeal.Val
end
-- ==== Proof.V.Alg.lean ====
module

public import proofs.«01_k».proof.Proof.V.Results
public import proofs.«01_k».proof.Proof.V.Ref

@[expose] public section

set_option maxRecDepth 16384

noncomputable section

namespace Cert.Tie

open Idealize.ShloMosaic Idealize.ShloMosaic.TcCoe Cert.KernelIdeal.Val

theorem sum_halves (f : ℕ → EReal) : ∑ l : Fin 128, f l.val = ∑ d : Fin 64, f d.val + ∑ d : Fin 64, f (64 + d.val) := by
  rw [Fin.sum_univ_eq_sum_range (fun n => f n), Fin.sum_univ_eq_sum_range (fun n => f n), Fin.sum_univ_eq_sum_range (fun n => f (64 + n))]
  exact Finset.sum_range_add f 64 64

theorem sum_six (f : ℕ → EReal) (hf : ∀ d, 6 ≤ d → d < 64 → f d = 0) : ∑ d : Fin 64, f d.val = f 0 + f 1 + f 2 + f 3 + f 4 + f 5 := by
  rw [Fin.sum_univ_eq_sum_range (fun n => f n), show (64 : ℕ) = 6 + 58 from rfl, Finset.sum_range_add,
    Finset.sum_eq_zero fun d hd => hf (6 + d) (by omega) (by have := Finset.mem_range.1 hd; omega), add_zero]
  simp only [Finset.sum_range_succ, Finset.sum_range_zero, zero_add]

/-- A sum over the lanes of one head. -/
theorem sum_lane (h : ℕ) (hh : h < 2) (f : ℕ → EReal) : ∑ l : Fin 128, lane h l.val (f l.val) = ∑ d : Fin 64, f (64 * h + d.val) := by
  rw [sum_halves fun l => lane h l (f l)]
  obtain rfl | rfl : h = 0 ∨ h = 1 := by omega
  · rw [Finset.sum_eq_zero (s := Finset.univ) (f := fun d : Fin 64 => lane 0 (64 + d.val) _) fun d _ => by rw [lane0, if_neg (by omega)], add_zero]
    refine Finset.sum_congr rfl fun d _ => ?_
    rw [lane0, if_pos (by omega)]
    congr 1; omega
  · rw [Finset.sum_eq_zero (s := Finset.univ) (f := fun d : Fin 64 => lane 1 d.val _) fun d _ => by rw [lane1, if_pos (by omega)], zero_add]
    refine Finset.sum_congr rfl fun d _ => ?_
    rw [lane1, if_neg (by omega)]

/-- The six lanes of bias of two widened rows. -/
theorem sum_aug (h : ℕ) (hh : h < 2) (x y : ℕ → EReal) (a b c d e f : EReal) :
    ∑ l : Fin 128, aug h l.val (x l.val) a b c 1 1 1 * aug h l.val (y l.val) 1 1 1 d e f
      = ∑ d : Fin 64, x (64 * h + d.val) * y (64 * h + d.val) + (a + b + c + d + e + f) := by
  rw [sum_halves fun l => aug h l (x l) a b c 1 1 1 * aug h l (y l) 1 1 1 d e f]
  obtain rfl | rfl : h = 0 ∨ h = 1 := by omega
  · refine congrArg₂ _ (Finset.sum_congr rfl fun i _ => ?_) ?_
    · simp only [aug0, if_pos i.isLt, mul_zero, zero_add]
    · refine (sum_six (fun i => aug 0 (64 + i) (x (64 + i)) a b c 1 1 1 * aug 0 (64 + i) (y (64 + i)) 1 1 1 d e f) fun i hi hj => ?_).trans ?_
      · simp only [aug0, if_neg (show ¬ 64 + i < 64 by omega), if_neg (show ¬ 64 + i = 64 by omega), if_neg (show ¬ 64 + i = 65 by omega), if_neg (show ¬ 64 + i = 66 by omega),
          if_neg (show ¬ 64 + i = 67 by omega), if_neg (show ¬ 64 + i = 68 by omega), if_neg (show ¬ 64 + i = 69 by omega), mul_zero]
      · simp [aug0]
  · rw [add_comm]
    refine congrArg₂ _ (Finset.sum_congr rfl fun i _ => ?_) ?_
    · simp only [aug1, if_neg (show ¬ 64 + i.val < 64 by omega), mul_one]
    · refine (sum_six (fun i => aug 1 i (x i) a b c 1 1 1 * aug 1 i (y i) 1 1 1 d e f) fun i hi hj => ?_).trans ?_
      · simp only [aug1, if_pos hj, if_neg (show ¬ i = 0 by omega), if_neg (show ¬ i = 1 by omega), if_neg (show ¬ i = 2 by omega),
          if_neg (show ¬ i = 3 by omega), if_neg (show ¬ i = 4 by omega), if_neg (show ¬ i = 5 by omega), mul_zero]
      · simp [aug1]

theorem hi_eq (v : EReal) : hi v = -v := by unfold hi; rw [sub_eq_add_neg, zero_add]

theorem mid_eq {v : EReal} (ht : v ≠ ⊤) (hb : v ≠ ⊥) : mid v = 0 := by
  unfold mid; rw [hi_eq]
  lift v to ℝ using ⟨ht, hb⟩
  rw [← EReal.coe_neg, ← EReal.coe_sub, sub_self, EReal.coe_zero]

theorem lo_eq {v : EReal} (ht : v ≠ ⊤) (hb : v ≠ ⊥) : lo v = 0 := by
  unfold lo; rw [mid_eq ht hb, sub_zero]

section
variable (x0 : (⟨2, ![4096, 1536]⟩ : Shape).Idx → EReal) (x1 : (⟨2, ![4096, 512]⟩ : Shape).Idx → EReal) (x2 : (⟨2, ![4096, 512]⟩ : Shape).Idx → EReal)
  (x3 : (⟨4, ![4, 8, 8, 512]⟩ : Shape).Idx → EReal) (x4 : (⟨2, ![4096, 128]⟩ : Shape).Idx → EReal)
  (h3 : ∀ i, x3 i ≠ ⊤ ∧ x3 i ≠ ⊥) (h4 : ∀ i, x4 i ≠ ⊤ ∧ x4 i ≠ ⊥)

include h3 h4

/-- The exponent, of the arrays. -/
theorem A_eq (H : Fin 8) (q k : Fin 4096) : (blkAt x0 x1 x2 x3 x4 (H.val / 2) (k.val / 512)).A (H.val % 2) (k.val % 512) q.val
    = (∑ d : Fin 64, Cert.ReferenceIdeal.Val.rq x0 (ix3 H q d) * Cert.ReferenceIdeal.Val.rk x0 (ix3 H k d)) - Cert.ReferenceIdeal.Val.rf x4 (ix2 H k) - Cert.ReferenceIdeal.Val.rl x3 (ix2 H q) := by
  have eF : ar2 x4 (512 * (k.val / 512) + k.val % 512) (2 * (H.val / 2) + H.val % 2) = Cert.ReferenceIdeal.Val.rf x4 (ix2 H k) := by
    rw [Cert.ReferenceIdeal.Val.rf_at, ar2_of _ (by omega) (by omega)]
    congr 2 <;> apply Fin.ext <;> simp only [] <;> omega
  have eL : arL x3 (H.val / 2) (H.val % 2) q.val = Cert.ReferenceIdeal.Val.rl x3 (ix2 H q) := by
    rw [Cert.ReferenceIdeal.Val.rl_at, arL, dif_pos ⟨by omega, by omega, by omega⟩]
  unfold Blk.A blkAt mkBlk
  dsimp only
  rw [sum_aug _ (by omega) (fun l => ar2 x0 (512 * (k.val / 512) + k.val % 512) (512 + 128 * (H.val / 2) + l)) (fun l => ar2 x0 q.val (128 * (H.val / 2) + l)), eF, eL]
  have nF : Cert.ReferenceIdeal.Val.rf x4 (ix2 H k) ≠ ⊤ ∧ Cert.ReferenceIdeal.Val.rf x4 (ix2 H k) ≠ ⊥ := by
    rw [Cert.ReferenceIdeal.Val.rf_at]; exact h4 _
  have nL : Cert.ReferenceIdeal.Val.rl x3 (ix2 H q) ≠ ⊤ ∧ Cert.ReferenceIdeal.Val.rl x3 (ix2 H q) ≠ ⊥ := by
    rw [Cert.ReferenceIdeal.Val.rl_at]; exact h3 _
  rw [mid_eq nF.1 nF.2, lo_eq nF.1 nF.2, mid_eq nL.1 nL.2, lo_eq nL.1 nL.2, hi_eq, hi_eq, add_zero, add_zero, add_zero, add_zero, sub_eq_add_neg, sub_eq_add_neg, add_assoc]
  refine congrArg (· + _) (Finset.sum_congr rfl fun d _ => ?_)
  rw [Cert.ReferenceIdeal.Val.rq_at, Cert.ReferenceIdeal.Val.rk_at, mul_comm, ar2_of _ (by omega) (by omega), ar2_of _ (by omega) (by omega)]
  congr 3 <;> apply Fin.ext <;> simp only [] <;> omega

omit h3 h4 in
theorem G_eq (H : Fin 8) (q k : Fin 4096) : (blkAt x0 x1 x2 x3 x4 (H.val / 2) (k.val / 512)).G (H.val % 2) (k.val % 512) q.val
    = (∑ d : Fin 64, Cert.ReferenceIdeal.Val.rdo x1 (ix3 H q d) * Cert.ReferenceIdeal.Val.rv x0 (ix3 H k d)) - ∑ d : Fin 64, Cert.ReferenceIdeal.Val.ro x2 (ix3 H q d) * Cert.ReferenceIdeal.Val.rdo x1 (ix3 H q d) := by
  unfold Blk.G blkAt mkBlk
  dsimp only
  refine congrArg₂ _ ?_ ?_
  · have e (l : Fin 128) : lane (H.val % 2) l.val (ar2 x0 (512 * (k.val / 512) + k.val % 512) (1024 + 128 * (H.val / 2) + l.val)) * ar2 x1 q.val (128 * (H.val / 2) + l.val)
        = lane (H.val % 2) l.val (ar2 x0 (512 * (k.val / 512) + k.val % 512) (1024 + 128 * (H.val / 2) + l.val) * ar2 x1 q.val (128 * (H.val / 2) + l.val)) := by
      unfold lane; split
      · rfl
      · rw [zero_mul]
    rw [Finset.sum_congr rfl fun l _ => e l]
    refine (sum_lane _ (by omega) (fun l => ar2 x0 (512 * (k.val / 512) + k.val % 512) (1024 + 128 * (H.val / 2) + l) * ar2 x1 q.val (128 * (H.val / 2) + l))).trans (Finset.sum_congr rfl fun d _ => ?_)
    rw [Cert.ReferenceIdeal.Val.rdo_at, Cert.ReferenceIdeal.Val.rv_at, mul_comm, ar2_of _ (by omega) (by omega), ar2_of _ (by omega) (by omega)]
    congr 3 <;> apply Fin.ext <;> simp only [] <;> omega
  · refine (sum_lane _ (by omega) (fun l => ar2 x2 q.val (128 * (H.val / 2) + l) * ar2 x1 q.val (128 * (H.val / 2) + l))).trans (Finset.sum_congr rfl fun d _ => ?_)
    rw [Cert.ReferenceIdeal.Val.rdo_at, Cert.ReferenceIdeal.Val.ro_at, ar2_of _ (by omega) (by omega), ar2_of _ (by omega) (by omega)]
    congr 3 <;> apply Fin.ext <;> simp only [] <;> omega

theorem P_eq (H : Fin 8) (q k : Fin 4096) : Cert.ReferenceIdeal.Val.rp x0 x3 x4 (ix3 H q k)
    = if k.val ≤ q.val then (blkAt x0 x1 x2 x3 x4 (H.val / 2) (k.val / 512)).P (H.val % 2) (k.val % 512) q.val else 0 := by
  rw [Cert.ReferenceIdeal.Val.rp_at]; unfold Blk.P; rw [A_eq x0 x1 x2 x3 x4 h3 h4]

theorem D_eq (H : Fin 8) (q k : Fin 4096) : Cert.ReferenceIdeal.Val.rd x0 x1 x2 x3 x4 (ix3 H q k)
    = if k.val ≤ q.val then (blkAt x0 x1 x2 x3 x4 (H.val / 2) (k.val / 512)).D (H.val % 2) (k.val % 512) q.val else 0 := by
  rw [Cert.ReferenceIdeal.Val.rd_at, P_eq x0 x1 x2 x3 x4 h3 h4]; unfold Blk.D; rw [G_eq]
  split
  · rfl
  · rw [zero_mul]

theorem dk_eq (k : Fin 4096) (c : Fin 512) :
    (∑ q : Fin 4096, if k.val ≤ q.val then (blkAt x0 x1 x2 x3 x4 (c.val / 128) (k.val / 512)).FK (k.val % 512) (c.val % 128) q else 0)
      = Cert.ReferenceIdeal.Val.rdk x0 x1 x2 x3 x4 (ix2 k c) := by
  rw [Cert.ReferenceIdeal.Val.rdk_at]
  refine Finset.sum_congr rfl fun q _ => ?_
  rw [D_eq x0 x1 x2 x3 x4 h3 h4, Cert.ReferenceIdeal.Val.rq_at]
  dsimp only
  rw [show c.val / 64 / 2 = c.val / 128 by omega]
  split
  · have eQ : (blkAt x0 x1 x2 x3 x4 (c.val / 128) (k.val / 512)).Q q (c.val % 128) = x0 (ix2 q ⟨64 * (c.val / 64) + c.val % 64, by omega⟩) := by
      refine (ar2_of _ (by omega) (by omega)).trans ?_
      congr 2; apply Fin.ext; simp only []; omega
    unfold Blk.FK
    rw [eQ, lane0, lane1]
    by_cases e : c.val % 128 < 64
    · rw [if_pos e, if_pos e, add_zero, show c.val / 64 % 2 = 0 by omega]
    · rw [if_neg e, if_neg e, zero_add, show c.val / 64 % 2 = 1 by omega]
  · rw [zero_mul]

theorem dv_eq (k : Fin 4096) (c : Fin 512) :
    (∑ q : Fin 4096, if k.val ≤ q.val then (blkAt x0 x1 x2 x3 x4 (c.val / 128) (k.val / 512)).FV (k.val % 512) (c.val % 128) q else 0)
      = Cert.ReferenceIdeal.Val.rdv x0 x1 x3 x4 (ix2 k c) := by
  rw [Cert.ReferenceIdeal.Val.rdv_at]
  refine Finset.sum_congr rfl fun q _ => ?_
  rw [P_eq x0 x1 x2 x3 x4 h3 h4, Cert.ReferenceIdeal.Val.rdo_at]
  dsimp only
  rw [show c.val / 64 / 2 = c.val / 128 by omega]
  split
  · have eQ : (blkAt x0 x1 x2 x3 x4 (c.val / 128) (k.val / 512)).DO q (c.val % 128) = x1 (ix2 q ⟨64 * (c.val / 64) + c.val % 64, by omega⟩) := by
      refine (ar2_of _ (by omega) (by omega)).trans ?_
      congr 2; apply Fin.ext; simp only []; omega
    unfold Blk.FV
    rw [eQ, lane0, lane1]
    by_cases e : c.val % 128 < 64
    · rw [if_pos e, if_pos e, add_zero, show c.val / 64 % 2 = 0 by omega]
    · rw [if_neg e, if_neg e, zero_add, show c.val / 64 % 2 = 1 by omega]
  · rw [zero_mul]

theorem fk_eq (p : Fin 4) (k : Fin 4096) (l : Fin 128) :
    -(if l.val < 2 then ∑ q : Fin 4096, (if k.val ≤ q.val then (blkAt x0 x1 x2 x3 x4 p.val (k.val / 512)).D l.val (k.val % 512) q else 0) else 0)
      = Cert.ReferenceIdeal.Val.rdf x0 x1 x2 x3 x4 (ix3 p k l) := by
  rw [Cert.ReferenceIdeal.Val.rdf_at]
  by_cases e : l.val < 2
  · rw [if_pos e, dif_pos e]
    refine congrArg Neg.neg (Finset.sum_congr rfl fun q _ => ?_)
    rw [D_eq x0 x1 x2 x3 x4 h3 h4]
    dsimp only
    rw [show (2 * p.val + l.val) / 2 = p.val by omega, show (2 * p.val + l.val) % 2 = l.val by omega]
  · rw [if_neg e, dif_neg e, neg_zero]

end

end Cert.Tie
end
-- ==== Proof.V.AlgQ.lean ====
module

public import proofs.«01_k».proof.Proof.V.Alg

@[expose] public section

set_option maxRecDepth 16384

noncomputable section

namespace Cert.Tie

open Idealize.ShloMosaic Idealize.ShloMosaic.TcCoe Cert.KernelIdeal.Val

/-- A sum over rows, a tile at a time. -/
theorem sum_tiles (F : ℕ → EReal) : ∑ j ∈ Finset.range 8, ∑ p : Fin 512, F (512 * j + p.val) = ∑ k : Fin 4096, F k.val := by
  have h : ∀ J : ℕ, ∑ j ∈ Finset.range J, ∑ p : Fin 512, F (512 * j + p.val) = ∑ k ∈ Finset.range (512 * J), F k := by
    intro J
    induction J with
    | zero => rfl
    | succ J ih => rw [Finset.sum_range_succ, ih, Nat.mul_succ, Finset.sum_range_add, Fin.sum_univ_eq_sum_range (fun n => F (512 * J + n))]
  rw [h 8, Fin.sum_univ_eq_sum_range (fun n => F n)]

section
variable (m : (ℓ : Loc Cert.KernelIdeal.nD Cert.KernelIdeal.τ Cert.KernelIdeal.sig) → Buf (Elt Ideal) ℓ) (c : Dev Cert.KernelIdeal.nD)

theorem sums_q (hp n l x : ℕ) : ∀ J : ℕ, (sums m c hp J).q n l x
    = ∑ j ∈ Finset.range J, ∑ p : Fin 512, (if 512 * j + p.val ≤ 512 * n + x then (blk m c hp j).FQ (512 * n + x) l p.val else 0)
  | 0 => rfl
  | J + 1 => by rw [Finset.sum_range_succ, ← sums_q hp n l x J]; rfl

theorem sums_f (hp n g x : ℕ) (hg : g < 2) : ∀ J : ℕ, (sums m c hp J).f n g x
    = ∑ j ∈ Finset.range J, ∑ p : Fin 512, (if 512 * j + p.val ≤ 512 * n + x then (blk m c hp j).D g p.val (512 * n + x) else 0)
  | 0 => rfl
  | J + 1 => by
    rw [Finset.sum_range_succ, ← sums_f hp n g x hg J]
    obtain rfl | rfl : g = 0 ∨ g = 1 := by omega
    · rfl
    · rfl

theorem sums_f_zero (hp n g x : ℕ) (hg : ¬ g < 2) : ∀ J : ℕ, (sums m c hp J).f n g x = 0
  | 0 => rfl
  | J + 1 => by
    refine Eq.trans ?_ (sums_f_zero hp n g x hg J)
    show (if g = 0 then _ else if g = 1 then _ else (sums m c hp J).f n g x) = _
    rw [if_neg (by omega), if_neg (by omega)]

theorem sums_k (hp y : ℕ) (hy : y < 256) : ∀ J : ℕ, (sums m c hp J).c y
    = ∑ j ∈ Finset.range J, ∑ p : Fin 512, ∑ q : Fin 4096, (if 512 * j + p.val ≤ q.val then (blk m c hp j).FK p.val (y - 128) q.val else 0)
  | 0 => rfl
  | J + 1 => by
    rw [Finset.sum_range_succ, ← sums_k hp y hy J]
    show (sums m c hp J).c y + (if y < 256 then _ else _) = _
    rw [if_pos hy]

theorem sums_v (hp y : ℕ) (hy : ¬ y < 256) : ∀ J : ℕ, (sums m c hp J).c y
    = ∑ j ∈ Finset.range J, ∑ p : Fin 512, ∑ q : Fin 4096, (if 512 * j + p.val ≤ q.val then (blk m c hp j).FV p.val (y - 256) q.val else 0)
  | 0 => rfl
  | J + 1 => by
    rw [Finset.sum_range_succ, ← sums_v hp y hy J]
    show (sums m c hp J).c y + (if y < 256 then _ else _) = _
    rw [if_neg hy]

variable (h3 : ∀ i, A3 m c i ≠ ⊤ ∧ A3 m c i ≠ ⊥) (h4 : ∀ i, A4 m c i ≠ ⊤ ∧ A4 m c i ≠ ⊥)

include h3 h4

theorem dq_eq (q : Fin 4096) (e : Fin 512) : (sums m c (e.val / 128) 8).q (q.val / 512) (e.val % 128) (q.val % 512)
    = Cert.ReferenceIdeal.Val.rdq (A0 m c) (A1 m c) (A2 m c) (A3 m c) (A4 m c) (ix2 q e) := by
  rw [sums_q, Cert.ReferenceIdeal.Val.rdq_at, Nat.div_add_mod]
  refine Eq.trans (Finset.sum_congr rfl fun j _ => Finset.sum_congr rfl fun p _ => ?_)
    ((sum_tiles fun k => if k ≤ q.val then (blk m c (e.val / 128) (k / 512)).FQ q.val (e.val % 128) (k % 512) else 0).trans (Finset.sum_congr rfl fun k _ => ?_))
  · rw [show (512 * j + p.val) / 512 = j by omega, show (512 * j + p.val) % 512 = p.val by omega]
  rw [D_eq _ _ _ _ _ h3 h4, Cert.ReferenceIdeal.Val.rk_at]
  dsimp only
  rw [show e.val / 64 / 2 = e.val / 128 by omega]
  split
  · have eK : ar2 (A0 m c) (512 * (k.val / 512) + k.val % 512) (512 + 128 * (e.val / 128) + e.val % 128) = A0 m c (ix2 k ⟨512 + (64 * (e.val / 64) + e.val % 64), by omega⟩) := by
      refine (ar2_of _ (by omega) (by omega)).trans ?_
      congr 2 <;> apply Fin.ext <;> simp only [] <;> omega
    show lane 0 (e.val % 128) (ar2 (A0 m c) (512 * (k.val / 512) + k.val % 512) (512 + 128 * (e.val / 128) + e.val % 128)) * _
      + lane 1 (e.val % 128) (ar2 (A0 m c) (512 * (k.val / 512) + k.val % 512) (512 + 128 * (e.val / 128) + e.val % 128)) * _ = _
    rw [eK, lane0, lane1]
    by_cases h : e.val % 128 < 64
    · rw [if_pos h, if_pos h, zero_mul, add_zero, show e.val / 64 % 2 = 0 by omega, mul_comm]
    · rw [if_neg h, if_neg h, zero_mul, zero_add, show e.val / 64 % 2 = 1 by omega, mul_comm]
  · rw [zero_mul]

theorem fq_eq (p : Fin 4) (n g : Fin 8) (x : Fin 512) : (sums m c p.val 8).f n.val g.val x.val
    = Cert.ReferenceIdeal.Val.rfq (A0 m c) (A1 m c) (A2 m c) (A3 m c) (A4 m c) (ix4 p n g x) := by
  rw [Cert.ReferenceIdeal.Val.rfq_at]
  by_cases hg : g.val < 2
  · rw [dif_pos hg, sums_f m c _ _ _ _ hg]
    refine Eq.trans (Finset.sum_congr rfl fun j _ => Finset.sum_congr rfl fun p' _ => ?_)
      ((sum_tiles fun k => if k ≤ 512 * n.val + x.val then (blk m c p.val (k / 512)).D g.val (k % 512) (512 * n.val + x.val) else 0).trans (Finset.sum_congr rfl fun k _ => ?_))
    · rw [show (512 * j + p'.val) / 512 = j by omega, show (512 * j + p'.val) % 512 = p'.val by omega]
    rw [D_eq _ _ _ _ _ h3 h4]
    dsimp only
    rw [show (2 * p.val + g.val) / 2 = p.val by omega, show (2 * p.val + g.val) % 2 = g.val by omega]
  · rw [dif_neg hg, sums_f_zero m c _ _ _ _ hg]

omit h3 h4 in
theorem rcol_merge (X : FVec Ideal Cert.ReferenceIdeal.S8x4096x64 .f32) (p : Fin 4) (l : Fin 128) :
    Cert.ReferenceIdeal.Val.rcol X (ix3 p 0 l) = ∑ k : Fin 4096, Cert.ReferenceIdeal.Val.merge X (ix2 k ⟨128 * p.val + l.val, by omega⟩) := by
  rw [Cert.ReferenceIdeal.Val.rcol_at]
  refine Finset.sum_congr rfl fun k _ => ?_
  rw [Cert.ReferenceIdeal.Val.merge_at]
  refine congrArg X (congrArg₂ (fun a b => ix3 a k b) (Fin.ext ?_) (Fin.ext ?_)) <;> simp only [] <;> omega

theorem cs_eq (p : Fin 4) (l : Fin 384) :
    (if l.val < 128 then ∑ n ∈ Finset.range 8, ∑ x : Fin 512, (sums m c p.val 8).q n l.val x.val else (sums m c p.val 8).c l.val)
      = Cert.ReferenceIdeal.Val.rcs (A0 m c) (A1 m c) (A2 m c) (A3 m c) (A4 m c) (ix3 p 0 l) := by
  rw [Cert.ReferenceIdeal.Val.rcs_at]
  by_cases e : l.val < 128
  · rw [if_pos e, dif_pos e, rcol_merge]
    refine Eq.trans (Finset.sum_congr rfl fun j _ => Finset.sum_congr rfl fun x _ => ?_)
      ((sum_tiles fun k => (sums m c p.val 8).q (k / 512) l.val (k % 512)).trans (Finset.sum_congr rfl fun k _ => ?_))
    · rw [show (512 * j + x.val) / 512 = j by omega, show (512 * j + x.val) % 512 = x.val by omega]
    have h := dq_eq m c h3 h4 k ⟨128 * p.val + l.val, by omega⟩
    dsimp only at h
    rw [show (128 * p.val + l.val) / 128 = p.val by omega, show (128 * p.val + l.val) % 128 = l.val by omega] at h
    exact h
  rw [if_neg e, dif_neg e]
  by_cases e' : l.val < 256
  · rw [dif_pos e', rcol_merge, sums_k m c _ _ e']
    refine Eq.trans (Finset.sum_congr rfl fun j _ => Finset.sum_congr rfl fun x _ => ?_)
      ((sum_tiles fun k => ∑ q : Fin 4096, if k ≤ q.val then (blk m c p.val (k / 512)).FK (k % 512) (l.val - 128) q.val else 0).trans (Finset.sum_congr rfl fun k _ => ?_))
    · rw [show (512 * j + x.val) / 512 = j by omega, show (512 * j + x.val) % 512 = x.val by omega]
    have h := dk_eq (A0 m c) (A1 m c) (A2 m c) (A3 m c) (A4 m c) h3 h4 k ⟨128 * p.val + (l.val - 128), by omega⟩
    dsimp only at h
    rw [show (128 * p.val + (l.val - 128)) / 128 = p.val by omega, show (128 * p.val + (l.val - 128)) % 128 = l.val - 128 by omega] at h
    exact h
  · rw [dif_neg e', rcol_merge, sums_v m c _ _ e']
    refine Eq.trans (Finset.sum_congr rfl fun j _ => Finset.sum_congr rfl fun x _ => ?_)
      ((sum_tiles fun k => ∑ q : Fin 4096, if k ≤ q.val then (blk m c p.val (k / 512)).FV (k % 512) (l.val - 256) q.val else 0).trans (Finset.sum_congr rfl fun k _ => ?_))
    · rw [show (512 * j + x.val) / 512 = j by omega, show (512 * j + x.val) % 512 = x.val by omega]
    have h := dv_eq (A0 m c) (A1 m c) (A2 m c) (A3 m c) (A4 m c) h3 h4 k ⟨128 * p.val + (l.val - 256), by omega⟩
    dsimp only at h
    rw [show (128 * p.val + (l.val - 256)) / 128 = p.val by omega, show (128 * p.val + (l.val - 256)) % 128 = l.val - 256 by omega] at h
    exact h
end

end Cert.Tie
end
-- ==== Proof.V.Fin.lean ====
module

public import proofs.«01_k».proof.Defs
public import proofs.«01_k».proof.Proof.V.Results
public import Idealize.ShloMosaic.Lib.ReduceAll

@[expose] public section

noncomputable section

namespace Cert.Pre_finite

open Idealize.ShloMosaic Idealize.ShloMosaic.TcCoe

theorem facts : Facts where
  bcast_S_S4x8x8x512 := by decide
  reducesTo_S4x8x8x512_S_d0_1_2_3 := by decide
  h_S_ := by decide
  bcast_S_S4096x128 := by decide
  reducesTo_S4096x128_S_d0_1 := by decide

/-- A value below infinity in size is finite. -/
theorem fin_of (x : EReal) (h : Ideal.cmp .olt (max x (-x)) ⊤ = 1#1) : x ≠ ⊤ ∧ x ≠ ⊥ := by
  have hl : max x (-x) < ⊤ := by
    by_contra hn
    simp [Ideal.cmp, hn] at h
  constructor
  · rintro rfl; simp at hl
  · rintro rfl; simp at hl

theorem inf_bits : Ideal.ofBits .f32 0x7F800000#32 = ⊤ := by simp [Ideal.ofBits, Ideal.ieee]

theorem finite_of [Facts] (x0 : FVec Ideal S4096x1536 .bf16) (x1 : FVec Ideal S4096x512 .bf16) (x2 : FVec Ideal S4096x512 .f32) (x3 : FVec Ideal S4x8x8x512 .f32) (x4 : FVec Ideal S4096x128 .f32)
    (h : fn (F := Ideal) x0 x1 x2 x3 x4 = fun _ => 1#1) : (∀ i, x3 i ≠ ⊤ ∧ x3 i ≠ ⊥) ∧ (∀ i, x4 i ≠ ⊤ ∧ x4 i ≠ ⊥) := by
  haveI : Subsingleton S_.Idx := ⟨fun a b => funext fun d => d.elim0⟩
  have e := congrFun h (fun d => d.elim0)
  dsimp only [fn] at e
  obtain ⟨e3, e4⟩ := IntOp.andi_eq_one.1 e
  refine ⟨fun i => fin_of _ ?_, fun i => fin_of _ ?_⟩
  · rw [← inf_bits]; exact Host.reduce_andi_all _ _ _ _ _ e3 i
  · rw [← inf_bits]; exact Host.reduce_andi_all _ _ _ _ _ e4 i

end Cert.Pre_finite
end
-- ==== Proof.V2.Body.lean ====
module

public import Idealize.ShloMosaic.Lib.Pointwise
public import Idealize.ShloMosaic.Lib.WritesUnit
public import Idealize.ShloMosaic.Lib.Pipeline.ReadBack
public import Idealize.ShloMosaic.Lib.Pipeline.ValueKit
public import proofs.«01_k».proof.Proof.Gen.Kernel2Ideal.Frame

@[expose] public section

set_option maxRecDepth 16384

noncomputable section

namespace Cert.Kernel2Ideal.Val

open Cert.Kernel2Ideal Cert.Kernel2Ideal.Gen
open Idealize.ShloMosaic Idealize.ShloMosaic.TcCoe Idealize.ShloMosaic.Tactic Idealize.SL.Sem
open Idealize.ShloMosaic.Pipeline (Dat)

section
variable (x0 x1 x2 : Vec Ideal S512x512 .bf16) (x3 : Vec Ideal S512x128 .bf16) (x4 : Vec Ideal S512x512 .bf16) (x5 : Vec Ideal S512x1024 .bf16)
  (x6 : Vec Ideal S3200x1024 .bf16) (x7 x8 : Vec Ideal S512x1024 .f32) (x9 : Vec Ideal S1x1024 .f32) (xo : Vec Ideal S8x1024 .f32)

/-- The weights of a block, their row a number. -/
def Wb (j : ℕ) (c : Fin 1024) : EReal := if h : j < 3200 then x6 (ix2 ⟨j, h⟩ c) else 0

/-- The gradient at the gated input, of a block of rows. -/
def db (r : Fin 512) (c : Fin 1024) : EReal :=
  (∑ j : Fin 512, x0 (ix2 r j) * Wb x6 j.val c) + (∑ j : Fin 512, x1 (ix2 r j) * Wb x6 (512 + j.val) c) + (∑ j : Fin 512, x2 (ix2 r j) * Wb x6 (1024 + j.val) c)
    + (∑ j : Fin 128, x3 (ix2 r j) * Wb x6 (1536 + j.val) c) + (∑ j : Fin 512, x4 (ix2 r j) * Wb x6 (1664 + j.val) c) + (∑ j : Fin 1024, x5 (ix2 r j) * Wb x6 (2176 + j.val) c)

theorem pay2_at (v23 : FVec Ideal S512x1024 .f32) (v24 : Vec Ideal S512x1024 .bf16) (v25 : Vec Ideal S1024x1024 .bf16) (v29 : Vec Ideal S512x1024 .f32) (v32 : Vec Ideal S1x1024 .f32) (r : Fin 512) (l : Fin 1024) :
    k0_pay2 v23 v24 v25 v29 v32 (ix2 r l) = Ideal.ofBits .f32 0x3F9837F0#32 * v29 (ix2 r l) + k0_pay1 v23 v24 v25 (ix2 r l) * (Ideal.ofBits .f32 0x3F800000#32 + v32 (ix2 0 l)) := by
  pointwise [k0_pay2]

theorem pay3_at (v23 : FVec Ideal S512x1024 .f32) (v24 : Vec Ideal S512x1024 .bf16) (v25 : Vec Ideal S1024x1024 .bf16) (v39 : Vec Ideal S1x1024 .f32) (l : Fin 1024) :
    k0_pay3 v23 v24 v25 v39 (ix2 0 l) = v39 (ix2 0 l) + ∑ p : Fin 512, k0_pay1 v23 v24 v25 (ix2 p l) := by
  pointwise [k0_pay3]

theorem pay4_at (v23 : FVec Ideal S512x1024 .f32) (v24 : Vec Ideal S512x1024 .bf16) (v25 : Vec Ideal S1024x1024 .bf16) (v28 : Vec Ideal S512x1024 .f32) (v45 : Vec Ideal S1x1024 .f32) (l : Fin 1024) :
    k0_pay4 v23 v24 v25 v28 v45 (ix2 0 l) = v45 (ix2 0 l) + ∑ p : Fin 512, k0_pay1 v23 v24 v25 (ix2 p l) * v28 (ix2 p l) := by
  pointwise [k0_pay4]

/-- The six products, as the body adds them. -/
def dv : FVec Ideal S512x1024 .f32 :=
  k0_pay1 (k0_pay6 x0 (View.ld x6 (Rect.unit ![0, 0] ![512, 1024] inb_S3200x1024_S512x1024_0_0)) x1
        (View.ld x6 (Rect.unit ![512, 0] ![512, 1024] inb_S3200x1024_S512x1024_512_0)) x2
        (View.ld x6 (Rect.unit ![1024, 0] ![512, 1024] inb_S3200x1024_S512x1024_1024_0)) x3
        (View.ld x6 (Rect.unit ![1536, 0] ![128, 1024] inb_S3200x1024_S128x1024_1536_0)) x4
        (View.ld x6 (Rect.unit ![1664, 0] ![512, 1024] inb_S3200x1024_S512x1024_1664_0)))
      x5 (View.ld x6 (Rect.unit ![2176, 0] ![1024, 1024] inb_S3200x1024_S1024x1024_2176_0))

theorem dv_at (r : Fin 512) (l : Fin 1024) : dv x0 x1 x2 x3 x4 x5 x6 (ix2 r l) = db x0 x1 x2 x3 x4 x5 x6 r l := by
  pointwise [dv, k0_pay1, k0_pay6]
  unfold db
  refine congrArg₂ _ (congrArg₂ _ (congrArg₂ _ (congrArg₂ _ (congrArg₂ _ ?_ ?_) ?_) ?_) ?_) ?_ <;> refine Finset.sum_congr rfl fun j _ => congrArg₂ _ rfl ?_ <;> (unfold Wb; rw [dif_pos])

section
variable {sig' : RefSig} {κ : Kind} {sp : Space} (v : View sig' κ sp S8x1024 .f32) (f : v.ty.Contents (Elt Ideal))
  (w0 w1 : Vec Ideal S1x1024 .f32) (L : List (View.Piece (Elt Ideal) S8x1024 .f32)) (l : Fin 1024)

theorem row1_of : v.read (Elt Ideal) (v.writes (Elt Ideal) f (⟨Rect.unit ![1, 0] ![1, 1024] inb_S8x1024_S1x1024_1_0, w1⟩ :: L)) (ix2 1 l) = w1 (ix2 0 l) :=
  View.read_writes_cons_unit_of_mem v f inb_S8x1024_S1x1024_1_0 w1 L (ix2 1 l) (ix2 0 l) rfl (fun a => by fin_cases a <;> simp)

theorem row1_ne (r : Fin 8) (h : r.val ≠ 1) : v.read (Elt Ideal) (v.writes (Elt Ideal) f (⟨Rect.unit ![1, 0] ![1, 1024] inb_S8x1024_S1x1024_1_0, w1⟩ :: L)) (ix2 r l) = v.read (Elt Ideal) (v.writes (Elt Ideal) f L) (ix2 r l) :=
  View.read_writes_cons_unit_of_not_mem v f inb_S8x1024_S1x1024_1_0 w1 L (ix2 r l) rfl 0 (by show r.val < 1 ∨ 1 + 1 ≤ r.val; omega)

theorem row0_of : v.read (Elt Ideal) (v.writes (Elt Ideal) f (⟨Rect.unit ![0, 0] ![1, 1024] inb_S8x1024_S1x1024_0_0, w0⟩ :: L)) (ix2 0 l) = w0 (ix2 0 l) :=
  View.read_writes_cons_unit_of_mem v f inb_S8x1024_S1x1024_0_0 w0 L (ix2 0 l) (ix2 0 l) rfl (fun a => by fin_cases a <;> simp)

theorem row0_ne (r : Fin 8) (h : r.val ≠ 0) : v.read (Elt Ideal) (v.writes (Elt Ideal) f (⟨Rect.unit ![0, 0] ![1, 1024] inb_S8x1024_S1x1024_0_0, w0⟩ :: L)) (ix2 r l) = v.read (Elt Ideal) (v.writes (Elt Ideal) f L) (ix2 r l) :=
  View.read_writes_cons_unit_of_not_mem v f inb_S8x1024_S1x1024_0_0 w0 L (ix2 r l) rfl 0 (by show r.val < 0 ∨ 0 + 1 ≤ r.val; omega)

theorem full_of (w : Vec Ideal S8x1024 .f32) (r : Fin 8) : v.read (Elt Ideal) (v.writes (Elt Ideal) f (⟨Rect.unit ![0, 0] ![8, 1024] inb_S8x1024_S8x1024_0_0, w⟩ :: L)) (ix2 r l) = w (ix2 r l) :=
  View.read_writes_cons_unit_of_mem v f inb_S8x1024_S8x1024_0_0 w L (ix2 r l) (ix2 r l) rfl (fun a => by fin_cases a <;> simp)

theorem cov1_at : v.readCov L (Rect.unit (s := S8x1024) ![1, 0] ![1, 1024] inb_S8x1024_S1x1024_1_0).toLoadRect (ix2 0 l : S1x1024.Idx) = v.read (Elt Ideal) (v.writes (Elt Ideal) v.junk L) (ix2 1 l) := by
  refine congrArg (v.read (Elt Ideal) _) ?_
  ext a
  fin_cases a
  · rfl
  · exact (Nat.zero_add _).trans (Nat.one_mul _)

theorem cov0_at : v.readCov L (Rect.unit (s := S8x1024) ![0, 0] ![1, 1024] inb_S8x1024_S1x1024_0_0).toLoadRect (ix2 0 l : S1x1024.Idx) = v.read (Elt Ideal) (v.writes (Elt Ideal) v.junk L) (ix2 0 l) := by
  refine congrArg (v.read (Elt Ideal) _) ?_
  ext a
  fin_cases a
  · rfl
  · exact (Nat.zero_add _).trans (Nat.one_mul _)

theorem pay5_at (r : Fin 8) : (k0_pay5 : FVec Ideal S8x1024 .f32) (ix2 r l) = 0 := by
  pointwise [k0_pay5]
end

theorem d3_at (v39 : Vec Ideal S1x1024 .f32) (a : EReal) (l : Fin 1024) (h : v39 (ix2 0 l) = a) :
    k0_pay3 (k0_pay6 x0 (View.ld x6 (Rect.unit ![0, 0] ![512, 1024] inb_S3200x1024_S512x1024_0_0)) x1
        (View.ld x6 (Rect.unit ![512, 0] ![512, 1024] inb_S3200x1024_S512x1024_512_0)) x2
        (View.ld x6 (Rect.unit ![1024, 0] ![512, 1024] inb_S3200x1024_S512x1024_1024_0)) x3
        (View.ld x6 (Rect.unit ![1536, 0] ![128, 1024] inb_S3200x1024_S128x1024_1536_0)) x4
        (View.ld x6 (Rect.unit ![1664, 0] ![512, 1024] inb_S3200x1024_S512x1024_1664_0)))
      x5 (View.ld x6 (Rect.unit ![2176, 0] ![1024, 1024] inb_S3200x1024_S1024x1024_2176_0)) v39 (ix2 0 l) = a + ∑ p : Fin 512, db x0 x1 x2 x3 x4 x5 x6 p l :=
  (pay3_at _ _ _ _ l).trans (congrArg₂ _ h (Finset.sum_congr rfl fun p _ => dv_at x0 x1 x2 x3 x4 x5 x6 p l))

theorem d4_at (v45 : Vec Ideal S1x1024 .f32) (a : EReal) (l : Fin 1024) (h : v45 (ix2 0 l) = a) :
    k0_pay4 (k0_pay6 x0 (View.ld x6 (Rect.unit ![0, 0] ![512, 1024] inb_S3200x1024_S512x1024_0_0)) x1
        (View.ld x6 (Rect.unit ![512, 0] ![512, 1024] inb_S3200x1024_S512x1024_512_0)) x2
        (View.ld x6 (Rect.unit ![1024, 0] ![512, 1024] inb_S3200x1024_S512x1024_1024_0)) x3
        (View.ld x6 (Rect.unit ![1536, 0] ![128, 1024] inb_S3200x1024_S128x1024_1536_0)) x4
        (View.ld x6 (Rect.unit ![1664, 0] ![512, 1024] inb_S3200x1024_S512x1024_1664_0)))
      x5 (View.ld x6 (Rect.unit ![2176, 0] ![1024, 1024] inb_S3200x1024_S1024x1024_2176_0)) x8 v45 (ix2 0 l) = a + ∑ p : Fin 512, db x0 x1 x2 x3 x4 x5 x6 p l * x8 (ix2 p l) :=
  (pay4_at _ _ _ _ _ l).trans (congrArg₂ _ h (Finset.sum_congr rfl fun p _ => congrArg (fun b => b * x8 (ix2 p l)) (dv_at x0 x1 x2 x3 x4 x5 x6 p l)))

theorem A_10 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x128 .bf16) (harg4 : arg4.IsWhole) (arg5 : Memref sig .tc .vmem S512x512 .bf16) (harg5 : arg5.IsWhole) (arg6 : Memref sig .tc .vmem S512x1024 .bf16) (harg6 : arg6.IsWhole) (arg7 : Memref sig .tc .vmem S3200x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S8x1024 .f32) (harg12 : arg12.IsWhole) (hc0 : cond0_0 i) (r : Fin 512) (l : Fin 1024) :
    out0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 (ix2 r l)
      = Ideal.ofBits .f32 0x3F9837F0#32 * x7 (ix2 r l) + db x0 x1 x2 x3 x4 x5 x6 r l * (Ideal.ofBits .f32 0x3F800000#32 + x9 (ix2 0 l)) := by
  frame_out
  exact (pay2_at _ _ _ _ _ r l).trans (congrArg (fun a => Ideal.ofBits .f32 0x3F9837F0#32 * x7 (ix2 r l) + a * (Ideal.ofBits .f32 0x3F800000#32 + x9 (ix2 0 l))) (dv_at x0 x1 x2 x3 x4 x5 x6 r l))

theorem B_10 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x128 .bf16) (harg4 : arg4.IsWhole) (arg5 : Memref sig .tc .vmem S512x512 .bf16) (harg5 : arg5.IsWhole) (arg6 : Memref sig .tc .vmem S512x1024 .bf16) (harg6 : arg6.IsWhole) (arg7 : Memref sig .tc .vmem S3200x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S8x1024 .f32) (harg12 : arg12.IsWhole) (hc0 : ¬cond0_0 i) (r : Fin 512) (l : Fin 1024) :
    out0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 xo (ix2 r l)
      = Ideal.ofBits .f32 0x3F9837F0#32 * x7 (ix2 r l) + db x0 x1 x2 x3 x4 x5 x6 r l * (Ideal.ofBits .f32 0x3F800000#32 + x9 (ix2 0 l)) := by
  frame_out
  exact (pay2_at _ _ _ _ _ r l).trans (congrArg (fun a => Ideal.ofBits .f32 0x3F9837F0#32 * x7 (ix2 r l) + a * (Ideal.ofBits .f32 0x3F800000#32 + x9 (ix2 0 l))) (dv_at x0 x1 x2 x3 x4 x5 x6 r l))

theorem B_11 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x128 .bf16) (harg4 : arg4.IsWhole) (arg5 : Memref sig .tc .vmem S512x512 .bf16) (harg5 : arg5.IsWhole) (arg6 : Memref sig .tc .vmem S512x1024 .bf16) (harg6 : arg6.IsWhole) (arg7 : Memref sig .tc .vmem S3200x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S8x1024 .f32) (harg12 : arg12.IsWhole) (hc0 : ¬cond0_0 i) (r : Fin 8) (l : Fin 1024) :
    out0_B_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 xo (ix2 r l)
      = xo (ix2 r l) + (if r.val = 0 then ∑ p : Fin 512, db x0 x1 x2 x3 x4 x5 x6 p l else if r.val = 1 then ∑ p : Fin 512, db x0 x1 x2 x3 x4 x5 x6 p l * x8 (ix2 p l) else 0) := by
  frame_out
  by_cases h1 : r.val = 1
  · obtain rfl : r = 1 := Fin.ext h1
    rw [row1_of, if_neg (by decide), if_pos h1]
    exact d4_at x0 x1 x2 x3 x4 x5 x6 x8 _ _ l (by pointwise [])
  rw [row1_ne _ _ _ _ _ _ h1]
  by_cases h0 : r.val = 0
  · obtain rfl : r = 0 := Fin.ext h0
    rw [row0_of, if_pos h0]
    exact d3_at x0 x1 x2 x3 x4 x5 x6 _ _ l (by pointwise [])
  rw [row0_ne _ _ _ _ _ _ h0, if_neg h0, if_neg h1, View.writes_nil, harg12.read_unread, add_zero]

theorem A_11 (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x128 .bf16) (harg4 : arg4.IsWhole) (arg5 : Memref sig .tc .vmem S512x512 .bf16) (harg5 : arg5.IsWhole) (arg6 : Memref sig .tc .vmem S512x1024 .bf16) (harg6 : arg6.IsWhole) (arg7 : Memref sig .tc .vmem S3200x1024 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S8x1024 .f32) (harg12 : arg12.IsWhole) (hc0 : cond0_0 i) (r : Fin 8) (l : Fin 1024) :
    out0_A_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 (ix2 r l)
      = (if r.val = 0 then ∑ p : Fin 512, db x0 x1 x2 x3 x4 x5 x6 p l else if r.val = 1 then ∑ p : Fin 512, db x0 x1 x2 x3 x4 x5 x6 p l * x8 (ix2 p l) else 0) := by
  frame_out
  rw [← View.read_writes_junk_eq_canon arg12.view]
  by_cases h1 : r.val = 1
  · obtain rfl : r = 1 := Fin.ext h1
    rw [row1_of, if_neg (by decide), if_pos h1]
    refine (d4_at x0 x1 x2 x3 x4 x5 x6 x8 _ 0 l ?_).trans (zero_add _)
    rw [cov1_at, row0_ne _ _ _ _ _ _ (by decide), full_of, pay5_at]
  rw [row1_ne _ _ _ _ _ _ h1]
  by_cases h0 : r.val = 0
  · obtain rfl : r = 0 := Fin.ext h0
    rw [row0_of, if_pos h0]
    refine (d3_at x0 x1 x2 x3 x4 x5 x6 _ 0 l ?_).trans (zero_add _)
    rw [cov0_at, full_of, pay5_at]
  rw [row0_ne _ _ _ _ _ _ h0, if_neg h0, if_neg h1, full_of, pay5_at]
end

end Cert.Kernel2Ideal.Val
-- ==== Proof.V2.Ref.lean ====
module

public import Idealize.ShloMosaic.Lib.Pointwise
public import proofs.«01_k».proof.Proof.Gen.Reference2Ideal.Run

@[expose] public section

set_option maxRecDepth 16384

noncomputable section

namespace Cert.Reference2Ideal.Val

open Cert.Reference2Ideal Cert.Reference2Ideal.Gen
open Idealize.ShloMosaic Idealize.ShloMosaic.TcCoe Idealize.SL.Sem

variable (x0 x1 x2 : FVec Ideal S4096x512 .bf16) (x3 : FVec Ideal S4096x128 .bf16) (x4 : FVec Ideal S4096x512 .bf16) (x5 : FVec Ideal S4096x1024 .bf16)
  (x6 : FVec Ideal S3200x1024 .bf16) (x7 x8 : FVec Ideal S4096x1024 .f32) (x9 : FVec Ideal S1x1024 .f32)

/-- The gradient at the projection's columns, the six pieces side by side. -/
def rP : FVec Ideal S4096x3200 .f32 := concatenate S4096x3200 1 [⟨S4096x512, ((extf .f32 x0 bitsLt_bf16_f32) : (⟨S4096x512, .f32⟩ : BufTy).Contents (Elt Ideal))⟩, ⟨S4096x512, ((extf .f32 x1 bitsLt_bf16_f32) : (⟨S4096x512, .f32⟩ : BufTy).Contents (Elt Ideal))⟩, ⟨S4096x512, ((extf .f32 x2 bitsLt_bf16_f32) : (⟨S4096x512, .f32⟩ : BufTy).Contents (Elt Ideal))⟩, ⟨S4096x128, ((extf .f32 x3 bitsLt_bf16_f32) : (⟨S4096x128, .f32⟩ : BufTy).Contents (Elt Ideal))⟩, ⟨S4096x512, ((extf .f32 x4 bitsLt_bf16_f32) : (⟨S4096x512, .f32⟩ : BufTy).Contents (Elt Ideal))⟩, ⟨S4096x1024, ((extf .f32 x5 bitsLt_bf16_f32) : (⟨S4096x1024, .f32⟩ : BufTy).Contents (Elt Ideal))⟩] concatenates_S4096x512_S4096x512_S4096x512_S4096x128_S4096x512_S4096x1024_S4096x3200_d1

/-- The same, its column a number. -/
def Pc (i : Fin 4096) (j : ℕ) : EReal :=
  if h : j < 512 then x0 (ix2 i ⟨j, h⟩) else if h : j < 1024 then x1 (ix2 i ⟨j - 512, by omega⟩) else if h : j < 1536 then x2 (ix2 i ⟨j - 1024, by omega⟩)
  else if h : j < 1664 then x3 (ix2 i ⟨j - 1536, by omega⟩) else if h : j < 2176 then x4 (ix2 i ⟨j - 1664, by omega⟩) else if h : j < 3200 then x5 (ix2 i ⟨j - 2176, by omega⟩) else 0

theorem rP_at (i : Fin 4096) (j : Fin 3200) : rP x0 x1 x2 x3 x4 x5 (ix2 i j) = Pc x0 x1 x2 x3 x4 x5 i j.val := by
  pointwise [rP]
  unfold Pc
  by_cases h0 : j.val < 512
  · rw [dif_pos h0, dif_pos h0]
  rw [dif_neg h0, dif_neg h0]
  by_cases h1 : j.val < 1024
  · rw [dif_pos h1, dif_pos (by omega)]
  rw [dif_neg h1, dif_neg (by omega)]
  by_cases h2 : j.val < 1536
  · rw [dif_pos h2, dif_pos (by omega)]; exact congrArg (fun a => x2 (ix2 i a)) (Fin.ext (by show j.val - 512 - 512 = j.val - 1024; omega))
  rw [dif_neg h2, dif_neg (by omega)]
  by_cases h3 : j.val < 1664
  · rw [dif_pos h3, dif_pos (by omega)]; exact congrArg (fun a => x3 (ix2 i a)) (Fin.ext (by show j.val - 512 - 512 - 512 = j.val - 1536; omega))
  rw [dif_neg h3, dif_neg (by omega)]
  by_cases h4 : j.val < 2176
  · rw [dif_pos h4, dif_pos (by omega)]; exact congrArg (fun a => x4 (ix2 i a)) (Fin.ext (by show j.val - 512 - 512 - 512 - 128 = j.val - 1664; omega))
  rw [dif_neg h4, dif_neg (by omega), dif_pos j.isLt]
  exact congrArg (fun a => x5 (ix2 i a)) (Fin.ext (by show j.val - 512 - 512 - 512 - 128 - 512 = j.val - 2176; omega))

/-- The weights, their row a number. -/
def Wc (j : ℕ) (c : Fin 1024) : EReal := if h : j < 3200 then x6 (ix2 ⟨j, h⟩ c) else 0

theorem Wc_of {j : ℕ} (h : j < 3200) (c : Fin 1024) : Wc x6 j c = x6 (ix2 ⟨j, h⟩ c) := dif_pos h

/-- The gradient at the gated input. -/
def DU (i : Fin 4096) (c : Fin 1024) : EReal :=
  (∑ j : Fin 512, x0 (ix2 i j) * Wc x6 j.val c) + (∑ j : Fin 512, x1 (ix2 i j) * Wc x6 (512 + j.val) c) + (∑ j : Fin 512, x2 (ix2 i j) * Wc x6 (1024 + j.val) c)
    + (∑ j : Fin 128, x3 (ix2 i j) * Wc x6 (1536 + j.val) c) + (∑ j : Fin 512, x4 (ix2 i j) * Wc x6 (1664 + j.val) c) + (∑ j : Fin 1024, x5 (ix2 i j) * Wc x6 (2176 + j.val) c)

theorem split_at (F : ℕ → EReal) : ∑ j : Fin 3200, F j.val = (∑ j : Fin 512, F j.val) + (∑ j : Fin 512, F (512 + j.val)) + (∑ j : Fin 512, F (1024 + j.val))
    + (∑ j : Fin 128, F (1536 + j.val)) + (∑ j : Fin 512, F (1664 + j.val)) + (∑ j : Fin 1024, F (2176 + j.val)) := by
  rw [Fin.sum_univ_eq_sum_range F 3200, Fin.sum_univ_eq_sum_range F 512, Fin.sum_univ_eq_sum_range (fun j => F (512 + j)) 512, Fin.sum_univ_eq_sum_range (fun j => F (1024 + j)) 512,
    Fin.sum_univ_eq_sum_range (fun j => F (1536 + j)) 128, Fin.sum_univ_eq_sum_range (fun j => F (1664 + j)) 512, Fin.sum_univ_eq_sum_range (fun j => F (2176 + j)) 1024]
  rw [← Finset.sum_range_add, ← Finset.sum_range_add, ← Finset.sum_range_add, ← Finset.sum_range_add, ← Finset.sum_range_add]

def rdu : FVec Ideal S4096x1024 .f32 := Host.dotGeneral dot_S4096x3200_S1024x3200_S4096x1024_1_1_0_0_n_n none (rP x0 x1 x2 x3 x4 x5) (transpose S1024x3200 [1, 0] (extf .f32 x6 bitsLt_bf16_f32) transposes_S3200x1024_S1024x3200_1_0)

theorem rdu_at (i : Fin 4096) (c : Fin 1024) : rdu x0 x1 x2 x3 x4 x5 x6 (ix2 i c) = DU x0 x1 x2 x3 x4 x5 x6 i c := by
  have h : rdu x0 x1 x2 x3 x4 x5 x6 (ix2 i c) = ∑ j : Fin 3200, rP x0 x1 x2 x3 x4 x5 (ix2 i j) * x6 (ix2 j c) := by pointwise [rdu]
  rw [h]
  refine (Finset.sum_congr rfl fun j _ => ?_).trans ((split_at fun j => Pc x0 x1 x2 x3 x4 x5 i j * Wc x6 j c).trans ?_)
  · rw [rP_at, Wc_of x6 j.isLt]
  unfold DU
  refine congrArg₂ _ (congrArg₂ _ (congrArg₂ _ (congrArg₂ _ (congrArg₂ _ ?_ ?_) ?_) ?_) ?_) ?_ <;> refine Finset.sum_congr rfl fun j _ => congrArg₂ _ ?_ rfl <;> unfold Pc
  · rw [dif_pos j.isLt]
  · rw [dif_neg (by omega), dif_pos (by omega)]; exact congrArg (fun a => x1 (ix2 i a)) (Fin.ext (Nat.add_sub_cancel_left ..))
  · rw [dif_neg (by omega), dif_neg (by omega), dif_pos (by omega)]; exact congrArg (fun a => x2 (ix2 i a)) (Fin.ext (Nat.add_sub_cancel_left ..))
  · rw [dif_neg (by omega), dif_neg (by omega), dif_neg (by omega), dif_pos (by omega)]; exact congrArg (fun a => x3 (ix2 i a)) (Fin.ext (Nat.add_sub_cancel_left ..))
  · rw [dif_neg (by omega), dif_neg (by omega), dif_neg (by omega), dif_neg (by omega), dif_pos (by omega)]; exact congrArg (fun a => x4 (ix2 i a)) (Fin.ext (Nat.add_sub_cancel_left ..))
  · rw [dif_neg (by omega), dif_neg (by omega), dif_neg (by omega), dif_neg (by omega), dif_neg (by omega), dif_pos (by omega)]; exact congrArg (fun a => x5 (ix2 i a)) (Fin.ext (Nat.add_sub_cancel_left ..))

/-- The gradient at the input. -/
def rgx : FVec Ideal S4096x1024 .f32 := addf (mulf (broadcastInDim S4096x1024 ![] bcast_S_S4096x1024 (constant S_ .f32 0x3F9837F0#32)) x7) (mulf (rdu x0 x1 x2 x3 x4 x5 x6) (broadcastInDim S4096x1024 ![0, 1] bcast_S1x1024_S4096x1024_0_1 (addf (broadcastInDim S1x1024 ![] bcast_S_S1x1024 (constant S_ .f32 0x3F800000#32)) x9)))
theorem rgx_at (i : Fin 4096) (c : Fin 1024) : rgx x0 x1 x2 x3 x4 x5 x6 x7 x9 (ix2 i c)
    = Ideal.ofBits .f32 0x3F9837F0#32 * x7 (ix2 i c) + DU x0 x1 x2 x3 x4 x5 x6 i c * (Ideal.ofBits .f32 0x3F800000#32 + x9 (ix2 0 c)) := by
  pointwise [rgx]
  rw [rdu_at]

/-- The gradients at the shift and the scale, rows 0 and 1 of eight. -/
def rvec : FVec Ideal S8x1024 .f32 := concatenate S8x1024 0 [⟨S1x1024, ((shapeCast _ (Host.reduceAdd (rdu x0 x1 x2 x3 x4 x5 x6) (constant S_ .f32 0x00000000#32) reducesTo_S4096x1024_S1024_d0 h_S_) shapeCasts_S1024_S1x1024) : (⟨S1x1024, .f32⟩ : BufTy).Contents (Elt Ideal))⟩, ⟨S1x1024, ((shapeCast _ (Host.reduceAdd (mulf x8 (rdu x0 x1 x2 x3 x4 x5 x6)) (constant S_ .f32 0x00000000#32) reducesTo_S4096x1024_S1024_d0 h_S_) shapeCasts_S1024_S1x1024) : (⟨S1x1024, .f32⟩ : BufTy).Contents (Elt Ideal))⟩, ⟨S6x1024, ((broadcastInDim S6x1024 ![] bcast_S_S6x1024 (constant (F := Ideal) S_ .f32 0x00000000#32)) : (⟨S6x1024, .f32⟩ : BufTy).Contents (Elt Ideal))⟩] concatenates_S1x1024_S1x1024_S6x1024_S8x1024_d0
theorem rvec_at (r : Fin 8) (c : Fin 1024) : rvec x0 x1 x2 x3 x4 x5 x6 x8 (ix2 r c)
    = if r.val = 0 then ∑ i : Fin 4096, DU x0 x1 x2 x3 x4 x5 x6 i c else if r.val = 1 then ∑ i : Fin 4096, DU x0 x1 x2 x3 x4 x5 x6 i c * x8 (ix2 i c) else 0 := by
  pointwise [rvec]
  simp only [rdu_at]
  by_cases h0 : r.val = 0
  · rw [dif_pos (by omega), if_pos h0]
  rw [dif_neg (by omega), if_neg h0]
  by_cases h1 : r.val = 1
  · rw [dif_pos (by omega), if_pos h1]; exact Finset.sum_congr rfl fun i _ => mul_comm _ _
  · rw [dif_neg (by omega), if_neg h1]

end Cert.Reference2Ideal.Val
-- ==== Proof.V2.Results.lean ====
module

public import Idealize.ShloMosaic.Lib.Pointwise
public import Idealize.ShloMosaic.Lib.Pipeline.ValueKit
public import proofs.«01_k».proof.Proof.V2.Body
public import proofs.«01_k».proof.Proof.V2.Ref

@[expose] public section

set_option maxRecDepth 16384

noncomputable section

namespace Cert.Kernel2Ideal.Val

open Cert.Kernel2Ideal Cert.Kernel2Ideal.Gen
open Cert.Reference2Ideal.Val (DU Wc rgx rgx_at rvec rvec_at)
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

abbrev A0 (c : Dev nD) : (⟨2, ![4096, 512]⟩ : Shape).Idx → EReal := m ((c : Thread nD τ).loc main_arg0)
abbrev A1 (c : Dev nD) : (⟨2, ![4096, 512]⟩ : Shape).Idx → EReal := m ((c : Thread nD τ).loc main_arg1)
abbrev A2 (c : Dev nD) : (⟨2, ![4096, 512]⟩ : Shape).Idx → EReal := m ((c : Thread nD τ).loc main_arg2)
abbrev A3 (c : Dev nD) : (⟨2, ![4096, 128]⟩ : Shape).Idx → EReal := m ((c : Thread nD τ).loc main_arg3)
abbrev A4 (c : Dev nD) : (⟨2, ![4096, 512]⟩ : Shape).Idx → EReal := m ((c : Thread nD τ).loc main_arg4)
abbrev A5 (c : Dev nD) : (⟨2, ![4096, 1024]⟩ : Shape).Idx → EReal := m ((c : Thread nD τ).loc main_arg5)
abbrev A6 (c : Dev nD) : (⟨2, ![3200, 1024]⟩ : Shape).Idx → EReal := m ((c : Thread nD τ).loc main_arg6)
abbrev A7 (c : Dev nD) : (⟨2, ![4096, 1024]⟩ : Shape).Idx → EReal := m ((c : Thread nD τ).loc main_arg7)
abbrev A8 (c : Dev nD) : (⟨2, ![4096, 1024]⟩ : Shape).Idx → EReal := m ((c : Thread nD τ).loc main_arg8)
abbrev A9 (c : Dev nD) : (⟨2, ![1, 1024]⟩ : Shape).Idx → EReal := m ((c : Thread nD τ).loc main_arg9)

theorem ix_0 : ∀ t : Fin cfg0.N, win0_0.index t = ![t.val, 0] := by decide +kernel
theorem ix_1 : ∀ t : Fin cfg0.N, win0_1.index t = ![t.val, 0] := by decide +kernel
theorem ix_2 : ∀ t : Fin cfg0.N, win0_2.index t = ![t.val, 0] := by decide +kernel
theorem ix_3 : ∀ t : Fin cfg0.N, win0_3.index t = ![t.val, 0] := by decide +kernel
theorem ix_4 : ∀ t : Fin cfg0.N, win0_4.index t = ![t.val, 0] := by decide +kernel
theorem ix_5 : ∀ t : Fin cfg0.N, win0_5.index t = ![t.val, 0] := by decide +kernel
theorem ix_6 : ∀ t : Fin cfg0.N, win0_6.index t = ![0, 0] := by decide +kernel
theorem ix_7 : ∀ t : Fin cfg0.N, win0_7.index t = ![t.val, 0] := by decide +kernel
theorem ix_8 : ∀ t : Fin cfg0.N, win0_8.index t = ![t.val, 0] := by decide +kernel
theorem ix_9 : ∀ t : Fin cfg0.N, win0_9.index t = ![0, 0] := by decide +kernel
theorem ix_10 : ∀ t : Fin cfg0.N, win0_10.index t = ![t.val, 0] := by decide +kernel
theorem ix_11 : ∀ t : Fin cfg0.N, win0_11.index t = ![0, 0] := by decide +kernel

theorem ib_0 (c : Dev nD) (t : Fin cfg0.N) (p : Fin 512) (j : Fin 512) : (iblk m c 0 t : (⟨2, ![512, 512]⟩ : Shape).Idx → EReal) (ix2 p j) = A0 m c (ix2 ⟨512 * t.val + p.val, by have : t.val < 8 := t.isLt; omega⟩ j) := by
  blk_ext [iblk, V, ix_0 t]

theorem ib_1 (c : Dev nD) (t : Fin cfg0.N) (p : Fin 512) (j : Fin 512) : (iblk m c 1 t : (⟨2, ![512, 512]⟩ : Shape).Idx → EReal) (ix2 p j) = A1 m c (ix2 ⟨512 * t.val + p.val, by have : t.val < 8 := t.isLt; omega⟩ j) := by
  blk_ext [iblk, V, ix_1 t]

theorem ib_2 (c : Dev nD) (t : Fin cfg0.N) (p : Fin 512) (j : Fin 512) : (iblk m c 2 t : (⟨2, ![512, 512]⟩ : Shape).Idx → EReal) (ix2 p j) = A2 m c (ix2 ⟨512 * t.val + p.val, by have : t.val < 8 := t.isLt; omega⟩ j) := by
  blk_ext [iblk, V, ix_2 t]

theorem ib_3 (c : Dev nD) (t : Fin cfg0.N) (p : Fin 512) (j : Fin 128) : (iblk m c 3 t : (⟨2, ![512, 128]⟩ : Shape).Idx → EReal) (ix2 p j) = A3 m c (ix2 ⟨512 * t.val + p.val, by have : t.val < 8 := t.isLt; omega⟩ j) := by
  blk_ext [iblk, V, ix_3 t]

theorem ib_4 (c : Dev nD) (t : Fin cfg0.N) (p : Fin 512) (j : Fin 512) : (iblk m c 4 t : (⟨2, ![512, 512]⟩ : Shape).Idx → EReal) (ix2 p j) = A4 m c (ix2 ⟨512 * t.val + p.val, by have : t.val < 8 := t.isLt; omega⟩ j) := by
  blk_ext [iblk, V, ix_4 t]

theorem ib_5 (c : Dev nD) (t : Fin cfg0.N) (p : Fin 512) (j : Fin 1024) : (iblk m c 5 t : (⟨2, ![512, 1024]⟩ : Shape).Idx → EReal) (ix2 p j) = A5 m c (ix2 ⟨512 * t.val + p.val, by have : t.val < 8 := t.isLt; omega⟩ j) := by
  blk_ext [iblk, V, ix_5 t]

theorem ib_7 (c : Dev nD) (t : Fin cfg0.N) (p : Fin 512) (j : Fin 1024) : (iblk m c 7 t : (⟨2, ![512, 1024]⟩ : Shape).Idx → EReal) (ix2 p j) = A7 m c (ix2 ⟨512 * t.val + p.val, by have : t.val < 8 := t.isLt; omega⟩ j) := by
  blk_ext [iblk, V, ix_7 t]

theorem ib_8 (c : Dev nD) (t : Fin cfg0.N) (p : Fin 512) (j : Fin 1024) : (iblk m c 8 t : (⟨2, ![512, 1024]⟩ : Shape).Idx → EReal) (ix2 p j) = A8 m c (ix2 ⟨512 * t.val + p.val, by have : t.val < 8 := t.isLt; omega⟩ j) := by
  blk_ext [iblk, V, ix_8 t]

theorem ib_6 (c : Dev nD) (t : Fin cfg0.N) (p : Fin 3200) (j : Fin 1024) : (iblk m c 6 t : (⟨2, ![3200, 1024]⟩ : Shape).Idx → EReal) (ix2 p j) = A6 m c (ix2 p j) := by
  blk_ext [iblk, V, ix_6 t]

theorem ib_9 (c : Dev nD) (t : Fin cfg0.N) (j : Fin 1024) : (iblk m c 9 t : (⟨2, ![1, 1024]⟩ : Shape).Idx → EReal) (ix2 0 j) = A9 m c (ix2 0 j) := by
  blk_ext [iblk, V, ix_9 t]

theorem db_eq (c : Dev nD) (t : Fin cfg0.N) (p : Fin 512) (l : Fin 1024) : db (iblk m c 0 t) (iblk m c 1 t) (iblk m c 2 t) (iblk m c 3 t) (iblk m c 4 t) (iblk m c 5 t) (iblk m c 6 t) p l = DU (A0 m c) (A1 m c) (A2 m c) (A3 m c) (A4 m c) (A5 m c) (A6 m c) ⟨512 * t.val + p.val, by have : t.val < 8 := t.isLt; omega⟩ l := by
  have hW : ∀ j : ℕ, Wb (iblk m c 6 t) j l = Wc (A6 m c) j l := by
    intro j
    unfold Wb Wc
    split
    · exact ib_6 m c t _ l
    · rfl
  unfold db DU
  simp only [hW, ib_0, ib_1, ib_2, ib_3, ib_4, ib_5]

/-- What a block of rows adds to the sums. -/
def step (c : Dev nD) (r : Fin 8) (l : Fin 1024) (k : ℕ) : EReal := ∑ p : Fin 512, if h : 512 * k + p.val < 4096 then
  (if r.val = 0 then DU (A0 m c) (A1 m c) (A2 m c) (A3 m c) (A4 m c) (A5 m c) (A6 m c) ⟨512 * k + p.val, h⟩ l else if r.val = 1 then DU (A0 m c) (A1 m c) (A2 m c) (A3 m c) (A4 m c) (A5 m c) (A6 m c) ⟨512 * k + p.val, h⟩ l * A8 m c (ix2 ⟨512 * k + p.val, h⟩ l) else 0) else 0

theorem step_eq (c : Dev nD) (t : Fin cfg0.N) (r : Fin 8) (l : Fin 1024) : (if r.val = 0 then ∑ p : Fin 512, db (iblk m c 0 t) (iblk m c 1 t) (iblk m c 2 t) (iblk m c 3 t) (iblk m c 4 t) (iblk m c 5 t) (iblk m c 6 t) p l
    else if r.val = 1 then ∑ p : Fin 512, db (iblk m c 0 t) (iblk m c 1 t) (iblk m c 2 t) (iblk m c 3 t) (iblk m c 4 t) (iblk m c 5 t) (iblk m c 6 t) p l * (iblk m c 8 t : (⟨2, ![512, 1024]⟩ : Shape).Idx → EReal) (ix2 p l) else 0) = step m c r l t.val := by
  have ht : t.val < 8 := t.isLt
  unfold step
  by_cases h0 : r.val = 0
  · rw [if_pos h0]
    refine Finset.sum_congr rfl fun p _ => ?_
    rw [dif_pos (by omega), if_pos h0, db_eq]
  rw [if_neg h0]
  by_cases h1 : r.val = 1
  · rw [if_pos h1]
    refine Finset.sum_congr rfl fun p _ => ?_
    rw [dif_pos (by omega), if_neg h0, if_pos h1, db_eq, ib_8]
  rw [if_neg h1]
  refine (Finset.sum_eq_zero fun p _ => ?_).symm
  rw [dif_pos (by omega), if_neg h0, if_neg h1]

theorem acc (c : Dev nD) (r : Fin 8) (l : Fin 1024) : ∀ (n : ℕ) (h : n < cfg0.N), (outsAt0 m c n h).2 (ix2 r l) = ∑ k ∈ Finset.range (n + 1), step m c r l k
  | 0, h => by
    rw [outsAt0_A m c ⟨0, h⟩ rfl, Finset.sum_range_one]
    dsimp only
    rw [A_11]
    exact step_eq m c ⟨0, h⟩ r l
  | n + 1, h => by
    have hN : n + 1 < 8 := h
    rw [outsAt0_B m c ⟨n + 1, h⟩ (by show ¬ (n + 1) % 8 = 0; omega), Finset.sum_range_succ, ← acc c r l n (Nat.lt_of_succ_lt h), ← step_eq m c ⟨n + 1, h⟩ r l]
    dsimp only
    rw [B_11]
    rfl

theorem fin_gx (c : Dev nD) : (dats m 0 c).arrAt 10 cfg0.N = rgx (A0 m c) (A1 m c) (A2 m c) (A3 m c) (A4 m c) (A5 m c) (A6 m c) (A7 m c) (A9 m c) := by
  refine (dats m 0 c).arrAt_eq_of_covers 10 _ (by decide +kernel) fun t hf y => ?_
  obtain ⟨p, l, rfl⟩ : ∃ (p : Fin 512) (l : Fin 1024), y = ix2 p l := ⟨y 0, y 1, by ext a; fin_cases a <;> rfl⟩
  have ht : t.val < 8 := t.isLt
  refine Eq.trans (b := (outsAt0 m c t.val t.isLt).1 (ix2 p l)) ?_ (Eq.trans (b := rgx (A0 m c) (A1 m c) (A2 m c) (A3 m c) (A4 m c) (A5 m c) (A6 m c) (A7 m c) (A9 m c) (ix2 ⟨512 * t.val + p.val, by omega⟩ l)) ?_ ?_)
  · blk_simp
    rfl
  · rw [rgx_at, ← db_eq, ← ib_7, ← ib_9 m c t]
    by_cases h0 : t.val % 8 = 0
    · rw [outsAt0_A m c t h0]; dsimp only; rw [A_10]
    · rw [outsAt0_B m c t h0]; dsimp only; rw [B_10]
  · refine congrArg (rgx (A0 m c) (A1 m c) (A2 m c) (A3 m c) (A4 m c) (A5 m c) (A6 m c) (A7 m c) (A9 m c)) ?_
    blk_ext [ix_10 t]

theorem sum_tiles (F : ℕ → EReal) : ∑ j ∈ Finset.range 8, ∑ p : Fin 512, F (512 * j + p.val) = ∑ k : Fin 4096, F k.val := by
  have h : ∀ J : ℕ, ∑ j ∈ Finset.range J, ∑ p : Fin 512, F (512 * j + p.val) = ∑ k ∈ Finset.range (512 * J), F k := by
    intro J
    induction J with
    | zero => rfl
    | succ J ih => rw [Finset.sum_range_succ, ih, Nat.mul_succ, Finset.sum_range_add, Fin.sum_univ_eq_sum_range (fun n => F (512 * J + n))]
  rw [h 8, Fin.sum_univ_eq_sum_range (fun n => F n)]

theorem steps (c : Dev nD) (r : Fin 8) (l : Fin 1024) : ∑ k ∈ Finset.range 8, step m c r l k = rvec (A0 m c) (A1 m c) (A2 m c) (A3 m c) (A4 m c) (A5 m c) (A6 m c) (A8 m c) (ix2 r l) := by
  unfold step
  rw [rvec_at, sum_tiles fun k => if h : k < 4096 then (if r.val = 0 then DU (A0 m c) (A1 m c) (A2 m c) (A3 m c) (A4 m c) (A5 m c) (A6 m c) ⟨k, h⟩ l else if r.val = 1 then DU (A0 m c) (A1 m c) (A2 m c) (A3 m c) (A4 m c) (A5 m c) (A6 m c) ⟨k, h⟩ l * A8 m c (ix2 ⟨k, h⟩ l) else 0) else 0]
  by_cases h0 : r.val = 0
  · rw [if_pos h0]
    exact Finset.sum_congr rfl fun i _ => by rw [dif_pos i.isLt, if_pos h0]
  rw [if_neg h0]
  by_cases h1 : r.val = 1
  · rw [if_pos h1]
    exact Finset.sum_congr rfl fun i _ => by rw [dif_pos i.isLt, if_neg h0, if_pos h1]
  rw [if_neg h1]
  exact Finset.sum_eq_zero fun i _ => by rw [dif_pos i.isLt, if_neg h0, if_neg h1]

theorem fin_vec (c : Dev nD) : (dats m 0 c).arrAt 11 cfg0.N = rvec (A0 m c) (A1 m c) (A2 m c) (A3 m c) (A4 m c) (A5 m c) (A6 m c) (A8 m c) := by
  refine (dats m 0 c).arrAt_eq_of_covers 11 _ (by decide +kernel) fun t hf y => ?_
  obtain ⟨r, l, rfl⟩ : ∃ (r : Fin 8) (l : Fin 1024), y = ix2 r l := ⟨y 0, y 1, by ext a; fin_cases a <;> rfl⟩
  have ht : t.val < 8 := t.isLt
  have h7 : t.val = 7 := by have := (flush0_11 t).mp hf; omega
  refine Eq.trans (b := (outsAt0 m c t.val t.isLt).2 (ix2 r l)) ?_ (Eq.trans (b := rvec (A0 m c) (A1 m c) (A2 m c) (A3 m c) (A4 m c) (A5 m c) (A6 m c) (A8 m c) (ix2 r l)) ?_ ?_)
  · blk_simp
    rfl
  · rw [acc, h7]; exact steps m c r l
  · refine congrArg (rvec (A0 m c) (A1 m c) (A2 m c) (A3 m c) (A4 m c) (A5 m c) (A6 m c) (A8 m c)) ?_
    blk_ext [ix_11 t]

theorem results : θ_run defs (onTc (τ := τ) (main (F := Ideal))) ⟨m, fun _ => 0, ρ⟩ fun r => ∀ c : Dev nD,
      r.2.mem ((c.tc : Thread nD τ).loc main_v0_0) = rgx (A0 m c) (A1 m c) (A2 m c) (A3 m c) (A4 m c) (A5 m c) (A6 m c) (A7 m c) (A9 m c)
      ∧ r.2.mem ((c.tc : Thread nD τ).loc main_v0_1) = rvec (A0 m c) (A1 m c) (A2 m c) (A3 m c) (A4 m c) (A5 m c) (A6 m c) (A8 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨((h c).1 10).trans (fin_gx m c), ((h c).1 11).trans (fin_vec m c),
    ((h c).1 0).trans ((dats m 0 c).arrAt_in 0 rfl _),
    ((h c).1 1).trans ((dats m 0 c).arrAt_in 1 rfl _),
    ((h c).1 2).trans ((dats m 0 c).arrAt_in 2 rfl _),
    ((h c).1 3).trans ((dats m 0 c).arrAt_in 3 rfl _),
    ((h c).1 4).trans ((dats m 0 c).arrAt_in 4 rfl _),
    ((h c).1 5).trans ((dats m 0 c).arrAt_in 5 rfl _),
    ((h c).1 6).trans ((dats m 0 c).arrAt_in 6 rfl _),
    ((h c).1 7).trans ((dats m 0 c).arrAt_in 7 rfl _),
    ((h c).1 8).trans ((dats m 0 c).arrAt_in 8 rfl _),
    ((h c).1 9).trans ((dats m 0 c).arrAt_in 9 rfl _)⟩)
    (run_main m ρ)

end Cert.Kernel2Ideal.Val
-- ==== Proof.V3.Body.lean ====
module

public import Idealize.ShloMosaic.Lib.Pointwise
public import Idealize.ShloMosaic.Lib.WritesUnit
public import Idealize.ShloMosaic.Lib.Pipeline.ReadBack
public import Idealize.ShloMosaic.Lib.Pipeline.ValueKit
public import proofs.«01_k».proof.Proof.Gen.Kernel3Ideal.Frame

@[expose] public section

set_option maxRecDepth 16384

noncomputable section

namespace Cert.Kernel3Ideal.Val

open Cert.Kernel3Ideal Cert.Kernel3Ideal.Gen
open Idealize.ShloMosaic Idealize.ShloMosaic.TcCoe Idealize.ShloMosaic.Tactic Idealize.SL.Sem
open Idealize.ShloMosaic.Pipeline (Dat)

section
variable (x0 : Vec Ideal S512x1024 .bf16) (x1 x2 x3 : Vec Ideal S512x512 .bf16) (x4 : Vec Ideal S512x128 .bf16) (x5 : Vec Ideal S512x512 .bf16) (x6 : Vec Ideal S512x1024 .bf16) (xs0 : Vec Ideal S1024x3200 .f32)

/-- A piece's gradient, of a block of rows, its column a number of the whole. -/
def Pb (p : Fin 512) (j : ℕ) : EReal :=
  if h : j < 512 then x1 (ix2 p ⟨j, h⟩) else if h : j < 1024 then x2 (ix2 p ⟨j - 512, by omega⟩) else if h : j < 1536 then x3 (ix2 p ⟨j - 1024, by omega⟩)
  else if h : j < 1664 then x4 (ix2 p ⟨j - 1536, by omega⟩) else if h : j < 2176 then x5 (ix2 p ⟨j - 1664, by omega⟩) else if h : j < 3200 then x6 (ix2 p ⟨j - 2176, by omega⟩) else 0

/-- What a block of rows adds to the gradient at the weights. -/
def cb (r : Fin 1024) (j : ℕ) : EReal := ∑ p : Fin 512, x0 (ix2 p r) * Pb x1 x2 x3 x4 x5 x6 p j

section
variable {sig' : RefSig} {κ : Kind} {sp : Space} (v : View sig' κ sp S1024x3200 .f32) (f : v.ty.Contents (Elt Ideal)) (L : List (View.Piece (Elt Ideal) S1024x3200 .f32))

theorem col_of (o w : ℕ) (inb : ∀ a, (![0, o] : Fin 2 → ℕ) a + (![1024, w] : Fin 2 → ℕ) a ≤ S1024x3200.size a) (P : (⟨2, ![1024, w]⟩ : Shape).Idx → EReal) (r : Fin 1024) (l : Fin 3200) (j : Fin w) (h : l.val = o + j.val) :
    v.read (Elt Ideal) (v.writes (Elt Ideal) f (⟨Rect.unit (s := S1024x3200) ![0, o] ![1024, w] inb, P⟩ :: L)) (ix2 r l) = P (ix2 r j) :=
  View.read_writes_cons_unit_of_mem v f inb P L (ix2 r l) (ix2 r j) rfl (fun a => by
    fin_cases a
    · exact (Nat.zero_add _).symm
    · exact h)

theorem col_ne (o w : ℕ) (inb : ∀ a, (![0, o] : Fin 2 → ℕ) a + (![1024, w] : Fin 2 → ℕ) a ≤ S1024x3200.size a) (P : (⟨2, ![1024, w]⟩ : Shape).Idx → EReal) (r : Fin 1024) (l : Fin 3200) (h : l.val < o ∨ o + w ≤ l.val) :
    v.read (Elt Ideal) (v.writes (Elt Ideal) f (⟨Rect.unit (s := S1024x3200) ![0, o] ![1024, w] inb, P⟩ :: L)) (ix2 r l) = v.read (Elt Ideal) (v.writes (Elt Ideal) f L) (ix2 r l) :=
  View.read_writes_cons_unit_of_not_mem v f inb P L (ix2 r l) rfl 1 h
end

theorem pay5_at (r : Fin 1024) (j : Fin 512) : k0_pay5 x0 (View.ld xs0 (Rect.unit ![0, 0] ![1024, 512] inb_S1024x3200_S1024x512_0_0)) x1 (ix2 r j) = xs0 (ix2 r ⟨j.val, by omega⟩) + ∑ p : Fin 512, x0 (ix2 p r) * x1 (ix2 p j) := by
  pointwise [k0_pay5]

theorem pay6_at (r : Fin 1024) (j : Fin 512) : k0_pay6 x0 (View.ld xs0 (Rect.unit ![0, 512] ![1024, 512] inb_S1024x3200_S1024x512_0_512)) x2 (ix2 r j) = xs0 (ix2 r ⟨512 + j.val, by omega⟩) + ∑ p : Fin 512, x0 (ix2 p r) * x2 (ix2 p j) := by
  pointwise [k0_pay6]

theorem pay7_at (r : Fin 1024) (j : Fin 512) : k0_pay7 x0 (View.ld xs0 (Rect.unit ![0, 1024] ![1024, 512] inb_S1024x3200_S1024x512_0_1024)) x3 (ix2 r j) = xs0 (ix2 r ⟨1024 + j.val, by omega⟩) + ∑ p : Fin 512, x0 (ix2 p r) * x3 (ix2 p j) := by
  pointwise [k0_pay7]

theorem pay1_at (r : Fin 1024) (j : Fin 128) : k0_pay1 x0 (View.ld xs0 (Rect.unit ![0, 1536] ![1024, 128] inb_S1024x3200_S1024x128_0_1536)) x4 (ix2 r j) = xs0 (ix2 r ⟨1536 + j.val, by omega⟩) + ∑ p : Fin 512, x0 (ix2 p r) * x4 (ix2 p j) := by
  pointwise [k0_pay1]

theorem pay2_at (r : Fin 1024) (j : Fin 512) : k0_pay2 x0 (View.ld xs0 (Rect.unit ![0, 1664] ![1024, 512] inb_S1024x3200_S1024x512_0_1664)) x5 (ix2 r j) = xs0 (ix2 r ⟨1664 + j.val, by omega⟩) + ∑ p : Fin 512, x0 (ix2 p r) * x5 (ix2 p j) := by
  pointwise [k0_pay2]

theorem pay3_at (r : Fin 1024) (j : Fin 1024) : k0_pay3 x0 (View.ld xs0 (Rect.unit ![0, 2176] ![1024, 1024] inb_S1024x3200_S1024x1024_0_2176)) x6 (ix2 r j) = xs0 (ix2 r ⟨2176 + j.val, by omega⟩) + ∑ p : Fin 512, x0 (ix2 p r) * x6 (ix2 p j) := by
  pointwise [k0_pay3]

theorem layers_rw {sig' : RefSig} {κ : Kind} {sp : Space} (v : View sig' κ sp S1024x3200 .f32) (f : v.ty.Contents (Elt Ideal)) (L : List (View.Piece (Elt Ideal) S1024x3200 .f32)) (r : Fin 1024) (l : Fin 3200) : v.read (Elt Ideal) (v.writes (Elt Ideal) f (⟨Rect.unit ![0, 2176] ![1024, 1024] inb_S1024x3200_S1024x1024_0_2176, k0_pay3 x0 (View.ld xs0 (Rect.unit ![0, 2176] ![1024, 1024] inb_S1024x3200_S1024x1024_0_2176)) x6⟩ :: ⟨Rect.unit ![0, 1664] ![1024, 512] inb_S1024x3200_S1024x512_0_1664, k0_pay2 x0 (View.ld xs0 (Rect.unit ![0, 1664] ![1024, 512] inb_S1024x3200_S1024x512_0_1664)) x5⟩ :: ⟨Rect.unit ![0, 1536] ![1024, 128] inb_S1024x3200_S1024x128_0_1536, k0_pay1 x0 (View.ld xs0 (Rect.unit ![0, 1536] ![1024, 128] inb_S1024x3200_S1024x128_0_1536)) x4⟩ :: ⟨Rect.unit ![0, 1024] ![1024, 512] inb_S1024x3200_S1024x512_0_1024, k0_pay7 x0 (View.ld xs0 (Rect.unit ![0, 1024] ![1024, 512] inb_S1024x3200_S1024x512_0_1024)) x3⟩ :: ⟨Rect.unit ![0, 512] ![1024, 512] inb_S1024x3200_S1024x512_0_512, k0_pay6 x0 (View.ld xs0 (Rect.unit ![0, 512] ![1024, 512] inb_S1024x3200_S1024x512_0_512)) x2⟩ :: ⟨Rect.unit ![0, 0] ![1024, 512] inb_S1024x3200_S1024x512_0_0, k0_pay5 x0 (View.ld xs0 (Rect.unit ![0, 0] ![1024, 512] inb_S1024x3200_S1024x512_0_0)) x1⟩ :: L)) (ix2 r l) = xs0 (ix2 r l) + cb x0 x1 x2 x3 x4 x5 x6 r l.val := by
  by_cases h3 : 2176 ≤ l.val
  · rw [col_of _ _ _ 2176 1024 _ _ r l ⟨l.val - 2176, by omega⟩ (by show l.val = 2176 + (l.val - 2176); omega), pay3_at]
    refine congrArg₂ _ (congrArg (fun a => xs0 (ix2 r a)) (Fin.ext (by show 2176 + (l.val - 2176) = l.val; omega))) (Finset.sum_congr rfl fun p _ => congrArg₂ _ rfl ?_)
    unfold Pb
    rw [dif_neg (by omega), dif_neg (by omega), dif_neg (by omega), dif_neg (by omega), dif_neg (by omega), dif_pos (by omega)]
  rw [col_ne _ _ _ 2176 1024 _ _ r l (by omega)]
  by_cases h2 : 1664 ≤ l.val
  · rw [col_of _ _ _ 1664 512 _ _ r l ⟨l.val - 1664, by omega⟩ (by show l.val = 1664 + (l.val - 1664); omega), pay2_at]
    refine congrArg₂ _ (congrArg (fun a => xs0 (ix2 r a)) (Fin.ext (by show 1664 + (l.val - 1664) = l.val; omega))) (Finset.sum_congr rfl fun p _ => congrArg₂ _ rfl ?_)
    unfold Pb
    rw [dif_neg (by omega), dif_neg (by omega), dif_neg (by omega), dif_neg (by omega), dif_pos (by omega)]
  rw [col_ne _ _ _ 1664 512 _ _ r l (by omega)]
  by_cases h1 : 1536 ≤ l.val
  · rw [col_of _ _ _ 1536 128 _ _ r l ⟨l.val - 1536, by omega⟩ (by show l.val = 1536 + (l.val - 1536); omega), pay1_at]
    refine congrArg₂ _ (congrArg (fun a => xs0 (ix2 r a)) (Fin.ext (by show 1536 + (l.val - 1536) = l.val; omega))) (Finset.sum_congr rfl fun p _ => congrArg₂ _ rfl ?_)
    unfold Pb
    rw [dif_neg (by omega), dif_neg (by omega), dif_neg (by omega), dif_pos (by omega)]
  rw [col_ne _ _ _ 1536 128 _ _ r l (by omega)]
  by_cases h7 : 1024 ≤ l.val
  · rw [col_of _ _ _ 1024 512 _ _ r l ⟨l.val - 1024, by omega⟩ (by show l.val = 1024 + (l.val - 1024); omega), pay7_at]
    refine congrArg₂ _ (congrArg (fun a => xs0 (ix2 r a)) (Fin.ext (by show 1024 + (l.val - 1024) = l.val; omega))) (Finset.sum_congr rfl fun p _ => congrArg₂ _ rfl ?_)
    unfold Pb
    rw [dif_neg (by omega), dif_neg (by omega), dif_pos (by omega)]
  rw [col_ne _ _ _ 1024 512 _ _ r l (by omega)]
  by_cases h6 : 512 ≤ l.val
  · rw [col_of _ _ _ 512 512 _ _ r l ⟨l.val - 512, by omega⟩ (by show l.val = 512 + (l.val - 512); omega), pay6_at]
    refine congrArg₂ _ (congrArg (fun a => xs0 (ix2 r a)) (Fin.ext (by show 512 + (l.val - 512) = l.val; omega))) (Finset.sum_congr rfl fun p _ => congrArg₂ _ rfl ?_)
    unfold Pb
    rw [dif_neg (by omega), dif_pos (by omega)]
  rw [col_ne _ _ _ 512 512 _ _ r l (by omega)]
  rw [col_of _ _ _ 0 512 _ _ r l ⟨l.val, by omega⟩ (Nat.zero_add _).symm, pay5_at]
  refine congrArg₂ _ rfl (Finset.sum_congr rfl fun p _ => congrArg₂ _ rfl ?_)
  unfold Pb
  rw [dif_pos (by omega)]

theorem layers (L : List (View.Piece (Elt Ideal) S1024x3200 .f32)) (r : Fin 1024) (l : Fin 3200) : View.canon (⟨Rect.unit ![0, 2176] ![1024, 1024] inb_S1024x3200_S1024x1024_0_2176, k0_pay3 x0 (View.ld xs0 (Rect.unit ![0, 2176] ![1024, 1024] inb_S1024x3200_S1024x1024_0_2176)) x6⟩ :: ⟨Rect.unit ![0, 1664] ![1024, 512] inb_S1024x3200_S1024x512_0_1664, k0_pay2 x0 (View.ld xs0 (Rect.unit ![0, 1664] ![1024, 512] inb_S1024x3200_S1024x512_0_1664)) x5⟩ :: ⟨Rect.unit ![0, 1536] ![1024, 128] inb_S1024x3200_S1024x128_0_1536, k0_pay1 x0 (View.ld xs0 (Rect.unit ![0, 1536] ![1024, 128] inb_S1024x3200_S1024x128_0_1536)) x4⟩ :: ⟨Rect.unit ![0, 1024] ![1024, 512] inb_S1024x3200_S1024x512_0_1024, k0_pay7 x0 (View.ld xs0 (Rect.unit ![0, 1024] ![1024, 512] inb_S1024x3200_S1024x512_0_1024)) x3⟩ :: ⟨Rect.unit ![0, 512] ![1024, 512] inb_S1024x3200_S1024x512_0_512, k0_pay6 x0 (View.ld xs0 (Rect.unit ![0, 512] ![1024, 512] inb_S1024x3200_S1024x512_0_512)) x2⟩ :: ⟨Rect.unit ![0, 0] ![1024, 512] inb_S1024x3200_S1024x512_0_0, k0_pay5 x0 (View.ld xs0 (Rect.unit ![0, 0] ![1024, 512] inb_S1024x3200_S1024x512_0_0)) x1⟩ :: L) (ix2 r l) = xs0 (ix2 r l) + cb x0 x1 x2 x3 x4 x5 x6 r l.val := by
  rw [← View.read_writes_junk_eq_canon VS0_0]
  exact layers_rw x0 x1 x2 x3 x4 x5 x6 xs0 VS0_0 _ L r l

theorem pay4_at (r : Fin 1024) (l : Fin 3200) : (k0_pay4 : FVec Ideal S1024x3200 .f32) (ix2 r l) = 0 := by
  pointwise [k0_pay4]

theorem A_s (c : Dev nD) (i : grid0.Coords) (arg1 : Memref sig .tc .vmem S512x1024 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x128 .bf16) (harg5 : arg5.IsWhole) (arg6 : Memref sig .tc .vmem S512x512 .bf16) (harg6 : arg6.IsWhole) (arg7 : Memref sig .tc .vmem S512x1024 .bf16) (harg7 : arg7.IsWhole) (arg9 : Memref sig .tc .vmem S1024x3200 .f32) (harg9 : arg9.IsWhole) (hc0 : cond0_0 i) (hc1 : ¬cond0_1 i) (fw0 : HbBuf0 (F := Ideal) c hbM0_0) (r : Fin 1024) (l : Fin 3200) :
    (sout0_A_0 c i arg1 harg1 arg2 harg2 arg3 harg3 arg4 harg4 arg5 harg5 arg6 harg6 arg7 harg7 arg9 harg9 hc0 hc1 x0 x1 x2 x3 x4 x5 x6 fw0 : (⟨2, ![1024, 3200]⟩ : Shape).Idx → EReal) (ix2 r l)
      = cb x0 x1 x2 x3 x4 x5 x6 r l.val := by
  frame_out
  simp (disch := decide) only [↓View.readCov_skip, View.readCov_fill]
  rw [layers, pay4_at, zero_add]

theorem B_s (c : Dev nD) (i : grid0.Coords) (arg1 : Memref sig .tc .vmem S512x1024 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x128 .bf16) (harg5 : arg5.IsWhole) (arg6 : Memref sig .tc .vmem S512x512 .bf16) (harg6 : arg6.IsWhole) (arg7 : Memref sig .tc .vmem S512x1024 .bf16) (harg7 : arg7.IsWhole) (arg9 : Memref sig .tc .vmem S1024x3200 .f32) (harg9 : arg9.IsWhole) (hc0 : ¬cond0_0 i) (hc1 : ¬cond0_1 i) (fw0 : HbBuf0 (F := Ideal) c hbM0_0) (r : Fin 1024) (l : Fin 3200) :
    (sout0_B_0 c i arg1 harg1 arg2 harg2 arg3 harg3 arg4 harg4 arg5 harg5 arg6 harg6 arg7 harg7 arg9 harg9 hc0 hc1 x0 x1 x2 x3 x4 x5 x6 xs0 fw0 : (⟨2, ![1024, 3200]⟩ : Shape).Idx → EReal) (ix2 r l)
      = xs0 (ix2 r l) + cb x0 x1 x2 x3 x4 x5 x6 r l.val := by
  frame_out
  exact layers x0 x1 x2 x3 x4 x5 x6 xs0 [] r l

theorem C_s (c : Dev nD) (i : grid0.Coords) (arg1 : Memref sig .tc .vmem S512x1024 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x128 .bf16) (harg5 : arg5.IsWhole) (arg6 : Memref sig .tc .vmem S512x512 .bf16) (harg6 : arg6.IsWhole) (arg7 : Memref sig .tc .vmem S512x1024 .bf16) (harg7 : arg7.IsWhole) (arg9 : Memref sig .tc .vmem S1024x3200 .f32) (harg9 : arg9.IsWhole) (hc0 : ¬cond0_0 i) (hc1 : cond0_1 i) (fw0 : HbBuf0 (F := Ideal) c hbM0_0) (r : Fin 1024) (l : Fin 3200) :
    (sout0_C_0 c i arg1 harg1 arg2 harg2 arg3 harg3 arg4 harg4 arg5 harg5 arg6 harg6 arg7 harg7 arg9 harg9 hc0 hc1 x0 x1 x2 x3 x4 x5 x6 xs0 fw0 : (⟨2, ![1024, 3200]⟩ : Shape).Idx → EReal) (ix2 r l)
      = xs0 (ix2 r l) + cb x0 x1 x2 x3 x4 x5 x6 r l.val := by
  frame_out
  exact layers x0 x1 x2 x3 x4 x5 x6 xs0 [] r l

theorem C_h (c : Dev nD) (i : grid0.Coords) (arg1 : Memref sig .tc .vmem S512x1024 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x128 .bf16) (harg5 : arg5.IsWhole) (arg6 : Memref sig .tc .vmem S512x512 .bf16) (harg6 : arg6.IsWhole) (arg7 : Memref sig .tc .vmem S512x1024 .bf16) (harg7 : arg7.IsWhole) (arg9 : Memref sig .tc .vmem S1024x3200 .f32) (harg9 : arg9.IsWhole) (hc0 : ¬cond0_0 i) (hc1 : cond0_1 i) (fw0 : HbBuf0 (F := Ideal) c hbM0_0) (r : Fin 1024) (l : Fin 3200) :
    (show (⟨2, ![1024, 3200]⟩ : Shape).Idx → EReal from hbw0_C_0 c i arg1 harg1 arg2 harg2 arg3 harg3 arg4 harg4 arg5 harg5 arg6 harg6 arg7 harg7 arg9 harg9 hc0 hc1 x0 x1 x2 x3 x4 x5 x6 xs0 fw0) (ix2 r l)
      = xs0 (ix2 r l) + cb x0 x1 x2 x3 x4 x5 x6 r l.val := by
  unfold hbw0_C_0
  frame_open
  refine (congrFun (View.write_whole_univ (Val := Elt Ideal) main_v0 fw0 _) (ix2 r l)).trans ?_
  refine Eq.trans ?_ (layers_rw x0 x1 x2 x3 x4 x5 x6 xs0 arg9.view (harg9.unread xs0) [] r l)
  simp (disch := decide) only [View.ld_unit_lit', View.readAt_eq_ld, Memref.IsWhole.read_unread]

end
end Cert.Kernel3Ideal.Val
-- ==== Proof.V3.Ref.lean ====
module

public import Idealize.ShloMosaic.Lib.Pointwise
public import proofs.«01_k».proof.Proof.Gen.Reference3Ideal.Run

@[expose] public section

set_option maxRecDepth 16384

noncomputable section

namespace Cert.Reference3Ideal.Val

open Cert.Reference3Ideal Cert.Reference3Ideal.Gen
open Idealize.ShloMosaic Idealize.ShloMosaic.TcCoe Idealize.SL.Sem

variable (u : FVec Ideal S4096x1024 .bf16) (x0 x1 x2 : FVec Ideal S4096x512 .bf16) (x3 : FVec Ideal S4096x128 .bf16) (x4 : FVec Ideal S4096x512 .bf16) (x5 : FVec Ideal S4096x1024 .bf16)

/-- The gradient at the projection's columns, the six pieces side by side. -/
def rP : FVec Ideal S4096x3200 .f32 := concatenate S4096x3200 1 [⟨S4096x512, ((extf .f32 x0 bitsLt_bf16_f32) : (⟨S4096x512, .f32⟩ : BufTy).Contents (Elt Ideal))⟩, ⟨S4096x512, ((extf .f32 x1 bitsLt_bf16_f32) : (⟨S4096x512, .f32⟩ : BufTy).Contents (Elt Ideal))⟩, ⟨S4096x512, ((extf .f32 x2 bitsLt_bf16_f32) : (⟨S4096x512, .f32⟩ : BufTy).Contents (Elt Ideal))⟩, ⟨S4096x128, ((extf .f32 x3 bitsLt_bf16_f32) : (⟨S4096x128, .f32⟩ : BufTy).Contents (Elt Ideal))⟩, ⟨S4096x512, ((extf .f32 x4 bitsLt_bf16_f32) : (⟨S4096x512, .f32⟩ : BufTy).Contents (Elt Ideal))⟩, ⟨S4096x1024, ((extf .f32 x5 bitsLt_bf16_f32) : (⟨S4096x1024, .f32⟩ : BufTy).Contents (Elt Ideal))⟩] concatenates_S4096x512_S4096x512_S4096x512_S4096x128_S4096x512_S4096x1024_S4096x3200_d1

/-- The same, its column a number. -/
def Pc (i : Fin 4096) (j : ℕ) : EReal :=
  if h : j < 512 then x0 (ix2 i ⟨j, h⟩) else if h : j < 1024 then x1 (ix2 i ⟨j - 512, by omega⟩) else if h : j < 1536 then x2 (ix2 i ⟨j - 1024, by omega⟩)
  else if h : j < 1664 then x3 (ix2 i ⟨j - 1536, by omega⟩) else if h : j < 2176 then x4 (ix2 i ⟨j - 1664, by omega⟩) else if h : j < 3200 then x5 (ix2 i ⟨j - 2176, by omega⟩) else 0

theorem rP_at (i : Fin 4096) (j : Fin 3200) : rP x0 x1 x2 x3 x4 x5 (ix2 i j) = Pc x0 x1 x2 x3 x4 x5 i j.val := by
  pointwise [rP]
  unfold Pc
  by_cases h0 : j.val < 512
  · rw [dif_pos h0, dif_pos h0]
  rw [dif_neg h0, dif_neg h0]
  by_cases h1 : j.val < 1024
  · rw [dif_pos h1, dif_pos (by omega)]
  rw [dif_neg h1, dif_neg (by omega)]
  by_cases h2 : j.val < 1536
  · rw [dif_pos h2, dif_pos (by omega)]; exact congrArg (fun a => x2 (ix2 i a)) (Fin.ext (by show j.val - 512 - 512 = j.val - 1024; omega))
  rw [dif_neg h2, dif_neg (by omega)]
  by_cases h3 : j.val < 1664
  · rw [dif_pos h3, dif_pos (by omega)]; exact congrArg (fun a => x3 (ix2 i a)) (Fin.ext (by show j.val - 512 - 512 - 512 = j.val - 1536; omega))
  rw [dif_neg h3, dif_neg (by omega)]
  by_cases h4 : j.val < 2176
  · rw [dif_pos h4, dif_pos (by omega)]; exact congrArg (fun a => x4 (ix2 i a)) (Fin.ext (by show j.val - 512 - 512 - 512 - 128 = j.val - 1664; omega))
  rw [dif_neg h4, dif_neg (by omega), dif_pos j.isLt]
  exact congrArg (fun a => x5 (ix2 i a)) (Fin.ext (by show j.val - 512 - 512 - 512 - 128 - 512 = j.val - 2176; omega))

/-- The gradient at the weights. -/
def rgw : FVec Ideal S1024x3200 .f32 := transpose S1024x3200 [1, 0] (Host.dotGeneral dot_S4096x3200_S4096x1024_S3200x1024_0_0_1_1_n_n none (rP x0 x1 x2 x3 x4 x5) (extf .f32 u bitsLt_bf16_f32)) transposes_S3200x1024_S1024x3200_1_0

theorem rgw_at (r : Fin 1024) (j : Fin 3200) : rgw u x0 x1 x2 x3 x4 x5 (ix2 r j) = ∑ i : Fin 4096, u (ix2 i r) * Pc x0 x1 x2 x3 x4 x5 i j.val := by
  have h : rgw u x0 x1 x2 x3 x4 x5 (ix2 r j) = ∑ i : Fin 4096, rP x0 x1 x2 x3 x4 x5 (ix2 i j) * u (ix2 i r) := by pointwise [rgw]
  rw [h]
  refine Finset.sum_congr rfl fun i _ => ?_
  rw [rP_at, mul_comm]

end Cert.Reference3Ideal.Val
-- ==== Proof.V3.Results.lean ====
module

public import Idealize.ShloMosaic.Lib.Pointwise
public import Idealize.ShloMosaic.Lib.Pipeline.ValueKit
public import proofs.«01_k».proof.Proof.V3.Body
public import proofs.«01_k».proof.Proof.V3.Ref

@[expose] public section

set_option maxRecDepth 16384

noncomputable section

namespace Cert.Kernel3Ideal.Val

open Cert.Kernel3Ideal Cert.Kernel3Ideal.Gen
open Cert.Reference3Ideal.Val (Pc rgw rgw_at)
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

abbrev A0 (c : Dev nD) : (⟨2, ![4096, 1024]⟩ : Shape).Idx → EReal := m ((c : Thread nD τ).loc main_arg0)
abbrev A1 (c : Dev nD) : (⟨2, ![4096, 512]⟩ : Shape).Idx → EReal := m ((c : Thread nD τ).loc main_arg1)
abbrev A2 (c : Dev nD) : (⟨2, ![4096, 512]⟩ : Shape).Idx → EReal := m ((c : Thread nD τ).loc main_arg2)
abbrev A3 (c : Dev nD) : (⟨2, ![4096, 512]⟩ : Shape).Idx → EReal := m ((c : Thread nD τ).loc main_arg3)
abbrev A4 (c : Dev nD) : (⟨2, ![4096, 128]⟩ : Shape).Idx → EReal := m ((c : Thread nD τ).loc main_arg4)
abbrev A5 (c : Dev nD) : (⟨2, ![4096, 512]⟩ : Shape).Idx → EReal := m ((c : Thread nD τ).loc main_arg5)
abbrev A6 (c : Dev nD) : (⟨2, ![4096, 1024]⟩ : Shape).Idx → EReal := m ((c : Thread nD τ).loc main_arg6)

theorem ix_0 : ∀ t : Fin cfg0.N, win0_0.index t = ![t.val, 0] := by decide +kernel
theorem ix_1 : ∀ t : Fin cfg0.N, win0_1.index t = ![t.val, 0] := by decide +kernel
theorem ix_2 : ∀ t : Fin cfg0.N, win0_2.index t = ![t.val, 0] := by decide +kernel
theorem ix_3 : ∀ t : Fin cfg0.N, win0_3.index t = ![t.val, 0] := by decide +kernel
theorem ix_4 : ∀ t : Fin cfg0.N, win0_4.index t = ![t.val, 0] := by decide +kernel
theorem ix_5 : ∀ t : Fin cfg0.N, win0_5.index t = ![t.val, 0] := by decide +kernel
theorem ix_6 : ∀ t : Fin cfg0.N, win0_6.index t = ![t.val, 0] := by decide +kernel

theorem ib_0 (c : Dev nD) (t : Fin cfg0.N) (p : Fin 512) (j : Fin 1024) : (iblk m c 0 t : (⟨2, ![512, 1024]⟩ : Shape).Idx → EReal) (ix2 p j) = A0 m c (ix2 ⟨512 * t.val + p.val, by have : t.val < 8 := t.isLt; omega⟩ j) := by
  blk_ext [iblk, V, ix_0 t]

theorem ib_1 (c : Dev nD) (t : Fin cfg0.N) (p : Fin 512) (j : Fin 512) : (iblk m c 1 t : (⟨2, ![512, 512]⟩ : Shape).Idx → EReal) (ix2 p j) = A1 m c (ix2 ⟨512 * t.val + p.val, by have : t.val < 8 := t.isLt; omega⟩ j) := by
  blk_ext [iblk, V, ix_1 t]

theorem ib_2 (c : Dev nD) (t : Fin cfg0.N) (p : Fin 512) (j : Fin 512) : (iblk m c 2 t : (⟨2, ![512, 512]⟩ : Shape).Idx → EReal) (ix2 p j) = A2 m c (ix2 ⟨512 * t.val + p.val, by have : t.val < 8 := t.isLt; omega⟩ j) := by
  blk_ext [iblk, V, ix_2 t]

theorem ib_3 (c : Dev nD) (t : Fin cfg0.N) (p : Fin 512) (j : Fin 512) : (iblk m c 3 t : (⟨2, ![512, 512]⟩ : Shape).Idx → EReal) (ix2 p j) = A3 m c (ix2 ⟨512 * t.val + p.val, by have : t.val < 8 := t.isLt; omega⟩ j) := by
  blk_ext [iblk, V, ix_3 t]

theorem ib_4 (c : Dev nD) (t : Fin cfg0.N) (p : Fin 512) (j : Fin 128) : (iblk m c 4 t : (⟨2, ![512, 128]⟩ : Shape).Idx → EReal) (ix2 p j) = A4 m c (ix2 ⟨512 * t.val + p.val, by have : t.val < 8 := t.isLt; omega⟩ j) := by
  blk_ext [iblk, V, ix_4 t]

theorem ib_5 (c : Dev nD) (t : Fin cfg0.N) (p : Fin 512) (j : Fin 512) : (iblk m c 5 t : (⟨2, ![512, 512]⟩ : Shape).Idx → EReal) (ix2 p j) = A5 m c (ix2 ⟨512 * t.val + p.val, by have : t.val < 8 := t.isLt; omega⟩ j) := by
  blk_ext [iblk, V, ix_5 t]

theorem ib_6 (c : Dev nD) (t : Fin cfg0.N) (p : Fin 512) (j : Fin 1024) : (iblk m c 6 t : (⟨2, ![512, 1024]⟩ : Shape).Idx → EReal) (ix2 p j) = A6 m c (ix2 ⟨512 * t.val + p.val, by have : t.val < 8 := t.isLt; omega⟩ j) := by
  blk_ext [iblk, V, ix_6 t]

theorem Pb_eq (c : Dev nD) (t : Fin cfg0.N) (p : Fin 512) (j : ℕ) : Pb (iblk m c 1 t) (iblk m c 2 t) (iblk m c 3 t) (iblk m c 4 t) (iblk m c 5 t) (iblk m c 6 t) p j = Pc (A1 m c) (A2 m c) (A3 m c) (A4 m c) (A5 m c) (A6 m c) ⟨512 * t.val + p.val, by have : t.val < 8 := t.isLt; omega⟩ j := by
  unfold Pb Pc
  simp only [ib_1, ib_2, ib_3, ib_4, ib_5, ib_6]

/-- What a block of rows adds to the gradient. -/
def step (c : Dev nD) (r : Fin 1024) (j : ℕ) (k : ℕ) : EReal := ∑ p : Fin 512, if h : 512 * k + p.val < 4096 then A0 m c (ix2 ⟨512 * k + p.val, h⟩ r) * Pc (A1 m c) (A2 m c) (A3 m c) (A4 m c) (A5 m c) (A6 m c) ⟨512 * k + p.val, h⟩ j else 0

theorem step_eq (c : Dev nD) (t : Fin cfg0.N) (r : Fin 1024) (j : ℕ) : cb (iblk m c 0 t) (iblk m c 1 t) (iblk m c 2 t) (iblk m c 3 t) (iblk m c 4 t) (iblk m c 5 t) (iblk m c 6 t) r j = step m c r j t.val := by
  have ht : t.val < 8 := t.isLt
  unfold step cb
  refine Finset.sum_congr rfl fun p _ => ?_
  rw [dif_pos (by omega), Pb_eq, ib_0]

theorem acc (c : Dev nD) (r : Fin 1024) (l : Fin 3200) : ∀ (n : ℕ) (h : n < cfg0.N), (outsAt0 m c n h).1 (ix2 r l) = ∑ k ∈ Finset.range (n + 1), step m c r l.val k
  | 0, h => by
    rw [outsAt0_A m c ⟨0, h⟩ rfl (by show ¬ 0 % 8 = 7; omega), Finset.sum_range_one]
    dsimp only
    rw [A_s]
    exact step_eq m c ⟨0, h⟩ r l.val
  | n + 1, h => by
    have hN : n + 1 < 8 := h
    by_cases h1 : (n + 1) % 8 = 7
    · rw [outsAt0_C m c ⟨n + 1, h⟩ (by show ¬ (n + 1) % 8 = 0; omega) h1, Finset.sum_range_succ, ← acc c r l n (Nat.lt_of_succ_lt h), ← step_eq m c ⟨n + 1, h⟩ r l.val]
      dsimp only
      rw [C_s]
      rfl
    · rw [outsAt0_B m c ⟨n + 1, h⟩ (by show ¬ (n + 1) % 8 = 0; omega) h1, Finset.sum_range_succ, ← acc c r l n (Nat.lt_of_succ_lt h), ← step_eq m c ⟨n + 1, h⟩ r l.val]
      dsimp only
      rw [B_s]
      rfl

theorem sum_tiles (F : ℕ → EReal) : ∑ j ∈ Finset.range 8, ∑ p : Fin 512, F (512 * j + p.val) = ∑ k : Fin 4096, F k.val := by
  have h : ∀ J : ℕ, ∑ j ∈ Finset.range J, ∑ p : Fin 512, F (512 * j + p.val) = ∑ k ∈ Finset.range (512 * J), F k := by
    intro J
    induction J with
    | zero => rfl
    | succ J ih => rw [Finset.sum_range_succ, ih, Nat.mul_succ, Finset.sum_range_add, Fin.sum_univ_eq_sum_range (fun n => F (512 * J + n))]
  rw [h 8, Fin.sum_univ_eq_sum_range (fun n => F n)]

theorem steps (c : Dev nD) (r : Fin 1024) (l : Fin 3200) : ∑ k ∈ Finset.range 8, step m c r l.val k = rgw (A0 m c) (A1 m c) (A2 m c) (A3 m c) (A4 m c) (A5 m c) (A6 m c) (ix2 r l) := by
  unfold step
  rw [rgw_at, sum_tiles fun k => if h : k < 4096 then A0 m c (ix2 ⟨k, h⟩ r) * Pc (A1 m c) (A2 m c) (A3 m c) (A4 m c) (A5 m c) (A6 m c) ⟨k, h⟩ l.val else 0]
  exact Finset.sum_congr rfl fun i _ => by rw [dif_pos i.isLt]

/-- The last point's copy out holds the whole sum. -/
theorem copied (c : Dev nD) (t : Fin cfg0.N) (ht : t.val = 7) (r : Fin 1024) (l : Fin 3200) : (show (⟨2, ![1024, 3200]⟩ : Shape).Idx → EReal from (outsAt0 m c t.val t.isLt).2) (ix2 r l) = rgw (A0 m c) (A1 m c) (A2 m c) (A3 m c) (A4 m c) (A5 m c) (A6 m c) (ix2 r l) := by
  rw [outsAt0_C m c t (by omega) (by omega)]
  dsimp only
  refine (C_h _ _ _ _ _ _ _ _ _ _ _ _ _ _ _ _ _ _ _ _ _ _ _ _ _ _ _ _ _ _ _).trans ?_
  rw [step_eq, acc, ← steps, ht]
  exact (Finset.sum_range_succ _ 7).symm

theorem fin_gw (c : Dev nD) : (show (⟨2, ![1024, 3200]⟩ : Shape).Idx → EReal from hbG0 m c main_v0) = rgw (A0 m c) (A1 m c) (A2 m c) (A3 m c) (A4 m c) (A5 m c) (A6 m c) := by
  rw [hbG0_0]
  funext y
  obtain ⟨r, l, rfl⟩ : ∃ (r : Fin 1024) (l : Fin 3200), y = ix2 r l := ⟨y 0, y 1, by ext a; fin_cases a <;> rfl⟩
  exact copied m c ⟨7, by have : cfg0.N = 8 := N_0; omega⟩ rfl r l

theorem results : θ_run defs (onTc (τ := τ) (main (F := Ideal))) ⟨m, fun _ => 0, ρ⟩ fun r => ∀ c : Dev nD,
      r.2.mem ((c.tc : Thread nD τ).loc main_v0) = rgw (A0 m c) (A1 m c) (A2 m c) (A3 m c) (A4 m c) (A5 m c) (A6 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h.2 c main_v0 (by decide)).trans (fin_gw m c),
    ((h.1 c).1 0).trans ((dats m 0 c).arrAt_in 0 rfl _),
    ((h.1 c).1 1).trans ((dats m 0 c).arrAt_in 1 rfl _),
    ((h.1 c).1 2).trans ((dats m 0 c).arrAt_in 2 rfl _),
    ((h.1 c).1 3).trans ((dats m 0 c).arrAt_in 3 rfl _),
    ((h.1 c).1 4).trans ((dats m 0 c).arrAt_in 4 rfl _),
    ((h.1 c).1 5).trans ((dats m 0 c).arrAt_in 5 rfl _),
    ((h.1 c).1 6).trans ((dats m 0 c).arrAt_in 6 rfl _)⟩)
    (run_main m ρ)

end Cert.Kernel3Ideal.Val
-- ==== Proof.V4.Ref.lean ====
module

public import Idealize.ShloMosaic.Lib.Pointwise
public import proofs.«01_k».proof.Proof.Gen.Reference4Ideal.Run

@[expose] public section

set_option maxRecDepth 16384

noncomputable section

namespace Cert.Reference4Ideal.Val

open Cert.Reference4Ideal Cert.Reference4Ideal.Gen
open Idealize.ShloMosaic Idealize.ShloMosaic.TcCoe Idealize.SL.Sem

variable (x0 : FVec Ideal S4096x1024 .f32) (x1 x2 : FVec Ideal S1x1024 .f32) (x3 : FVec Ideal S3200x1024 .bf16) (x4 : FVec Ideal S1x3200 .f32)

/-- The gated input. -/
def U (i : Fin 4096) (k : Fin 1024) : EReal := x0 (ix2 i k) * (1 + x2 (ix2 0 k)) + x1 (ix2 0 k)

/-- A column of the projection. -/
def Pj (i : Fin 4096) (j : Fin 3200) : EReal := (∑ k : Fin 1024, U x0 x1 x2 i k * x3 (ix2 j k)) + x4 (ix2 0 j)

def ru : FVec Ideal S4096x1024 .bf16 := (truncf .bf16 (addf (mulf x0 (broadcastInDim S4096x1024 ![0, 1] bcast_S1x1024_S4096x1024_0_1 (addf (broadcastInDim S1x1024 ![] bcast_S_S1x1024 (constant S_ .f32 0x3F800000#32)) x2))) (broadcastInDim S4096x1024 ![0, 1] bcast_S1x1024_S4096x1024_0_1 x1)) bitsLt_bf16_f32)
theorem ru_at (i : Fin 4096) (k : Fin 1024) : ru x0 x1 x2 (ix2 i k) = U x0 x1 x2 i k := by
  pointwise [ru]
  rfl

def rpj : FVec Ideal S4096x3200 .f32 := addf (Host.dotGeneral dot_S4096x1024_S1024x3200_S4096x3200_1_0_0_1_n_n none (extf .f32 (ru x0 x1 x2) bitsLt_bf16_f32) (transpose S1024x3200 [1, 0] (extf .f32 x3 bitsLt_bf16_f32) transposes_S3200x1024_S1024x3200_1_0)) (broadcastInDim S4096x3200 ![0, 1] bcast_S1x3200_S4096x3200_0_1 x4)
theorem rpj_at (i : Fin 4096) (j : Fin 3200) : rpj x0 x1 x2 x3 x4 (ix2 i j) = Pj x0 x1 x2 x3 x4 i j := by
  pointwise [rpj]
  simp only [ru_at]
  rfl

def r6 : FVec Ideal S4096x1536 .bf16 := truncf .bf16 (extractStridedSlice S4096x1536 ![0, 0] (rpj x0 x1 x2 x3 x4) slices_S4096x3200_S4096x1536_0_0) bitsLt_bf16_f32
theorem r6_at (i : Fin 4096) (j : Fin 1536) : r6 x0 x1 x2 x3 x4 (ix2 i j) = Pj x0 x1 x2 x3 x4 i ⟨0 + j.val, by omega⟩ := by
  have h : r6 x0 x1 x2 x3 x4 (ix2 i j) = rpj x0 x1 x2 x3 x4 (ix2 i ⟨0 + j.val, by omega⟩) := by
    unfold r6
    pointwise []
  rw [h, rpj_at]

def r7 : FVec Ideal S4096x128 .f32 := extractStridedSlice S4096x128 ![0, 1536] (rpj x0 x1 x2 x3 x4) slices_S4096x3200_S4096x128_0_1536
theorem r7_at (i : Fin 4096) (j : Fin 128) : r7 x0 x1 x2 x3 x4 (ix2 i j) = Pj x0 x1 x2 x3 x4 i ⟨1536 + j.val, by omega⟩ := by
  have h : r7 x0 x1 x2 x3 x4 (ix2 i j) = rpj x0 x1 x2 x3 x4 (ix2 i ⟨1536 + j.val, by omega⟩) := by
    unfold r7
    pointwise []
  rw [h, rpj_at]

def r8 : FVec Ideal S4096x512 .f32 := extractStridedSlice S4096x512 ![0, 1664] (rpj x0 x1 x2 x3 x4) slices_S4096x3200_S4096x512_0_1664
theorem r8_at (i : Fin 4096) (j : Fin 512) : r8 x0 x1 x2 x3 x4 (ix2 i j) = Pj x0 x1 x2 x3 x4 i ⟨1664 + j.val, by omega⟩ := by
  have h : r8 x0 x1 x2 x3 x4 (ix2 i j) = rpj x0 x1 x2 x3 x4 (ix2 i ⟨1664 + j.val, by omega⟩) := by
    unfold r8
    pointwise []
  rw [h, rpj_at]

def r9 : FVec Ideal S4096x1024 .f32 := extractStridedSlice S4096x1024 ![0, 2176] (rpj x0 x1 x2 x3 x4) slices_S4096x3200_S4096x1024_0_2176
theorem r9_at (i : Fin 4096) (j : Fin 1024) : r9 x0 x1 x2 x3 x4 (ix2 i j) = Pj x0 x1 x2 x3 x4 i ⟨2176 + j.val, by omega⟩ := by
  have h : r9 x0 x1 x2 x3 x4 (ix2 i j) = rpj x0 x1 x2 x3 x4 (ix2 i ⟨2176 + j.val, by omega⟩) := by
    unfold r9
    pointwise []
  rw [h, rpj_at]

end Cert.Reference4Ideal.Val
-- ==== Proof.V4.Results.lean ====
module

public import Idealize.ShloMosaic.Lib.Pointwise
public import Idealize.ShloMosaic.Lib.WritesUnit
public import Idealize.ShloMosaic.Lib.Pipeline.ValueKit
public import proofs.«01_k».proof.Proof.Gen.Kernel4Ideal.Frame
public import proofs.«01_k».proof.Proof.V4.Ref

@[expose] public section

set_option maxRecDepth 16384

noncomputable section

namespace Cert.Kernel4Ideal.Val

open Cert.Kernel4Ideal Cert.Kernel4Ideal.Gen
open Cert.Reference4Ideal.Val (U Pj ru ru_at r6 r6_at r7 r7_at r8 r8_at r9 r9_at)
open Idealize.ShloMosaic Idealize.ShloMosaic.TcCoe Idealize.ShloMosaic.Tactic Idealize.SL.Sem
open Idealize.ShloMosaic.Pipeline (Dat)

section
variable (x0 : Vec Ideal S512x1024 .f32) (x1 x2 : Vec Ideal S1x1024 .f32) (x3 : Vec Ideal S3200x1024 .bf16) (x4 : Vec Ideal S1x3200 .f32)

/-- The gated input of a block of rows. -/
def ub (r : Fin 512) (k : Fin 1024) : EReal := x0 (ix2 r k) * (1 + x2 (ix2 0 k)) + x1 (ix2 0 k)

/-- A column of the projection, of a block of rows. -/
def pb (r : Fin 512) (j : Fin 3200) : EReal := (∑ k : Fin 1024, ub x0 x1 x2 r k * x3 (ix2 j k)) + x4 (ix2 0 j)

theorem pay3_at (r : Fin 512) (k : Fin 1024) : k0_pay3 x0 x2 x1 (ix2 r k) = ub x0 x1 x2 r k := by
  pointwise [k0_pay3]
  rfl

theorem o5 (r : Fin 512) (k : Fin 1024) : out0_5 x0 x1 x2 x3 x4 (ix2 r k) = ub x0 x1 x2 r k := by
  frame_out
  exact pay3_at x0 x1 x2 r k

theorem o6 (r : Fin 512) (j : Fin 1536) : out0_6 x0 x1 x2 x3 x4 (ix2 r j) = pb x0 x1 x2 x3 x4 r ⟨0 + j.val, by omega⟩ := by
  frame_out
  pointwise [k0_pay4]
  simp only [pay3_at]
  unfold pb
  refine congrArg₂ _ (Finset.sum_congr rfl fun k _ => congrArg₂ _ rfl ?_) ?_ <;> blk_ext []

theorem o7 (r : Fin 512) (j : Fin 128) : out0_7 x0 x1 x2 x3 x4 (ix2 r j) = pb x0 x1 x2 x3 x4 r ⟨1536 + j.val, by omega⟩ := by
  frame_out
  pointwise [k0_pay5]
  simp only [pay3_at]
  unfold pb
  refine congrArg₂ _ (Finset.sum_congr rfl fun k _ => congrArg₂ _ rfl ?_) ?_ <;> blk_ext []

theorem o8 (r : Fin 512) (j : Fin 512) : out0_8 x0 x1 x2 x3 x4 (ix2 r j) = pb x0 x1 x2 x3 x4 r ⟨1664 + j.val, by omega⟩ := by
  frame_out
  pointwise [k0_pay1, k0_pay6, k0_pay7]
  simp only [pay3_at]
  unfold pb
  refine congrArg₂ _ (Finset.sum_congr rfl fun k _ => congrArg₂ _ rfl ?_) ?_ <;> blk_ext []

theorem o9 (r : Fin 512) (j : Fin 1024) : out0_9 x0 x1 x2 x3 x4 (ix2 r j) = pb x0 x1 x2 x3 x4 r ⟨2176 + j.val, by omega⟩ := by
  frame_out
  pointwise [k0_pay2]
  simp only [pay3_at]
  unfold pb
  refine congrArg₂ _ (Finset.sum_congr rfl fun k _ => congrArg₂ _ rfl ?_) ?_ <;> blk_ext []

end

variable (m : (ℓ : Loc nD τ sig) → Buf (Elt Ideal) ℓ) (ρ : Dev nD → PrngReg)

abbrev A0 (c : Dev nD) : (⟨2, ![4096, 1024]⟩ : Shape).Idx → EReal := m ((c : Thread nD τ).loc main_arg0)
abbrev A1 (c : Dev nD) : (⟨2, ![1, 1024]⟩ : Shape).Idx → EReal := m ((c : Thread nD τ).loc main_arg1)
abbrev A2 (c : Dev nD) : (⟨2, ![1, 1024]⟩ : Shape).Idx → EReal := m ((c : Thread nD τ).loc main_arg2)
abbrev A3 (c : Dev nD) : (⟨2, ![3200, 1024]⟩ : Shape).Idx → EReal := m ((c : Thread nD τ).loc main_arg3)
abbrev A4 (c : Dev nD) : (⟨2, ![1, 3200]⟩ : Shape).Idx → EReal := m ((c : Thread nD τ).loc main_arg4)

theorem ix_0 : ∀ t : Fin cfg0.N, win0_0.index t = ![t.val, 0] := by decide +kernel
theorem ix_1 : ∀ t : Fin cfg0.N, win0_1.index t = ![0, 0] := by decide +kernel
theorem ix_2 : ∀ t : Fin cfg0.N, win0_2.index t = ![0, 0] := by decide +kernel
theorem ix_3 : ∀ t : Fin cfg0.N, win0_3.index t = ![0, 0] := by decide +kernel
theorem ix_4 : ∀ t : Fin cfg0.N, win0_4.index t = ![0, 0] := by decide +kernel
theorem ix_5 : ∀ t : Fin cfg0.N, win0_5.index t = ![t.val, 0] := by decide +kernel
theorem ix_6 : ∀ t : Fin cfg0.N, win0_6.index t = ![t.val, 0] := by decide +kernel
theorem ix_7 : ∀ t : Fin cfg0.N, win0_7.index t = ![t.val, 0] := by decide +kernel
theorem ix_8 : ∀ t : Fin cfg0.N, win0_8.index t = ![t.val, 0] := by decide +kernel
theorem ix_9 : ∀ t : Fin cfg0.N, win0_9.index t = ![t.val, 0] := by decide +kernel

theorem ib_0 (c : Dev nD) (t : Fin cfg0.N) (p : Fin 512) (j : Fin 1024) : (iblk m c 0 t : (⟨2, ![512, 1024]⟩ : Shape).Idx → EReal) (ix2 p j) = A0 m c (ix2 ⟨512 * t.val + p.val, by have : t.val < 8 := t.isLt; omega⟩ j) := by
  blk_ext [iblk, V, ix_0 t]

theorem ib_3 (c : Dev nD) (t : Fin cfg0.N) (p : Fin 3200) (j : Fin 1024) : (iblk m c 3 t : (⟨2, ![3200, 1024]⟩ : Shape).Idx → EReal) (ix2 p j) = A3 m c (ix2 p j) := by
  blk_ext [iblk, V, ix_3 t]

theorem ib_1 (c : Dev nD) (t : Fin cfg0.N) (j : Fin 1024) : (iblk m c 1 t : (⟨2, ![1, 1024]⟩ : Shape).Idx → EReal) (ix2 0 j) = A1 m c (ix2 0 j) := by
  blk_ext [iblk, V, ix_1 t]

theorem ib_2 (c : Dev nD) (t : Fin cfg0.N) (j : Fin 1024) : (iblk m c 2 t : (⟨2, ![1, 1024]⟩ : Shape).Idx → EReal) (ix2 0 j) = A2 m c (ix2 0 j) := by
  blk_ext [iblk, V, ix_2 t]

theorem ib_4 (c : Dev nD) (t : Fin cfg0.N) (j : Fin 3200) : (iblk m c 4 t : (⟨2, ![1, 3200]⟩ : Shape).Idx → EReal) (ix2 0 j) = A4 m c (ix2 0 j) := by
  blk_ext [iblk, V, ix_4 t]

theorem ub_eq (c : Dev nD) (t : Fin cfg0.N) (p : Fin 512) (k : Fin 1024) : ub (iblk m c 0 t) (iblk m c 1 t) (iblk m c 2 t) p k = U (A0 m c) (A1 m c) (A2 m c) ⟨512 * t.val + p.val, by have : t.val < 8 := t.isLt; omega⟩ k := by
  unfold ub U
  rw [ib_0, ib_1 m c t, ib_2 m c t]

theorem pb_eq (c : Dev nD) (t : Fin cfg0.N) (p : Fin 512) (j : Fin 3200) : pb (iblk m c 0 t) (iblk m c 1 t) (iblk m c 2 t) (iblk m c 3 t) (iblk m c 4 t) p j = Pj (A0 m c) (A1 m c) (A2 m c) (A3 m c) (A4 m c) ⟨512 * t.val + p.val, by have : t.val < 8 := t.isLt; omega⟩ j := by
  unfold pb Pj
  rw [ib_4 m c t]
  exact congrArg₂ _ (Finset.sum_congr rfl fun k _ => congrArg₂ _ (ub_eq m c t p k) (ib_3 m c t j k)) rfl

theorem fin_5 (c : Dev nD) : (dats m 0 c).arrAt 5 cfg0.N = ru (A0 m c) (A1 m c) (A2 m c) := by
  refine (dats m 0 c).arrAt_eq_of_covers 5 _ (by decide +kernel) fun t hf y => ?_
  obtain ⟨p, l, rfl⟩ : ∃ (p : Fin 512) (l : Fin 1024), y = ix2 p l := ⟨y 0, y 1, by ext a; fin_cases a <;> rfl⟩
  have ht : t.val < 8 := t.isLt
  refine Eq.trans (b := out0_5 (iblk m c 0 t) (iblk m c 1 t) (iblk m c 2 t) (iblk m c 3 t) (iblk m c 4 t) (ix2 p l)) ?_ (Eq.trans (b := ru (A0 m c) (A1 m c) (A2 m c) (ix2 ⟨512 * t.val + p.val, by omega⟩ l)) ?_ ?_)
  · blk_simp
    rw [after0_5]
  · rw [o5, ru_at, ub_eq]
  · refine congrArg (ru (A0 m c) (A1 m c) (A2 m c)) ?_
    blk_ext [ix_5 t]

theorem fin_6 (c : Dev nD) : (dats m 0 c).arrAt 6 cfg0.N = r6 (A0 m c) (A1 m c) (A2 m c) (A3 m c) (A4 m c) := by
  refine (dats m 0 c).arrAt_eq_of_covers 6 _ (by decide +kernel) fun t hf y => ?_
  obtain ⟨p, l, rfl⟩ : ∃ (p : Fin 512) (l : Fin 1536), y = ix2 p l := ⟨y 0, y 1, by ext a; fin_cases a <;> rfl⟩
  have ht : t.val < 8 := t.isLt
  refine Eq.trans (b := out0_6 (iblk m c 0 t) (iblk m c 1 t) (iblk m c 2 t) (iblk m c 3 t) (iblk m c 4 t) (ix2 p l)) ?_ (Eq.trans (b := r6 (A0 m c) (A1 m c) (A2 m c) (A3 m c) (A4 m c) (ix2 ⟨512 * t.val + p.val, by omega⟩ l)) ?_ ?_)
  · blk_simp
    rw [after0_6]
  · rw [o6, r6_at, pb_eq]
  · refine congrArg (r6 (A0 m c) (A1 m c) (A2 m c) (A3 m c) (A4 m c)) ?_
    blk_ext [ix_6 t]

theorem fin_7 (c : Dev nD) : (dats m 0 c).arrAt 7 cfg0.N = r7 (A0 m c) (A1 m c) (A2 m c) (A3 m c) (A4 m c) := by
  refine (dats m 0 c).arrAt_eq_of_covers 7 _ (by decide +kernel) fun t hf y => ?_
  obtain ⟨p, l, rfl⟩ : ∃ (p : Fin 512) (l : Fin 128), y = ix2 p l := ⟨y 0, y 1, by ext a; fin_cases a <;> rfl⟩
  have ht : t.val < 8 := t.isLt
  refine Eq.trans (b := out0_7 (iblk m c 0 t) (iblk m c 1 t) (iblk m c 2 t) (iblk m c 3 t) (iblk m c 4 t) (ix2 p l)) ?_ (Eq.trans (b := r7 (A0 m c) (A1 m c) (A2 m c) (A3 m c) (A4 m c) (ix2 ⟨512 * t.val + p.val, by omega⟩ l)) ?_ ?_)
  · blk_simp
    rw [after0_7]
  · rw [o7, r7_at, pb_eq]
  · refine congrArg (r7 (A0 m c) (A1 m c) (A2 m c) (A3 m c) (A4 m c)) ?_
    blk_ext [ix_7 t]

theorem fin_8 (c : Dev nD) : (dats m 0 c).arrAt 8 cfg0.N = r8 (A0 m c) (A1 m c) (A2 m c) (A3 m c) (A4 m c) := by
  refine (dats m 0 c).arrAt_eq_of_covers 8 _ (by decide +kernel) fun t hf y => ?_
  obtain ⟨p, l, rfl⟩ : ∃ (p : Fin 512) (l : Fin 512), y = ix2 p l := ⟨y 0, y 1, by ext a; fin_cases a <;> rfl⟩
  have ht : t.val < 8 := t.isLt
  refine Eq.trans (b := out0_8 (iblk m c 0 t) (iblk m c 1 t) (iblk m c 2 t) (iblk m c 3 t) (iblk m c 4 t) (ix2 p l)) ?_ (Eq.trans (b := r8 (A0 m c) (A1 m c) (A2 m c) (A3 m c) (A4 m c) (ix2 ⟨512 * t.val + p.val, by omega⟩ l)) ?_ ?_)
  · blk_simp
    rw [after0_8]
  · rw [o8, r8_at, pb_eq]
  · refine congrArg (r8 (A0 m c) (A1 m c) (A2 m c) (A3 m c) (A4 m c)) ?_
    blk_ext [ix_8 t]

theorem fin_9 (c : Dev nD) : (dats m 0 c).arrAt 9 cfg0.N = r9 (A0 m c) (A1 m c) (A2 m c) (A3 m c) (A4 m c) := by
  refine (dats m 0 c).arrAt_eq_of_covers 9 _ (by decide +kernel) fun t hf y => ?_
  obtain ⟨p, l, rfl⟩ : ∃ (p : Fin 512) (l : Fin 1024), y = ix2 p l := ⟨y 0, y 1, by ext a; fin_cases a <;> rfl⟩
  have ht : t.val < 8 := t.isLt
  refine Eq.trans (b := out0_9 (iblk m c 0 t) (iblk m c 1 t) (iblk m c 2 t) (iblk m c 3 t) (iblk m c 4 t) (ix2 p l)) ?_ (Eq.trans (b := r9 (A0 m c) (A1 m c) (A2 m c) (A3 m c) (A4 m c) (ix2 ⟨512 * t.val + p.val, by omega⟩ l)) ?_ ?_)
  · blk_simp
    rw [after0_9]
  · rw [o9, r9_at, pb_eq]
  · refine congrArg (r9 (A0 m c) (A1 m c) (A2 m c) (A3 m c) (A4 m c)) ?_
    blk_ext [ix_9 t]

theorem results : θ_run defs (onTc (τ := τ) (main (F := Ideal))) ⟨m, fun _ => 0, ρ⟩ fun r => ∀ c : Dev nD,
      r.2.mem ((c.tc : Thread nD τ).loc main_v0_0) = ru (A0 m c) (A1 m c) (A2 m c)
      ∧ r.2.mem ((c.tc : Thread nD τ).loc main_v0_1) = r6 (A0 m c) (A1 m c) (A2 m c) (A3 m c) (A4 m c)
      ∧ r.2.mem ((c.tc : Thread nD τ).loc main_v0_2) = r7 (A0 m c) (A1 m c) (A2 m c) (A3 m c) (A4 m c)
      ∧ r.2.mem ((c.tc : Thread nD τ).loc main_v0_3) = r8 (A0 m c) (A1 m c) (A2 m c) (A3 m c) (A4 m c)
      ∧ r.2.mem ((c.tc : Thread nD τ).loc main_v0_4) = r9 (A0 m c) (A1 m c) (A2 m c) (A3 m c) (A4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 5).trans (fin_5 m c), ((h c).1 6).trans (fin_6 m c), ((h c).1 7).trans (fin_7 m c), ((h c).1 8).trans (fin_8 m c), ((h c).1 9).trans (fin_9 m c),
    ((h c).1 0).trans ((dats m 0 c).arrAt_in 0 rfl _),
    ((h c).1 1).trans ((dats m 0 c).arrAt_in 1 rfl _),
    ((h c).1 2).trans ((dats m 0 c).arrAt_in 2 rfl _),
    ((h c).1 3).trans ((dats m 0 c).arrAt_in 3 rfl _),
    ((h c).1 4).trans ((dats m 0 c).arrAt_in 4 rfl _)⟩)
    (run_main m ρ)

end Cert.Kernel4Ideal.Val
-- ==== Proof.lean ====
module

public import proofs.«01_k».proof.Defs
public import proofs.«01_k».proof.Proof.K.FrameRun
public import proofs.«01_k».proof.Proof.KI.FrameRun
public import proofs.«01_k».proof.Proof.V.AlgQ
public import proofs.«01_k».proof.Proof.V.Fin
public import proofs.«01_k».proof.Proof.Gen.Kernel2.Frame
public import proofs.«01_k».proof.Proof.Gen.Kernel2Ideal.Frame
public import proofs.«01_k».proof.Proof.V2.Results
public import proofs.«01_k».proof.Proof.Gen.Kernel3.Frame
public import proofs.«01_k».proof.Proof.Gen.Kernel3Ideal.Frame
public import proofs.«01_k».proof.Proof.V3.Results
public import proofs.«01_k».proof.Proof.Gen.Kernel4.Frame
public import proofs.«01_k».proof.Proof.Gen.Kernel4Ideal.Frame
public import proofs.«01_k».proof.Proof.V4.Results

@[expose] public section

noncomputable section

namespace Cert.Proof

open Idealize.ShloMosaic Idealize.ShloMosaic.TcCoe Idealize.SL.Sem

section
variable (m : (ℓ : Loc Cert.KernelIdeal.nD Cert.KernelIdeal.τ Cert.KernelIdeal.sig) → Buf (Elt Ideal) ℓ) (c : Dev Cert.KernelIdeal.nD)

theorem dk (h3 : ∀ i, Cert.KernelIdeal.Val.A3 m c i ≠ ⊤ ∧ Cert.KernelIdeal.Val.A3 m c i ≠ ⊥) (h4 : ∀ i, Cert.KernelIdeal.Val.A4 m c i ≠ ⊤ ∧ Cert.KernelIdeal.Val.A4 m c i ≠ ⊥) :
    Cert.KernelIdeal.Val.Gdk m c = Cert.ReferenceIdeal.Val.rdk (Cert.KernelIdeal.Val.A0 m c) (Cert.KernelIdeal.Val.A1 m c) (Cert.KernelIdeal.Val.A2 m c) (Cert.KernelIdeal.Val.A3 m c) (Cert.KernelIdeal.Val.A4 m c) := by
  funext i
  obtain ⟨a, b, rfl⟩ : ∃ (a : Fin 4096) (b : Fin 512), i = ix2 a b := ⟨i 0, i 1, by funext d; match d with | 0 => rfl | 1 => rfl⟩
  exact Cert.Tie.dk_eq _ _ _ _ _ h3 h4 a b

theorem dv (h3 : ∀ i, Cert.KernelIdeal.Val.A3 m c i ≠ ⊤ ∧ Cert.KernelIdeal.Val.A3 m c i ≠ ⊥) (h4 : ∀ i, Cert.KernelIdeal.Val.A4 m c i ≠ ⊤ ∧ Cert.KernelIdeal.Val.A4 m c i ≠ ⊥) :
    Cert.KernelIdeal.Val.Gdv m c = Cert.ReferenceIdeal.Val.rdv (Cert.KernelIdeal.Val.A0 m c) (Cert.KernelIdeal.Val.A1 m c) (Cert.KernelIdeal.Val.A3 m c) (Cert.KernelIdeal.Val.A4 m c) := by
  funext i
  obtain ⟨a, b, rfl⟩ : ∃ (a : Fin 4096) (b : Fin 512), i = ix2 a b := ⟨i 0, i 1, by funext d; match d with | 0 => rfl | 1 => rfl⟩
  exact Cert.Tie.dv_eq _ _ _ _ _ h3 h4 a b

theorem dfk (h3 : ∀ i, Cert.KernelIdeal.Val.A3 m c i ≠ ⊤ ∧ Cert.KernelIdeal.Val.A3 m c i ≠ ⊥) (h4 : ∀ i, Cert.KernelIdeal.Val.A4 m c i ≠ ⊤ ∧ Cert.KernelIdeal.Val.A4 m c i ≠ ⊥) :
    Cert.KernelIdeal.Val.Gfk m c = Cert.ReferenceIdeal.Val.rdf (Cert.KernelIdeal.Val.A0 m c) (Cert.KernelIdeal.Val.A1 m c) (Cert.KernelIdeal.Val.A2 m c) (Cert.KernelIdeal.Val.A3 m c) (Cert.KernelIdeal.Val.A4 m c) := by
  funext i
  obtain ⟨p, a, b, rfl⟩ : ∃ (p : Fin 4) (a : Fin 4096) (b : Fin 128), i = ix3 p a b := ⟨i 0, i 1, i 2, by funext d; match d with | 0 => rfl | 1 => rfl | 2 => rfl⟩
  exact Cert.Tie.fk_eq _ _ _ _ _ h3 h4 p a b

theorem dq (h3 : ∀ i, Cert.KernelIdeal.Val.A3 m c i ≠ ⊤ ∧ Cert.KernelIdeal.Val.A3 m c i ≠ ⊥) (h4 : ∀ i, Cert.KernelIdeal.Val.A4 m c i ≠ ⊤ ∧ Cert.KernelIdeal.Val.A4 m c i ≠ ⊥) :
    Cert.KernelIdeal.Val.Gdq m c = Cert.ReferenceIdeal.Val.rdq (Cert.KernelIdeal.Val.A0 m c) (Cert.KernelIdeal.Val.A1 m c) (Cert.KernelIdeal.Val.A2 m c) (Cert.KernelIdeal.Val.A3 m c) (Cert.KernelIdeal.Val.A4 m c) := by
  funext i
  obtain ⟨a, b, rfl⟩ : ∃ (a : Fin 4096) (b : Fin 512), i = ix2 a b := ⟨i 0, i 1, by funext d; match d with | 0 => rfl | 1 => rfl⟩
  exact Cert.Tie.dq_eq m c h3 h4 a b

theorem cs (h3 : ∀ i, Cert.KernelIdeal.Val.A3 m c i ≠ ⊤ ∧ Cert.KernelIdeal.Val.A3 m c i ≠ ⊥) (h4 : ∀ i, Cert.KernelIdeal.Val.A4 m c i ≠ ⊤ ∧ Cert.KernelIdeal.Val.A4 m c i ≠ ⊥) :
    Cert.KernelIdeal.Val.Gcs m c = Cert.ReferenceIdeal.Val.rcs (Cert.KernelIdeal.Val.A0 m c) (Cert.KernelIdeal.Val.A1 m c) (Cert.KernelIdeal.Val.A2 m c) (Cert.KernelIdeal.Val.A3 m c) (Cert.KernelIdeal.Val.A4 m c) := by
  funext i
  obtain ⟨p, b, rfl⟩ : ∃ (p : Fin 4) (b : Fin 384), i = ix3 p 0 b := ⟨i 0, i 2, by
    funext d
    match d with
    | 0 => rfl
    | 1 => exact Fin.ext (Nat.lt_one_iff.1 (i 1).isLt)
    | 2 => rfl⟩
  exact Cert.Tie.cs_eq m c h3 h4 p b

theorem dfq (h3 : ∀ i, Cert.KernelIdeal.Val.A3 m c i ≠ ⊤ ∧ Cert.KernelIdeal.Val.A3 m c i ≠ ⊥) (h4 : ∀ i, Cert.KernelIdeal.Val.A4 m c i ≠ ⊤ ∧ Cert.KernelIdeal.Val.A4 m c i ≠ ⊥) :
    Cert.KernelIdeal.Val.Gfq m c = Cert.ReferenceIdeal.Val.rfq (Cert.KernelIdeal.Val.A0 m c) (Cert.KernelIdeal.Val.A1 m c) (Cert.KernelIdeal.Val.A2 m c) (Cert.KernelIdeal.Val.A3 m c) (Cert.KernelIdeal.Val.A4 m c) := by
  funext i
  obtain ⟨p, n, g, x, rfl⟩ : ∃ (p : Fin 4) (n g : Fin 8) (x : Fin 512), i = ix4 p n g x := ⟨i 0, i 1, i 2, i 3, by funext d; match d with | 0 => rfl | 1 => rfl | 2 => rfl | 3 => rfl⟩
  exact Cert.Tie.fq_eq m c h3 h4 p n g x
end

section
attribute [local instance] Cert.KernelIdeal.Gen.facts Cert.ReferenceIdeal.Gen.facts Cert.Pre_finite.facts

theorem ref : quiescent_ReferenceIdeal := by
  intro m g _
  exact (θ_run _ _ _).mono (fun r h => ⟨fun c => (h c).2.2.2.2.2.2, sem_eq_zero_of_no_sems (by decide) r.2⟩) (Cert.ReferenceIdeal.Val.run m g)

theorem ref_pre : quiescent_ReferenceIdeal_pre_finite := fun m g _ => ref m g trivial

theorem value : algebraic_KernelIdeal_ReferenceIdeal_pre_finite := by
  intro m g m' g' hp ha
  refine ⟨Cert.KernelIdeal.Val.Gdq m, Cert.KernelIdeal.Val.Gdk m, Cert.KernelIdeal.Val.Gdv m, Cert.KernelIdeal.Val.Gcs m, Cert.KernelIdeal.Val.Gfk m, Cert.KernelIdeal.Val.Gfq m,
    Cert.KernelIdeal.Val.results m g, (θ_run _ _ _).mono (fun r h c => ?_) (Cert.ReferenceIdeal.Val.run m' g')⟩
  obtain ⟨h0, h1, h2, h3, h4, h5, hargs⟩ := h c
  obtain ⟨a0, a1, a2, a3, a4⟩ := ha c
  obtain ⟨f3, f4⟩ := Cert.Pre_finite.finite_of _ _ _ _ _ (hp c)
  refine ⟨h0.trans ?_, h1.trans ?_, h2.trans ?_, h3.trans ?_, h4.trans ?_, h5.trans ?_, hargs⟩
  · rw [a0, a1, a2, a3, a4]; exact (dq m c f3 f4).symm
  · rw [a0, a1, a2, a3, a4]; exact (dk m c f3 f4).symm
  · rw [a0, a1, a3, a4]; exact (dv m c f3 f4).symm
  · rw [a0, a1, a2, a3, a4]; exact (cs m c f3 f4).symm
  · rw [a0, a1, a2, a3, a4]; exact (dfk m c f3 f4).symm
  · rw [a0, a1, a2, a3, a4]; exact (dfq m c f3 f4).symm
end

section
attribute [local instance] Cert.Kernel2Ideal.Gen.facts Cert.Reference2Ideal.Gen.facts

theorem ref2 : quiescent_Reference2Ideal := by
  intro m g _
  exact (θ_run _ _ _).mono (fun r h => ⟨fun c => (h c).2.2, sem_eq_zero_of_no_sems (by decide) r.2⟩) (Cert.Reference2Ideal.Value.run m g)

theorem value2 : algebraic_Kernel2Ideal_Reference2Ideal := by
  intro m g m' g' _ ha
  refine ⟨_, _, Cert.Kernel2Ideal.Val.results m g, (θ_run _ _ _).mono (fun r h c => ?_) (Cert.Reference2Ideal.Value.run m' g')⟩
  obtain ⟨h0, h1, hargs⟩ := h c
  obtain ⟨a0, a1, a2, a3, a4, a5, a6, a7, a8, a9⟩ := ha c
  refine ⟨h0.trans ?_, h1.trans ?_, hargs⟩
  · rw [a0, a1, a2, a3, a4, a5, a6, a7, a9]; rfl
  · rw [a0, a1, a2, a3, a4, a5, a6, a8]; rfl
end

section
attribute [local instance] Cert.Kernel3Ideal.Gen.facts Cert.Reference3Ideal.Gen.facts

theorem ref3 : quiescent_Reference3Ideal := by
  intro m g _
  exact (θ_run _ _ _).mono (fun r h => ⟨fun c => (h c).2, sem_eq_zero_of_no_sems (by decide) r.2⟩) (Cert.Reference3Ideal.Value.run m g)

theorem value3 : algebraic_Kernel3Ideal_Reference3Ideal := by
  intro m g m' g' _ ha
  refine ⟨_, Cert.Kernel3Ideal.Val.results m g, (θ_run _ _ _).mono (fun r h c => ?_) (Cert.Reference3Ideal.Value.run m' g')⟩
  obtain ⟨h0, hargs⟩ := h c
  obtain ⟨a0, a1, a2, a3, a4, a5, a6⟩ := ha c
  refine ⟨h0.trans ?_, hargs⟩
  · rw [a0, a1, a2, a3, a4, a5, a6]; rfl
end

section
attribute [local instance] Cert.Kernel4Ideal.Gen.facts Cert.Reference4Ideal.Gen.facts

theorem ref4 : quiescent_Reference4Ideal := by
  intro m g _
  exact (θ_run _ _ _).mono (fun r h => ⟨fun c => (h c).2.2.2.2.2, sem_eq_zero_of_no_sems (by decide) r.2⟩) (Cert.Reference4Ideal.Value.run m g)

theorem value4 : algebraic_Kernel4Ideal_Reference4Ideal := by
  intro m g m' g' _ ha
  refine ⟨_, _, _, _, _, Cert.Kernel4Ideal.Val.results m g, (θ_run _ _ _).mono (fun r h c => ?_) (Cert.Reference4Ideal.Value.run m' g')⟩
  obtain ⟨h0, h1, h2, h3, h4, hargs⟩ := h c
  obtain ⟨a0, a1, a2, a3, a4⟩ := ha c
  refine ⟨h0.trans ?_, h1.trans ?_, h2.trans ?_, h3.trans ?_, h4.trans ?_, hargs⟩
  · rw [a0, a1, a2]; rfl
  · rw [a0, a1, a2, a3, a4]; rfl
  · rw [a0, a1, a2, a3, a4]; rfl
  · rw [a0, a1, a2, a3, a4]; rfl
  · rw [a0, a1, a2, a3, a4]; rfl
end

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Pre_finite.facts,
  fun m ρ _ => Cert.Kernel.Hand.frame m ρ,
  fun m ρ _ => Cert.KernelIdeal.Hand.frame m ρ,
  fun m ρ _ => Cert.KernelIdeal.Hand.frame m ρ,
  ref, ref_pre,
  fun m ρ _ => Cert.Kernel2.Gen.frame m ρ,
  fun m ρ _ => Cert.Kernel2Ideal.Gen.frame m ρ,
  ref2,
  fun m ρ _ => Cert.Kernel3.Gen.frame m ρ,
  fun m ρ _ => Cert.Kernel3Ideal.Gen.frame m ρ,
  ref3,
  fun m ρ _ => Cert.Kernel4.Gen.frame m ρ,
  fun m ρ _ => Cert.Kernel4Ideal.Gen.frame m ρ,
  ref4,
  IdealRules.named_const.statement Cert.KernelIdeal.κ "mask" .f32 0xF149F2CA#32 ⊥ rfl,
  value, trivial, value2, trivial, value3, trivial, value4⟩

end Cert.Proof

end
